-- ==== Defs.lean ====
def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseIdeal_finite_dense [hPre_finite_dense : Cert.Pre_finite_dense.Facts] (m : (ℓ : Loc Cert.DenseIdeal.nD Cert.DenseIdeal.τ Cert.DenseIdeal.sig) → Buf (Elt Ideal) ℓ) : Prop :=
  ∀ c : Dev Cert.DenseIdeal.nD,
    (Cert.Pre_finite_dense.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2)) (m ((c.tc : Thread Cert.DenseIdeal.nD Cert.DenseIdeal.τ).loc Cert.DenseIdeal.main_arg3)) (m ((c.tc : Thread Cert.DenseIdeal.nD Cert.DenseIdeal.τ).loc Cert.DenseIdeal.main_arg4))) = (fun _ => 1#1)

def Pre_DenseRefIdeal (m : (ℓ : Loc Cert.DenseRefIdeal.nD Cert.DenseRefIdeal.τ Cert.DenseRefIdeal.sig) → Buf (Elt Ideal) ℓ) : Prop :=
  True

def Pre_DenseRefIdeal_finite_dense [hPre_finite_dense : Cert.Pre_finite_dense.Facts] (m : (ℓ : Loc Cert.DenseRefIdeal.nD Cert.DenseRefIdeal.τ Cert.DenseRefIdeal.sig) → Buf (Elt Ideal) ℓ) : Prop :=
  ∀ c : Dev Cert.DenseRefIdeal.nD,
    (Cert.Pre_finite_dense.fn (F := Ideal) (m ((c.tc : Thread Cert.DenseRefIdeal.nD Cert.DenseRefIdeal.τ).loc Cert.DenseRefIdeal.main_arg0)) (m ((c.tc : Thread Cert.DenseRefIdeal.nD Cert.DenseRefIdeal.τ).loc Cert.DenseRefIdeal.main_arg1)) (m ((c.tc : Thread Cert.DenseRefIdeal.nD Cert.DenseRefIdeal.τ).loc Cert.DenseRefIdeal.main_arg2)) (m ((c.tc : Thread Cert.DenseRefIdeal.nD Cert.DenseRefIdeal.τ).loc Cert.DenseRefIdeal.main_arg3)) (m ((c.tc : Thread Cert.DenseRefIdeal.nD Cert.DenseRefIdeal.τ).loc Cert.DenseRefIdeal.main_arg4))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseIdeal_pre_finite_dense [hDenseIdeal : Cert.DenseIdeal.Facts] [hPre_finite_dense : Cert.Pre_finite_dense.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal_finite_dense m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4))
      ∧ r.2.sem = fun _ => 0)

def quiescent_DenseRefIdeal_pre_finite_dense [hDenseRefIdeal : Cert.DenseRefIdeal.Facts] [hPre_finite_dense : Cert.Pre_finite_dense.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal_finite_dense m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7)
      ∧ r.2.mem ((c.tc : Thread Cert.Pool.nD Cert.Pool.τ).loc Cert.Pool.main_arg8) = m ((c.tc : Thread Cert.Pool.nD Cert.Pool.τ).loc Cert.Pool.main_arg8)
      ∧ r.2.mem ((c.tc : Thread Cert.Pool.nD Cert.Pool.τ).loc Cert.Pool.main_arg9) = m ((c.tc : Thread Cert.Pool.nD Cert.Pool.τ).loc Cert.Pool.main_arg9)
      ∧ r.2.mem ((c.tc : Thread Cert.Pool.nD Cert.Pool.τ).loc Cert.Pool.main_arg10) = m ((c.tc : Thread Cert.Pool.nD Cert.Pool.τ).loc Cert.Pool.main_arg10)
      ∧ r.2.mem ((c.tc : Thread Cert.Pool.nD Cert.Pool.τ).loc Cert.Pool.main_arg11) = m ((c.tc : Thread Cert.Pool.nD Cert.Pool.τ).loc Cert.Pool.main_arg11)
      ∧ r.2.mem ((c.tc : Thread Cert.Pool.nD Cert.Pool.τ).loc Cert.Pool.main_arg12) = m ((c.tc : Thread Cert.Pool.nD Cert.Pool.τ).loc Cert.Pool.main_arg12))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
      ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
      ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10)
      ∧ r.2.mem ((c.tc : Thread Cert.PoolIdeal.nD Cert.PoolIdeal.τ).loc Cert.PoolIdeal.main_arg11) = m ((c.tc : Thread Cert.PoolIdeal.nD Cert.PoolIdeal.τ).loc Cert.PoolIdeal.main_arg11)
      ∧ r.2.mem ((c.tc : Thread Cert.PoolIdeal.nD Cert.PoolIdeal.τ).loc Cert.PoolIdeal.main_arg12) = m ((c.tc : Thread Cert.PoolIdeal.nD Cert.PoolIdeal.τ).loc Cert.PoolIdeal.main_arg12))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6)
      ∧ r.2.mem ((c.tc : Thread Cert.PoolRefIdeal.nD Cert.PoolRefIdeal.τ).loc Cert.PoolRefIdeal.main_arg7) = m ((c.tc : Thread Cert.PoolRefIdeal.nD Cert.PoolRefIdeal.τ).loc Cert.PoolRefIdeal.main_arg7)
      ∧ r.2.mem ((c.tc : Thread Cert.PoolRefIdeal.nD Cert.PoolRefIdeal.τ).loc Cert.PoolRefIdeal.main_arg8) = m ((c.tc : Thread Cert.PoolRefIdeal.nD Cert.PoolRefIdeal.τ).loc Cert.PoolRefIdeal.main_arg8)
      ∧ r.2.mem ((c.tc : Thread Cert.PoolRefIdeal.nD Cert.PoolRefIdeal.τ).loc Cert.PoolRefIdeal.main_arg9) = m ((c.tc : Thread Cert.PoolRefIdeal.nD Cert.PoolRefIdeal.τ).loc Cert.PoolRefIdeal.main_arg9)
      ∧ r.2.mem ((c.tc : Thread Cert.PoolRefIdeal.nD Cert.PoolRefIdeal.τ).loc Cert.PoolRefIdeal.main_arg10) = m ((c.tc : Thread Cert.PoolRefIdeal.nD Cert.PoolRefIdeal.τ).loc Cert.PoolRefIdeal.main_arg10)
      ∧ r.2.mem ((c.tc : Thread Cert.PoolRefIdeal.nD Cert.PoolRefIdeal.τ).loc Cert.PoolRefIdeal.main_arg11) = m ((c.tc : Thread Cert.PoolRefIdeal.nD Cert.PoolRefIdeal.τ).loc Cert.PoolRefIdeal.main_arg11)
      ∧ r.2.mem ((c.tc : Thread Cert.PoolRefIdeal.nD Cert.PoolRefIdeal.τ).loc Cert.PoolRefIdeal.main_arg12) = m ((c.tc : Thread Cert.PoolRefIdeal.nD Cert.PoolRefIdeal.τ).loc Cert.PoolRefIdeal.main_arg12))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4)
      ∧ r.2.mem ((c.tc : Thread Cert.ProjectRefIdeal.nD Cert.ProjectRefIdeal.τ).loc Cert.ProjectRefIdeal.main_arg5) = m ((c.tc : Thread Cert.ProjectRefIdeal.nD Cert.ProjectRefIdeal.τ).loc Cert.ProjectRefIdeal.main_arg5)
      ∧ r.2.mem ((c.tc : Thread Cert.ProjectRefIdeal.nD Cert.ProjectRefIdeal.τ).loc Cert.ProjectRefIdeal.main_arg6) = m ((c.tc : Thread Cert.ProjectRefIdeal.nD Cert.ProjectRefIdeal.τ).loc Cert.ProjectRefIdeal.main_arg6))
      ∧ r.2.sem = fun _ => 0)

def preserves_Dense_DenseIdeal : Prop :=
  True

def algebraic_DenseIdeal_DenseRefIdeal_pre_finite_dense [hDenseIdeal : Cert.DenseIdeal.Facts] [hDenseRefIdeal : Cert.DenseRefIdeal.Facts] [hPre_finite_dense : Cert.Pre_finite_dense.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal_finite_dense m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v40) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v21)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v21) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v68) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)
      ∧ m' ((c.tc : Thread Cert.PoolRefIdeal.nD Cert.PoolRefIdeal.τ).loc Cert.PoolRefIdeal.main_arg7) = m ((c.tc : Thread Cert.PoolIdeal.nD Cert.PoolIdeal.τ).loc Cert.PoolIdeal.main_arg7)
      ∧ m' ((c.tc : Thread Cert.PoolRefIdeal.nD Cert.PoolRefIdeal.τ).loc Cert.PoolRefIdeal.main_arg8) = m ((c.tc : Thread Cert.PoolIdeal.nD Cert.PoolIdeal.τ).loc Cert.PoolIdeal.main_arg8)
      ∧ m' ((c.tc : Thread Cert.PoolRefIdeal.nD Cert.PoolRefIdeal.τ).loc Cert.PoolRefIdeal.main_arg9) = m ((c.tc : Thread Cert.PoolIdeal.nD Cert.PoolIdeal.τ).loc Cert.PoolIdeal.main_arg9)
      ∧ m' ((c.tc : Thread Cert.PoolRefIdeal.nD Cert.PoolRefIdeal.τ).loc Cert.PoolRefIdeal.main_arg10) = m ((c.tc : Thread Cert.PoolIdeal.nD Cert.PoolIdeal.τ).loc Cert.PoolIdeal.main_arg10)
      ∧ m' ((c.tc : Thread Cert.PoolRefIdeal.nD Cert.PoolRefIdeal.τ).loc Cert.PoolRefIdeal.main_arg11) = m ((c.tc : Thread Cert.PoolIdeal.nD Cert.PoolIdeal.τ).loc Cert.PoolIdeal.main_arg11)
      ∧ m' ((c.tc : Thread Cert.PoolRefIdeal.nD Cert.PoolRefIdeal.τ).loc Cert.PoolRefIdeal.main_arg12) = m ((c.tc : Thread Cert.PoolIdeal.nD Cert.PoolIdeal.τ).loc Cert.PoolIdeal.main_arg12)) →
    ∃ (v0 : (c : Dev Cert.PoolIdeal.nD) → Buf (Elt Ideal) ((c.tc : Thread Cert.PoolIdeal.nD Cert.PoolIdeal.τ).loc Cert.PoolIdeal.main_v25)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v25) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
          ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
          ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
          ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
          ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10)
          ∧ r.2.mem ((c.tc : Thread Cert.PoolIdeal.nD Cert.PoolIdeal.τ).loc Cert.PoolIdeal.main_arg11) = m ((c.tc : Thread Cert.PoolIdeal.nD Cert.PoolIdeal.τ).loc Cert.PoolIdeal.main_arg11)
          ∧ r.2.mem ((c.tc : Thread Cert.PoolIdeal.nD Cert.PoolIdeal.τ).loc Cert.PoolIdeal.main_arg12) = m ((c.tc : Thread Cert.PoolIdeal.nD Cert.PoolIdeal.τ).loc Cert.PoolIdeal.main_arg12))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v115) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6)
          ∧ r.2.mem ((c.tc : Thread Cert.PoolRefIdeal.nD Cert.PoolRefIdeal.τ).loc Cert.PoolRefIdeal.main_arg7) = m' ((c.tc : Thread Cert.PoolRefIdeal.nD Cert.PoolRefIdeal.τ).loc Cert.PoolRefIdeal.main_arg7)
          ∧ r.2.mem ((c.tc : Thread Cert.PoolRefIdeal.nD Cert.PoolRefIdeal.τ).loc Cert.PoolRefIdeal.main_arg8) = m' ((c.tc : Thread Cert.PoolRefIdeal.nD Cert.PoolRefIdeal.τ).loc Cert.PoolRefIdeal.main_arg8)
          ∧ r.2.mem ((c.tc : Thread Cert.PoolRefIdeal.nD Cert.PoolRefIdeal.τ).loc Cert.PoolRefIdeal.main_arg9) = m' ((c.tc : Thread Cert.PoolRefIdeal.nD Cert.PoolRefIdeal.τ).loc Cert.PoolRefIdeal.main_arg9)
          ∧ r.2.mem ((c.tc : Thread Cert.PoolRefIdeal.nD Cert.PoolRefIdeal.τ).loc Cert.PoolRefIdeal.main_arg10) = m' ((c.tc : Thread Cert.PoolRefIdeal.nD Cert.PoolRefIdeal.τ).loc Cert.PoolRefIdeal.main_arg10)
          ∧ r.2.mem ((c.tc : Thread Cert.PoolRefIdeal.nD Cert.PoolRefIdeal.τ).loc Cert.PoolRefIdeal.main_arg11) = m' ((c.tc : Thread Cert.PoolRefIdeal.nD Cert.PoolRefIdeal.τ).loc Cert.PoolRefIdeal.main_arg11)
          ∧ r.2.mem ((c.tc : Thread Cert.PoolRefIdeal.nD Cert.PoolRefIdeal.τ).loc Cert.PoolRefIdeal.main_arg12) = m' ((c.tc : Thread Cert.PoolRefIdeal.nD Cert.PoolRefIdeal.τ).loc Cert.PoolRefIdeal.main_arg12))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)
      ∧ m' ((c.tc : Thread Cert.ProjectRefIdeal.nD Cert.ProjectRefIdeal.τ).loc Cert.ProjectRefIdeal.main_arg4) = m ((c.tc : Thread Cert.ProjectIdeal.nD Cert.ProjectIdeal.τ).loc Cert.ProjectIdeal.main_arg4)
      ∧ m' ((c.tc : Thread Cert.ProjectRefIdeal.nD Cert.ProjectRefIdeal.τ).loc Cert.ProjectRefIdeal.main_arg5) = m ((c.tc : Thread Cert.ProjectIdeal.nD Cert.ProjectIdeal.τ).loc Cert.ProjectIdeal.main_arg5)
      ∧ m' ((c.tc : Thread Cert.ProjectRefIdeal.nD Cert.ProjectRefIdeal.τ).loc Cert.ProjectRefIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v44_0)) (v1 : (c : Dev Cert.ProjectIdeal.nD) → Buf (Elt Ideal) ((c.tc : Thread Cert.ProjectIdeal.nD Cert.ProjectIdeal.τ).loc Cert.ProjectIdeal.main_v44_1)) (v2 : (c : Dev Cert.ProjectIdeal.nD) → Buf (Elt Ideal) ((c.tc : Thread Cert.ProjectIdeal.nD Cert.ProjectIdeal.τ).loc Cert.ProjectIdeal.main_v44_2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v44_0) = v0 c
          ∧ r.2.mem ((c.tc : Thread Cert.ProjectIdeal.nD Cert.ProjectIdeal.τ).loc Cert.ProjectIdeal.main_v44_1) = v1 c
          ∧ r.2.mem ((c.tc : Thread Cert.ProjectIdeal.nD Cert.ProjectIdeal.τ).loc Cert.ProjectIdeal.main_v44_2) = v2 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v158) = v0 c
          ∧ r.2.mem ((c.tc : Thread Cert.ProjectRefIdeal.nD Cert.ProjectRefIdeal.τ).loc Cert.ProjectRefIdeal.main_v159) = v1 c
          ∧ r.2.mem ((c.tc : Thread Cert.ProjectRefIdeal.nD Cert.ProjectRefIdeal.τ).loc Cert.ProjectRefIdeal.main_v160) = v2 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3)
          ∧ r.2.mem ((c.tc : Thread Cert.ProjectRefIdeal.nD Cert.ProjectRefIdeal.τ).loc Cert.ProjectRefIdeal.main_arg4) = m' ((c.tc : Thread Cert.ProjectRefIdeal.nD Cert.ProjectRefIdeal.τ).loc Cert.ProjectRefIdeal.main_arg4)
          ∧ r.2.mem ((c.tc : Thread Cert.ProjectRefIdeal.nD Cert.ProjectRefIdeal.τ).loc Cert.ProjectRefIdeal.main_arg5) = m' ((c.tc : Thread Cert.ProjectRefIdeal.nD Cert.ProjectRefIdeal.τ).loc Cert.ProjectRefIdeal.main_arg5)
          ∧ r.2.mem ((c.tc : Thread Cert.ProjectRefIdeal.nD Cert.ProjectRefIdeal.τ).loc Cert.ProjectRefIdeal.main_arg6) = m' ((c.tc : Thread Cert.ProjectRefIdeal.nD Cert.ProjectRefIdeal.τ).loc Cert.ProjectRefIdeal.main_arg6))

def Claim : Prop :=
  ∃ (hDense : Cert.Dense.Facts) (hDenseIdeal : Cert.DenseIdeal.Facts) (hDenseRefIdeal : Cert.DenseRefIdeal.Facts) (hPost : Cert.Post.Facts) (hPostIdeal : Cert.PostIdeal.Facts) (hPostRefIdeal : Cert.PostRefIdeal.Facts) (hPool : Cert.Pool.Facts) (hPoolIdeal : Cert.PoolIdeal.Facts) (hPoolRefIdeal : Cert.PoolRefIdeal.Facts) (hProject : Cert.Project.Facts) (hProjectIdeal : Cert.ProjectIdeal.Facts) (hProjectRefIdeal : Cert.ProjectRefIdeal.Facts) (hPre_finite_dense : Cert.Pre_finite_dense.Facts),
    quiescent_Dense (hDense := hDense)
    ∧ quiescent_DenseIdeal (hDenseIdeal := hDenseIdeal)
    ∧ quiescent_DenseIdeal_pre_finite_dense (hDenseIdeal := hDenseIdeal) (hPre_finite_dense := hPre_finite_dense)
    ∧ quiescent_DenseRefIdeal (hDenseRefIdeal := hDenseRefIdeal)
    ∧ quiescent_DenseRefIdeal_pre_finite_dense (hDenseRefIdeal := hDenseRefIdeal) (hPre_finite_dense := hPre_finite_dense)
    ∧ quiescent_Post (hPost := hPost)
    ∧ quiescent_PostIdeal (hPostIdeal := hPostIdeal)
    ∧ quiescent_PostRefIdeal (hPostRefIdeal := hPostRefIdeal)
    ∧ quiescent_Pool (hPool := hPool)
    ∧ quiescent_PoolIdeal (hPoolIdeal := hPoolIdeal)
    ∧ quiescent_PoolRefIdeal (hPoolRefIdeal := hPoolRefIdeal)
    ∧ quiescent_Project (hProject := hProject)
    ∧ quiescent_ProjectIdeal (hProjectIdeal := hProjectIdeal)
    ∧ quiescent_ProjectRefIdeal (hProjectRefIdeal := hProjectRefIdeal)
    ∧ preserves_Dense_DenseIdeal
    ∧ algebraic_DenseIdeal_DenseRefIdeal_pre_finite_dense (hDenseIdeal := hDenseIdeal) (hDenseRefIdeal := hDenseRefIdeal) (hPre_finite_dense := hPre_finite_dense)
    ∧ preserves_Post_PostIdeal
    ∧ algebraic_PostIdeal_PostRefIdeal (hPostIdeal := hPostIdeal) (hPostRefIdeal := hPostRefIdeal)
    ∧ preserves_Pool_PoolIdeal
    ∧ algebraic_PoolIdeal_PoolRefIdeal (hPoolIdeal := hPoolIdeal) (hPoolRefIdeal := hPoolRefIdeal)
    ∧ preserves_Project_ProjectIdeal
    ∧ algebraic_ProjectIdeal_ProjectRefIdeal (hProjectIdeal := hProjectIdeal) (hProjectRefIdeal := hProjectRefIdeal)
-- ==== Pre_finite_dense.lean ====
abbrev S32x2048x512 : Shape := ⟨3, ![32, 2048, 512]⟩
abbrev S32x2048x256 : Shape := ⟨3, ![32, 2048, 256]⟩
abbrev S32x2048x128 : Shape := ⟨3, ![32, 2048, 128]⟩
abbrev S32x256x256 : Shape := ⟨3, ![32, 256, 256]⟩
abbrev S32x256x128 : Shape := ⟨3, ![32, 256, 128]⟩
abbrev S_ : Shape := ⟨0, ![]⟩

class Facts : Prop where
  bitsLt_bf16_f32 : FTy.bits .bf16 < FTy.bits .f32
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x2048x256 : S_.BroadcastsInDim S32x2048x256 (![] : Fin 0 → Fin S32x2048x256.rank)
  reducesTo_S32x2048x256_S_d0_1_2 : S32x2048x256.ReducesTo [0, 1, 2] S_
  bcast_S_S32x256x256 : S_.BroadcastsInDim S32x256x256 (![] : Fin 0 → Fin S32x256x256.rank)
  reducesTo_S32x256x256_S_d0_1_2 : S32x256x256.ReducesTo [0, 1, 2] S_

variable [Facts]

def fn_part1 {F : FTy → Type} [FloatOps F] (main_v2 : FVec F S32x256x256 .f32) (main_v15 : IVec S_ 1) (main_v16 : FVec F S32x256x256 .f32) : IVec S_ 1 :=
  let main_v17 : IVec S32x256x256 1 := cmpf .olt main_v2 main_v16
  let main_cst_5 : FVec F S_ .f32 := constant S_ .f32 0xFF800000#32
  let main_v18 : FVec F S32x256x256 .f32 := broadcastInDim S32x256x256 ![] bcast_S_S32x256x256 main_cst_5
  let main_v19 : IVec S32x256x256 1 := cmpf .ogt main_v2 main_v18
  let main_v20 : IVec S32x256x256 1 := andi main_v17 main_v19
  let main_c_6 : IVec S_ 1 := constantI S_ 1 1#1
  let main_v21 : IVec S_ 1 := (fun x v => Host.reduce IntOp.andi x v reducesTo_S32x256x256_S_d0_1_2 h_S_) main_v20 main_c_6
  let main_v22 : IVec S_ 1 := andi main_v15 main_v21
  main_v22

def fn {F : FTy → Type} [FloatOps F] (main_arg0 : FVec F S32x2048x512 .bf16) (main_arg1 : FVec F S32x2048x256 .bf16) (main_arg2 : FVec F S32x2048x128 .bf16) (main_arg3 : FVec F S32x256x256 .bf16) (main_arg4 : FVec F S32x256x128 .bf16) : IVec S_ 1 :=
  let main_v0 : FVec F S32x2048x512 .f32 := (extf .f32 · bitsLt_bf16_f32) main_arg0
  let main_v1 : FVec F S32x2048x256 .f32 := (extf .f32 · bitsLt_bf16_f32) main_arg1
  let main_v2 : FVec F S32x256x256 .f32 := (extf .f32 · bitsLt_bf16_f32) main_arg3
  let main_cst : FVec F S_ .f32 := constant S_ .f32 0x7F800000#32
  let main_v3 : FVec F S32x2048x512 .f32 := broadcastInDim S32x2048x512 ![] bcast_S_S32x2048x512 main_cst
  let main_v4 : IVec S32x2048x512 1 := cmpf .olt main_v0 main_v3
  let main_cst_0 : FVec F S_ .f32 := constant S_ .f32 0xFF800000#32
  let main_v5 : FVec F S32x2048x512 .f32 := broadcastInDim S32x2048x512 ![] bcast_S_S32x2048x512 main_cst_0
  let main_v6 : IVec S32x2048x512 1 := cmpf .ogt main_v0 main_v5
  let main_v7 : IVec S32x2048x512 1 := andi main_v4 main_v6
  let main_c : IVec S_ 1 := constantI S_ 1 1#1
  let main_v8 : IVec S_ 1 := (fun x v => Host.reduce IntOp.andi x v reducesTo_S32x2048x512_S_d0_1_2 h_S_) main_v7 main_c
  let main_cst_1 : FVec F S_ .f32 := constant S_ .f32 0x7F800000#32
  let main_v9 : FVec F S32x2048x256 .f32 := broadcastInDim S32x2048x256 ![] bcast_S_S32x2048x256 main_cst_1
  let main_v10 : IVec S32x2048x256 1 := cmpf .olt main_v1 main_v9
  let main_cst_2 : FVec F S_ .f32 := constant S_ .f32 0xFF800000#32
  let main_v11 : FVec F S32x2048x256 .f32 := broadcastInDim S32x2048x256 ![] bcast_S_S32x2048x256 main_cst_2
  let main_v12 : IVec S32x2048x256 1 := cmpf .ogt main_v1 main_v11
  let main_v13 : IVec S32x2048x256 1 := andi main_v10 main_v12
  let main_c_3 : IVec S_ 1 := constantI S_ 1 1#1
  let main_v14 : IVec S_ 1 := (fun x v => Host.reduce IntOp.andi x v reducesTo_S32x2048x256_S_d0_1_2 h_S_) main_v13 main_c_3
  let main_v15 : IVec S_ 1 := andi main_v8 main_v14
  let main_cst_4 : FVec F S_ .f32 := constant S_ .f32 0x7F800000#32
  let main_v16 : FVec F S32x256x256 .f32 := broadcastInDim S32x256x256 ![] bcast_S_S32x256x256 main_cst_4
  fn_part1 (F := F) main_v2 main_v15 main_v16
-- ==== Dense.lean ====
abbrev S32x2048x512 : Shape := ⟨3, ![32, 2048, 512]⟩
abbrev S32x2048x256 : Shape := ⟨3, ![32, 2048, 256]⟩
abbrev S32x2048x128 : Shape := ⟨3, ![32, 2048, 128]⟩
abbrev S32x256x256 : Shape := ⟨3, ![32, 256, 256]⟩
abbrev S32x256x128 : Shape := ⟨3, ![32, 256, 128]⟩
abbrev S1x128x512 : Shape := ⟨3, ![1, 128, 512]⟩
abbrev S1x2048x256 : Shape := ⟨3, ![1, 2048, 256]⟩
abbrev S1x2048x128 : Shape := ⟨3, ![1, 2048, 128]⟩
abbrev S1x256x256 : Shape := ⟨3, ![1, 256, 256]⟩
abbrev S1x256x128 : Shape := ⟨3, ![1, 256, 128]⟩
abbrev S1x128 : Shape := ⟨2, ![1, 128]⟩
abbrev S1x128x128 : Shape := ⟨3, ![1, 128, 128]⟩
abbrev S128x128 : Shape := ⟨2, ![128, 128]⟩
abbrev S512x128 : Shape := ⟨2, ![512, 128]⟩
abbrev S2048x128 : Shape := ⟨2, ![2048, 128]⟩
abbrev S256x128 : Shape := ⟨2, ![256, 128]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S32x2048x512, .bf16⟩
  | .hbm, ⟨1, _⟩ => ⟨S32x2048x256, .bf16⟩
  | .hbm, ⟨2, _⟩ => ⟨S32x2048x128, .bf16⟩
  | .hbm, ⟨3, _⟩ => ⟨S32x256x256, .bf16⟩
  | .hbm, ⟨4, _⟩ => ⟨S32x256x128, .bf16⟩
  | .hbm, ⟨5, _⟩ => ⟨S32x2048x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x128, .bf16⟩
  | .local _ .vmem, ⟨9, _⟩ => ⟨S1x256x128, .bf16⟩
  | .local _ .vmem, ⟨10, _⟩ => ⟨S1x128x512, .bf16⟩
  | .local _ .vmem, ⟨11, _⟩ => ⟨S1x128x512, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DenseRefIdeal.lean ====
abbrev S32x2048x512 : Shape := ⟨3, ![32, 2048, 512]⟩
abbrev S32x2048x256 : Shape := ⟨3, ![32, 2048, 256]⟩
abbrev S32x2048x128 : Shape := ⟨3, ![32, 2048, 128]⟩
abbrev S32x256x256 : Shape := ⟨3, ![32, 256, 256]⟩
abbrev S32x256x128 : Shape := ⟨3, ![32, 256, 128]⟩
abbrev S32x2048x4x2x2x32 : Shape := ⟨6, ![32, 2048, 4, 2, 2, 32]⟩
abbrev S32x2048x8x2x2x16 : Shape := ⟨6, ![32, 2048, 8, 2, 2, 16]⟩
abbrev S32x2048x8x64 : Shape := ⟨4, ![32, 2048, 8, 64]⟩
abbrev S32x2304x256 : Shape := ⟨3, ![32, 2304, 256]⟩
abbrev S32x2304x2x2x2x32 : Shape := ⟨6, ![32, 2304, 2, 2, 2, 32]⟩
abbrev S32x2304x4x2x2x16 : Shape := ⟨6, ![32, 2304, 4, 2, 2, 16]⟩
abbrev S32x2304x4x64 : Shape := ⟨4, ![32, 2304, 4, 64]⟩
abbrev S32x2304x2x1x2x64 : Shape := ⟨6, ![32, 2304, 2, 1, 2, 64]⟩
abbrev S32x2304x2x2x2x64 : Shape := ⟨6, ![32, 2304, 2, 2, 2, 64]⟩
abbrev S32x2304x8x64 : Shape := ⟨4, ![32, 2304, 8, 64]⟩
abbrev S32x2304x128 : Shape := ⟨3, ![32, 2304, 128]⟩
abbrev S32x2304x2x1x64 : Shape := ⟨5, ![32, 2304, 2, 1, 64]⟩
abbrev S32x2304x2x4x64 : Shape := ⟨5, ![32, 2304, 2, 4, 64]⟩
abbrev S32x8x2048x2304 : Shape := ⟨4, ![32, 8, 2048, 2304]⟩
abbrev S_ : Shape := ⟨0, ![]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S32x2048x2x4x64 : Shape := ⟨5, ![32, 2048, 2, 4, 64]⟩
abbrev S32x2048x4x2x64 : Shape := ⟨5, ![32, 2048, 4, 2, 64]⟩

abbrev nBuf : Space → Nat
  | .hbm => 49
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x256, .bf16⟩
  | .hbm, ⟨2, _⟩ => ⟨S32x2048x128, .bf16⟩
  | .hbm, ⟨3, _⟩ => ⟨S32x256x256, .bf16⟩
  | .hbm, ⟨4, _⟩ => ⟨S32x256x128, .bf16⟩
  | .hbm, ⟨5, _⟩ => ⟨S32x2048x512, .f32⟩
  | .hbm, ⟨6, _⟩ => ⟨S32x2048x256, .f32⟩
  | .hbm, ⟨7, _⟩ => ⟨S32x2048x128, .f32⟩
  | .hbm, ⟨8, _⟩ => ⟨S32x256x256, .f32⟩
  | .hbm, ⟨9, _⟩ => ⟨S32x256x128, .f32⟩
  | .hbm, ⟨10, _⟩ => ⟨S32x2048x4x2x2x32, .f32⟩
  | .hbm, ⟨11, _⟩ => ⟨S32x2048x4x2x2x32, .f32⟩
  | .hbm, ⟨12, _⟩ => ⟨S32x2048x8x2x2x16, .f32⟩
  | .hbm, ⟨13, _⟩ => ⟨S32x2048x8x2x2x16, .f32⟩
  | .hbm, ⟨14, _⟩ => ⟨S32x2048x8x64, .f32⟩
  | .hbm, ⟨15, _⟩ => ⟨S32x2304x256, .f32⟩
  | .hbm, ⟨16, _⟩ => ⟨S32x2304x2x2x2x32, .f32⟩
  | .hbm, ⟨17, _⟩ => ⟨S32x2304x2x2x2x32, .f32⟩
  | .hbm, ⟨18, _⟩ => ⟨S32x2304x4x2x2x16, .f32⟩
  | .hbm, ⟨19, _⟩ => ⟨S32x2304x4x2x2x16, .f32⟩
  | .hbm, ⟨20, _⟩ => ⟨S32x2304x4x64, .f32⟩
  | .hbm, ⟨21, _⟩ => ⟨S32x2304x2x1x2x64, .f32⟩
  | .hbm, ⟨22, _⟩ => ⟨S32x2304x2x2x2x64, .f32⟩
  | .hbm, ⟨23, _⟩ => ⟨S32x2304x8x64, .f32⟩
  | .hbm, ⟨24, _⟩ => ⟨S32x2304x128, .f32⟩
  | .hbm, ⟨25, _⟩ => ⟨S32x2304x2x1x64, .f32⟩
  | .hbm, ⟨26, _⟩ => ⟨S32x2304x2x4x64, .f32⟩
  | .hbm, ⟨27, _⟩ => ⟨S32x2304x8x64, .f32⟩
  | .hbm, ⟨28, _⟩ => ⟨S32x8x2048x2304, .f32⟩
  | .hbm, ⟨29, _⟩ => ⟨S_, .f32⟩
  | .hbm, ⟨30, _⟩ => ⟨S32x8x2048, .f32⟩
  | .hbm, ⟨31, _⟩ => ⟨S_, .f32⟩
  | .hbm, ⟨32, _⟩ => ⟨S32x8x2048, .f32⟩
  | .hbm, ⟨33, _⟩ => ⟨S32x8x2048, .f32⟩
  | .hbm, ⟨34, _⟩ => ⟨S32x8x2048x1, .f32⟩
  | .hbm, ⟨35, _⟩ => ⟨S32x8x2048x2304, .f32⟩
  | .hbm, ⟨36, _⟩ => ⟨S32x8x2048x2304, .f32⟩
  | .hbm, ⟨37, _⟩ => ⟨S32x8x2048x2304, .f32⟩
  | .hbm, ⟨38, _⟩ => ⟨S_, .f32⟩
  | .hbm, ⟨39, _⟩ => ⟨S32x8x2048, .f32⟩
  | .hbm, ⟨40, _⟩ => ⟨S32x8x2048x1, .f32⟩
  | .hbm, ⟨41, _⟩ => ⟨S32x8x2048x2304, .f32⟩
  | .hbm, ⟨42, _⟩ => ⟨S32x8x2048x2304, .f32⟩
  | .hbm, ⟨43, _⟩ => ⟨S32x8x64x2048, .f32⟩
  | .hbm, ⟨44, _⟩ => ⟨S32x2048x8x64, .f32⟩
  | .hbm, ⟨45, _⟩ => ⟨S32x2048x2x4x64, .f32⟩
  | .hbm, ⟨46, _⟩ => ⟨S32x2048x4x2x64, .f32⟩
  | .hbm, ⟨47, _⟩ => ⟨S32x2048x512, .f32⟩
  | .hbm, ⟨48, _⟩ => ⟨S32x2048x512, .bf16⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== Post.lean ====
abbrev S32x2048x1024 : Shape := ⟨3, ![32, 2048, 1024]⟩
abbrev S32x6144 : Shape := ⟨2, ![32, 6144]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S5632 : Shape := ⟨1, ![5632]⟩
abbrev S32x6x1024 : Shape := ⟨3, ![32, 6, 1024]⟩
abbrev S_ : Shape := ⟨0, ![]⟩
abbrev S32x8x1024 : Shape := ⟨3, ![32, 8, 1024]⟩
abbrev S1x1024 : Shape := ⟨2, ![1, 1024]⟩
abbrev S4x1024 : Shape := ⟨2, ![4, 1024]⟩
abbrev S8x1024 : Shape := ⟨2, ![8, 1024]⟩
abbrev S5632x1 : Shape := ⟨2, ![5632, 1]⟩
abbrev S1024x1 : Shape := ⟨2, ![1024, 1]⟩
abbrev S1x512x1024 : Shape := ⟨3, ![1, 512, 1024]⟩
abbrev S1x8x1024 : Shape := ⟨3, ![1, 8, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x256 : Shape := ⟨2, ![512, 256]⟩

abbrev nBuf : Space → Nat
  | .hbm => 42
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .bf16⟩
  | .hbm, ⟨2, _⟩ => ⟨S32x6144, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x5632, .f32⟩
  | .hbm, ⟨9, _⟩ => ⟨S2816x1024, .f32⟩
  | .hbm, ⟨10, _⟩ => ⟨S5632, .i32⟩
  | .hbm, ⟨11, _⟩ => ⟨S5632, .i1⟩
  | .hbm, ⟨12, _⟩ => ⟨S1024, .i32⟩
  | .hbm, ⟨13, _⟩ => ⟨S1024, .i1⟩
  | .hbm, ⟨14, _⟩ => ⟨S32x6x1024, .f32⟩
  | .hbm, ⟨15, _⟩ => ⟨S_, .i32⟩
  | .hbm, ⟨16, _⟩ => ⟨S_, .f32⟩
  | .hbm, ⟨17, _⟩ => ⟨S32x8x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S4x1024, .f32⟩
  | .hbm, ⟨23, _⟩ => ⟨S_, .i32⟩
  | .hbm, ⟨24, _⟩ => ⟨S_, .f32⟩
  | .hbm, ⟨25, _⟩ => ⟨S8x1024, .f32⟩
  | .hbm, ⟨26, _⟩ => ⟨S_, .i32⟩
  | .hbm, ⟨27, _⟩ => ⟨S5632, .i32⟩
  | .hbm, ⟨28, _⟩ => ⟨S5632, .i32⟩
  | .hbm, ⟨29, _⟩ => ⟨S5632, .i32⟩
  | .hbm, ⟨30, _⟩ => ⟨S5632x1, .i32⟩
  | .hbm, ⟨31, _⟩ => ⟨S1024x5632, .f32⟩
  | .hbm, ⟨32, _⟩ => ⟨S1024x5632, .bf16⟩
  | .hbm, ⟨33, _⟩ => ⟨S2816x1024, .bf16⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S1024x1, .i32⟩
  | .hbm, ⟨39, _⟩ => ⟨S1024x1024, .f32⟩
  | .hbm, ⟨40, _⟩ => ⟨S1024x1024, .bf16⟩
  | .hbm, ⟨41, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x8x1024, .f32⟩
  | .local _ .vmem, ⟨5, _⟩ => ⟨S1x8x1024, .f32⟩
  | .local _ .vmem, ⟨6, _⟩ => ⟨S8x1024, .f32⟩
  | .local _ .vmem, ⟨7, _⟩ => ⟨S1024x1024, .bf16⟩
  | .local _ .vmem, ⟨8, _⟩ => ⟨S1024x5632, .bf16⟩
  | .local _ .vmem, ⟨9, _⟩ => ⟨S2816x1024, .bf16⟩
  | .local _ .vmem, ⟨10, _⟩ => ⟨S1x512x1024, .f32⟩
  | .local _ .vmem, ⟨11, _⟩ => ⟨S1x512x1024, .f32⟩
  | .local _ .vmem, ⟨12, _⟩ => ⟨S512x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_c_2 : Ref sig .tc := ⟨.hbm, 13, rfl⟩
abbrev main_v0 : Ref sig .tc := ⟨.hbm, 14, rfl⟩
abbrev main_c_3 : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_4 : Ref sig .tc := ⟨.hbm, 23, rfl⟩
abbrev main_call1_v0 : Ref sig .tc := ⟨.hbm, 24, rfl⟩
abbrev main_v7 : Ref sig .tc := ⟨.hbm, 25, rfl⟩
abbrev main_c_5 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PostRefIdeal.lean ====
abbrev S32x2048x1024 : Shape := ⟨3, ![32, 2048, 1024]⟩
abbrev S32x6144 : Shape := ⟨2, ![32, 6144]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S32x1x6144 : Shape := ⟨3, ![32, 1, 6144]⟩
abbrev S32x1x1024 : Shape := ⟨3, ![32, 1, 1024]⟩
abbrev S32x2048x2x4x2x64 : Shape := ⟨6, ![32, 2048, 2, 4, 2, 64]⟩
abbrev S32x2048x2x2x4x64 : Shape := ⟨6, ![32, 2048, 2, 2, 4, 64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩

abbrev nBuf : Space → Nat
  | .hbm => 97
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .bf16⟩
  | .hbm, ⟨2, _⟩ => ⟨S32x6144, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x5632, .f32⟩
  | .hbm, ⟨9, _⟩ => ⟨S2816x1024, .f32⟩
  | .hbm, ⟨10, _⟩ => ⟨S32x1x6144, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x2048x1024, .f32⟩
  | .hbm, ⟨18, _⟩ => ⟨S32x2048x2x4x2x64, .f32⟩
  | .hbm, ⟨19, _⟩ => ⟨S32x2048x2x2x4x64, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S_, .f32⟩
  | .hbm, ⟨24, _⟩ => ⟨S32x2048, .f32⟩
  | .hbm, ⟨25, _⟩ => ⟨S32x2048x1, .f32⟩
  | .hbm, ⟨26, _⟩ => ⟨S_, .f32⟩
  | .hbm, ⟨27, _⟩ => ⟨S32x2048x1, .f32⟩
  | .hbm, ⟨28, _⟩ => ⟨S32x2048x1, .f32⟩
  | .hbm, ⟨29, _⟩ => ⟨S_, .f32⟩
  | .hbm, ⟨30, _⟩ => ⟨S32x2048x1, .f32⟩
  | .hbm, ⟨31, _⟩ => ⟨S32x2048x1, .f32⟩
  | .hbm, ⟨32, _⟩ => ⟨S32x2048x1, .f32⟩
  | .hbm, ⟨33, _⟩ => ⟨S32x2048x1024, .f32⟩
  | .hbm, ⟨34, _⟩ => ⟨S32x2048x1024, .f32⟩
  | .hbm, ⟨35, _⟩ => ⟨S1x1x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S_, .f32⟩
  | .hbm, ⟨43, _⟩ => ⟨S32x2048, .f32⟩
  | .hbm, ⟨44, _⟩ => ⟨S32x2048x1, .f32⟩
  | .hbm, ⟨45, _⟩ => ⟨S_, .f32⟩
  | .hbm, ⟨46, _⟩ => ⟨S32x2048x1, .f32⟩
  | .hbm, ⟨47, _⟩ => ⟨S32x2048x1, .f32⟩
  | .hbm, ⟨48, _⟩ => ⟨S_, .f32⟩
  | .hbm, ⟨49, _⟩ => ⟨S32x2048x1, .f32⟩
  | .hbm, ⟨50, _⟩ => ⟨S32x2048x1, .f32⟩
  | .hbm, ⟨51, _⟩ => ⟨S32x2048x1, .f32⟩
  | .hbm, ⟨52, _⟩ => ⟨S32x2048x1024, .f32⟩
  | .hbm, ⟨53, _⟩ => ⟨S32x2048x1024, .f32⟩
  | .hbm, ⟨54, _⟩ => ⟨S1x1x1024, .f32⟩
  | .hbm, ⟨55, _⟩ => ⟨S32x2048x1024, .f32⟩
  | .hbm, ⟨56, _⟩ => ⟨S32x2048x1024, .f32⟩
  | .hbm, ⟨57, _⟩ => ⟨S_, .f32⟩
  | .hbm, ⟨58, _⟩ => ⟨S32x1x1024, .f32⟩
  | .hbm, ⟨59, _⟩ => ⟨S32x1x1024, .f32⟩
  | .hbm, ⟨60, _⟩ => ⟨S32x2048x1024, .f32⟩
  | .hbm, ⟨61, _⟩ => ⟨S32x2048x1024, .f32⟩
  | .hbm, ⟨62, _⟩ => ⟨S32x2048x1024, .f32⟩
  | .hbm, ⟨63, _⟩ => ⟨S32x2048x1024, .f32⟩
  | .hbm, ⟨64, _⟩ => ⟨S32x2048x5632, .f32⟩
  | .hbm, ⟨65, _⟩ => ⟨S32x2048x2816, .f32⟩
  | .hbm, ⟨66, _⟩ => ⟨S32x2048x2816, .f32⟩
  | .hbm, ⟨67, _⟩ => ⟨S32x2048x2816, .f32⟩
  | .hbm, ⟨68, _⟩ => ⟨S32x2048x2816, .f32⟩
  | .hbm, ⟨69, _⟩ => ⟨S_, .f32⟩
  | .hbm, ⟨70, _⟩ => ⟨S32x2048x2816, .f32⟩
  | .hbm, ⟨71, _⟩ => ⟨S32x2048x2816, .f32⟩
  | .hbm, ⟨72, _⟩ => ⟨S_, .f32⟩
  | .hbm, ⟨73, _⟩ => ⟨S32x2048x2816, .f32⟩
  | .hbm, ⟨74, _⟩ => ⟨S32x2048x2816, .f32⟩
  | .hbm, ⟨75, _⟩ => ⟨S32x2048x2816, .f32⟩
  | .hbm, ⟨76, _⟩ => ⟨S32x2048x2816, .f32⟩
  | .hbm, ⟨77, _⟩ => ⟨S32x2048x1024, .f32⟩
  | .hbm, ⟨78, _⟩ => ⟨S32x2048x1024, .f32⟩
  | .hbm, ⟨79, _⟩ => ⟨S_, .f32⟩
  | .hbm, ⟨80, _⟩ => ⟨S32x2048, .f32⟩
  | .hbm, ⟨81, _⟩ => ⟨S32x2048x1, .f32⟩
  | .hbm, ⟨82, _⟩ => ⟨S_, .f32⟩
  | .hbm, ⟨83, _⟩ => ⟨S32x2048x1, .f32⟩
  | .hbm, ⟨84, _⟩ => ⟨S32x2048x1, .f32⟩
  | .hbm, ⟨85, _⟩ => ⟨S_, .f32⟩
  | .hbm, ⟨86, _⟩ => ⟨S32x2048x1, .f32⟩
  | .hbm, ⟨87, _⟩ => ⟨S32x2048x1, .f32⟩
  | .hbm, ⟨88, _⟩ => ⟨S32x2048x1, .f32⟩
  | .hbm, ⟨89, _⟩ => ⟨S32x2048x1024, .f32⟩
  | .hbm, ⟨90, _⟩ => ⟨S32x2048x1024, .f32⟩
  | .hbm, ⟨91, _⟩ => ⟨S1x1x1024, .f32⟩
  | .hbm, ⟨92, _⟩ => ⟨S32x2048x1024, .f32⟩
  | .hbm, ⟨93, _⟩ => ⟨S32x2048x1024, .f32⟩
  | .hbm, ⟨94, _⟩ => ⟨S32x2048x1024, .f32⟩
  | .hbm, ⟨95, _⟩ => ⟨S32x2048x1024, .f32⟩
  | .hbm, ⟨96, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Pool.lean ====
abbrev S32x2048x1024 : Shape := ⟨3, ![32, 2048, 1024]⟩
abbrev S32x2048x512 : Shape := ⟨3, ![32, 2048, 512]⟩
abbrev S32x6144 : Shape := ⟨2, ![32, 6144]⟩
abbrev S1024 : Shape := ⟨1, ![1024]⟩
abbrev S1024x1024 : Shape := ⟨2, ![1024, 1024]⟩
abbrev S4x128x128 : Shape := ⟨3, ![4, 128, 128]⟩
abbrev S512 : Shape := ⟨1, ![512]⟩
abbrev S1024x5632 : Shape := ⟨2, ![1024, 5632]⟩
abbrev S2816x1024 : Shape := ⟨2, ![2816, 1024]⟩
abbrev S5632 : Shape := ⟨1, ![5632]⟩
abbrev S32x6x1024 : Shape := ⟨3, ![32, 6, 1024]⟩
abbrev S_ : Shape := ⟨0, ![]⟩
abbrev S32x8x1024 : Shape := ⟨3, ![32, 8, 1024]⟩
abbrev S1x1024 : Shape := ⟨2, ![1, 1024]⟩
abbrev S4x1024 : Shape := ⟨2, ![4, 1024]⟩
abbrev S8x1024 : Shape := ⟨2, ![8, 1024]⟩
abbrev S5632x1 : Shape := ⟨2, ![5632, 1]⟩
abbrev S512x1 : Shape := ⟨2, ![512, 1]⟩
abbrev S512x1024 : Shape := ⟨2, ![512, 1024]⟩
abbrev S1x512 : Shape := ⟨2, ![1, 512]⟩
abbrev S1x512x1024 : Shape := ⟨3, ![1, 512, 1024]⟩
abbrev S1x512x512 : Shape := ⟨3, ![1, 512, 512]⟩
abbrev S1x8x1024 : Shape := ⟨3, ![1, 8, 1024]⟩
abbrev S1x8x512 : Shape := ⟨3, ![1, 8, 512]⟩
abbrev S512x2816 : Shape := ⟨2, ![512, 2816]⟩
abbrev S528x512 : Shape := ⟨2, ![528, 512]⟩
abbrev S512x512 : Shape := ⟨2, ![512, 512]⟩
abbrev S8x512 : Shape := ⟨2, ![8, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S1x1x1024 : Shape := ⟨3, ![1, 1, 1024]⟩
abbrev S1024x512 : Shape := ⟨2, ![1024, 512]⟩
abbrev S512x256 : Shape := ⟨2, ![512, 256]⟩

abbrev nBuf : Space → Nat
  | .hbm => 49
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .f32⟩
  | .hbm, ⟨3, _⟩ => ⟨S32x6144, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S4x128x128, .f32⟩
  | .hbm, ⟨10, _⟩ => ⟨S512, .f32⟩
  | .hbm, ⟨11, _⟩ => ⟨S1024x5632, .f32⟩
  | .hbm, ⟨12, _⟩ => ⟨S2816x1024, .f32⟩
  | .hbm, ⟨13, _⟩ => ⟨S5632, .i32⟩
  | .hbm, ⟨14, _⟩ => ⟨S5632, .i1⟩
  | .hbm, ⟨15, _⟩ => ⟨S512, .i32⟩
  | .hbm, ⟨16, _⟩ => ⟨S512, .i1⟩
  | .hbm, ⟨17, _⟩ => ⟨S32x6x1024, .f32⟩
  | .hbm, ⟨18, _⟩ => ⟨S_, .i32⟩
  | .hbm, ⟨19, _⟩ => ⟨S_, .f32⟩
  | .hbm, ⟨20, _⟩ => ⟨S32x8x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S4x1024, .f32⟩
  | .hbm, ⟨26, _⟩ => ⟨S_, .i32⟩
  | .hbm, ⟨27, _⟩ => ⟨S_, .f32⟩
  | .hbm, ⟨28, _⟩ => ⟨S8x1024, .f32⟩
  | .hbm, ⟨29, _⟩ => ⟨S_, .i32⟩
  | .hbm, ⟨30, _⟩ => ⟨S5632, .i32⟩
  | .hbm, ⟨31, _⟩ => ⟨S5632, .i32⟩
  | .hbm, ⟨32, _⟩ => ⟨S5632, .i32⟩
  | .hbm, ⟨33, _⟩ => ⟨S5632x1, .i32⟩
  | .hbm, ⟨34, _⟩ => ⟨S1024x5632, .f32⟩
  | .hbm, ⟨35, _⟩ => ⟨S1024x5632, .bf16⟩
  | .hbm, ⟨36, _⟩ => ⟨S2816x1024, .bf16⟩
  | .hbm, ⟨37, _⟩ => ⟨S_, .i32⟩
  | .hbm, ⟨38, _⟩ => ⟨S512, .i32⟩
  | .hbm, ⟨39, _⟩ => ⟨S512, .i32⟩
  | .hbm, ⟨40, _⟩ => ⟨S512, .i32⟩
  | .hbm, ⟨41, _⟩ => ⟨S512x1, .i32⟩
  | .hbm, ⟨42, _⟩ => ⟨S512x1024, .f32⟩
  | .hbm, ⟨43, _⟩ => ⟨S512x1024, .f32⟩
  | .hbm, ⟨44, _⟩ => ⟨S1024x1024, .f32⟩
  | .hbm, ⟨45, _⟩ => ⟨S1024x1024, .bf16⟩
  | .hbm, ⟨46, _⟩ => ⟨S4x128x128, .bf16⟩
  | .hbm, ⟨47, _⟩ => ⟨S1x512, .f32⟩
  | .hbm, ⟨48, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x8x1024, .f32⟩
  | .local _ .vmem, ⟨5, _⟩ => ⟨S1x8x1024, .f32⟩
  | .local _ .vmem, ⟨6, _⟩ => ⟨S8x1024, .f32⟩
  | .local _ .vmem, ⟨7, _⟩ => ⟨S1024x1024, .bf16⟩
  | .local _ .vmem, ⟨8, _⟩ => ⟨S1024x5632, .bf16⟩
  | .local _ .vmem, ⟨9, _⟩ => ⟨S2816x1024, .bf16⟩
  | .local _ .vmem, ⟨10, _⟩ => ⟨S1x512x512, .f32⟩
  | .local _ .vmem, ⟨11, _⟩ => ⟨S1x512x512, .f32⟩
  | .local _ .vmem, ⟨12, _⟩ => ⟨S1x8x512, .f32⟩
  | .local _ .vmem, ⟨13, _⟩ => ⟨S1x8x512, .f32⟩
  | .local _ .vmem, ⟨14, _⟩ => ⟨S1x8x512, .f32⟩
  | .local _ .vmem, ⟨15, _⟩ => ⟨S1x8x512, .f32⟩
  | .local _ .vmem, ⟨16, _⟩ => ⟨S4x128x128, .bf16⟩
  | .local _ .vmem, ⟨17, _⟩ => ⟨S1x512, .f32⟩
  | .local _ .vmem, ⟨18, _⟩ => ⟨S1x512x1024, .f32⟩
  | .local _ .vmem, ⟨19, _⟩ => ⟨S1x512x1024, .f32⟩
  | .local _ .vmem, ⟨20, _⟩ => ⟨S512x2816, .bf16⟩
  | .local _ .vmem, ⟨21, _⟩ => ⟨S528x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_v0 : Ref sig .tc := ⟨.hbm, 17, rfl⟩
abbrev main_c_3 : Ref sig .tc := ⟨.hbm, 18, rfl⟩
abbrev main_call0_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_4 : Ref sig .tc := ⟨.hbm, 26, rfl⟩
abbrev main_call1_v0 : Ref sig .tc := ⟨.hbm, 27, rfl⟩
abbrev main_v7 : Ref sig .tc := ⟨.hbm, 28, rfl⟩
abbrev main_c_5 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_6 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PoolRefIdeal.lean ====
abbrev S32x2048x1024 : Shape := ⟨3, ![32, 2048, 1024]⟩
abbrev S32x2048x512 : Shape := ⟨3, ![32, 2048, 512]⟩
abbrev S32x6144 : Shape := ⟨2, ![32, 6144]⟩
abbrev S1024 : Shape := ⟨1, ![1024]⟩
abbrev S1024x1024 : Shape := ⟨2, ![1024, 1024]⟩
abbrev S4x128x128 : Shape := ⟨3, ![4, 128, 128]⟩
abbrev S512 : Shape := ⟨1, ![512]⟩
abbrev S1024x5632 : Shape := ⟨2, ![1024, 5632]⟩
abbrev S2816x1024 : Shape := ⟨2, ![2816, 1024]⟩
abbrev S32x1x6144 : Shape := ⟨3, ![32, 1, 6144]⟩
abbrev S32x1x1024 : Shape := ⟨3, ![32, 1, 1024]⟩
abbrev S32x2048x4x2x64 : Shape := ⟨5, ![32, 2048, 4, 2, 64]⟩
abbrev S32x2048x2x4x64 : Shape := ⟨5, ![32, 2048, 2, 4, 64]⟩
abbrev S32x2048x4x128 : Shape := ⟨4, ![32, 2048, 4, 128]⟩
abbrev S4 : Shape := ⟨1, ![4]⟩
abbrev S_ : Shape := ⟨0, ![]⟩
abbrev S2048 : Shape := ⟨1, ![2048]⟩
abbrev S1x2048 : Shape := ⟨2, ![1, 2048]⟩
abbrev S4x1 : Shape := ⟨2, ![4, 1]⟩
abbrev S4x2048 : Shape := ⟨2, ![4, 2048]⟩
abbrev S4x2048x1 : Shape := ⟨3, ![4, 2048, 1]⟩
abbrev S1x1x2048 : Shape := ⟨3, ![1, 1, 2048]⟩
abbrev S4x2048x2048 : Shape := ⟨3, ![4, 2048, 2048]⟩
abbrev S4x32x128x2048 : Shape := ⟨4, ![4, 32, 128, 2048]⟩
abbrev S2048x4 : Shape := ⟨2, ![2048, 4]⟩
abbrev S1x2048x4x1 : Shape := ⟨4, ![1, 2048, 4, 1]⟩
abbrev S4x128x32x2048 : Shape := ⟨4, ![4, 128, 32, 2048]⟩
abbrev S1x1x512 : Shape := ⟨3, ![1, 1, 512]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩

abbrev nBuf : Space → Nat
  | .hbm => 154
  | .vmem => 0
  | .smem => 0
  | _ => 0

abbrev hbmTy0_0 (i : Nat) : BufTy := match i % 128 with
  | 0 => ⟨S32x2048x1024, .f32⟩
  | 1 => ⟨S32x2048x512, .bf16⟩
  | 2 => ⟨S32x2048x512, .f32⟩
  | 3 => ⟨S32x6144, .f32⟩
  | 4 => ⟨S1024, .f32⟩
  | 5 => ⟨S1024, .f32⟩
  | 6 => ⟨S1024, .f32⟩
  | 7 => ⟨S1024, .f32⟩
  | 8 => ⟨S1024x1024, .f32⟩
  | 9 => ⟨S4x128x128, .f32⟩
  | 10 => ⟨S512, .f32⟩
  | 11 => ⟨S1024x5632, .f32⟩
  | 12 => ⟨S2816x1024, .f32⟩
  | 13 => ⟨S32x1x6144, .f32⟩
  | 14 => ⟨S32x1x1024, .f32⟩
  | 15 => ⟨S32x1x1024, .f32⟩
  | 16 => ⟨S32x1x1024, .f32⟩
  | 17 => ⟨S32x1x1024, .f32⟩
  | 18 => ⟨S32x1x1024, .f32⟩
  | 19 => ⟨S32x1x1024, .f32⟩
  | 20 => ⟨S32x2048x512, .f32⟩
  | 21 => ⟨S32x2048x4x2x64, .f32⟩
  | 22 => ⟨S32x2048x2x4x64, .f32⟩
  | 23 => ⟨S32x2048x512, .f32⟩
  | 24 => ⟨S32x2048x4x128, .f32⟩
  | 25 => ⟨S4, .i32⟩
  | 26 => ⟨S_, .i32⟩
  | 27 => ⟨S4, .i32⟩
  | 28 => ⟨S4, .i32⟩
  | 29 => ⟨S2048, .i32⟩
  | 30 => ⟨S1x2048, .i32⟩
  | 31 => ⟨S4x1, .i32⟩
  | 32 => ⟨S4x2048, .i32⟩
  | 33 => ⟨S4x2048, .i32⟩
  | 34 => ⟨S4x2048, .i32⟩
  | 35 => ⟨S_, .i32⟩
  | 36 => ⟨S4x2048, .i32⟩
  | 37 => ⟨S4x2048, .i32⟩
  | 38 => ⟨S1x2048, .i32⟩
  | 39 => ⟨S4x1, .i32⟩
  | 40 => ⟨S4x2048, .i32⟩
  | 41 => ⟨S4x2048, .i32⟩
  | 42 => ⟨S4x2048, .i32⟩
  | 43 => ⟨S_, .i32⟩
  | 44 => ⟨S4x2048, .i32⟩
  | 45 => ⟨S4x2048, .i32⟩
  | 46 => ⟨S4x2048x1, .i32⟩
  | 47 => ⟨S1x1x2048, .i32⟩
  | 48 => ⟨S4x2048x2048, .i32⟩
  | 49 => ⟨S4x2048x2048, .i32⟩
  | 50 => ⟨S4x2048x2048, .i1⟩
  | 51 => ⟨S4x2048x1, .i32⟩
  | 52 => ⟨S1x1x2048, .i32⟩
  | 53 => ⟨S4x2048x2048, .i32⟩
  | 54 => ⟨S4x2048x2048, .i32⟩
  | 55 => ⟨S4x2048x2048, .i1⟩
  | 56 => ⟨S4x2048x2048, .i1⟩
  | 57 => ⟨S_, .f32⟩
  | 58 => ⟨S_, .f32⟩
  | 59 => ⟨S4x2048x2048, .f32⟩
  | 60 => ⟨S4x2048x2048, .f32⟩
  | 61 => ⟨S4x2048x2048, .f32⟩
  | 62 => ⟨S4x32x128x2048, .f32⟩
  | 63 => ⟨S32x2048x4x128, .f32⟩
  | 64 => ⟨S4x2048, .i32⟩
  | 65 => ⟨S2048x4, .i32⟩
  | 66 => ⟨S2048x4, .f32⟩
  | 67 => ⟨S1x2048x4x1, .f32⟩
  | 68 => ⟨S32x2048x4x128, .f32⟩
  | 69 => ⟨S32x2048x4x128, .f32⟩
  | 70 => ⟨S32x2048x4x128, .f32⟩
  | 71 => ⟨S4x128x32x2048, .f32⟩
  | 72 => ⟨S32x2048x4x128, .f32⟩
  | 73 => ⟨S32x2048x512, .f32⟩
  | 74 => ⟨S1x1x512, .f32⟩
  | 75 => ⟨S32x2048x512, .f32⟩
  | 76 => ⟨S32x2048x512, .f32⟩
  | 77 => ⟨S32x2048x1024, .f32⟩
  | 78 => ⟨S32x2048x1024, .f32⟩
  | 79 => ⟨S32x2048x1024, .f32⟩
  | 80 => ⟨S_, .f32⟩
  | 81 => ⟨S32x2048, .f32⟩
  | 82 => ⟨S32x2048x1, .f32⟩
  | 83 => ⟨S_, .f32⟩
  | 84 => ⟨S32x2048x1, .f32⟩
  | 85 => ⟨S32x2048x1, .f32⟩
  | 86 => ⟨S_, .f32⟩
  | 87 => ⟨S32x2048x1, .f32⟩
  | 88 => ⟨S32x2048x1, .f32⟩
  | 89 => ⟨S32x2048x1, .f32⟩
  | 90 => ⟨S32x2048x1024, .f32⟩
  | 91 => ⟨S32x2048x1024, .f32⟩
  | 92 => ⟨S1x1x1024, .f32⟩
  | 93 => ⟨S32x2048x1024, .f32⟩
  | 94 => ⟨S32x2048x1024, .f32⟩
  | 95 => ⟨S32x2048x1024, .f32⟩
  | 96 => ⟨S32x2048x1024, .f32⟩
  | 97 => ⟨S32x2048x1024, .f32⟩
  | 98 => ⟨S32x2048x1024, .f32⟩
  | 99 => ⟨S_, .f32⟩
  | 100 => ⟨S32x2048, .f32⟩
  | 101 => ⟨S32x2048x1, .f32⟩
  | 102 => ⟨S_, .f32⟩
  | 103 => ⟨S32x2048x1, .f32⟩
  | 104 => ⟨S32x2048x1, .f32⟩
  | 105 => ⟨S_, .f32⟩
  | 106 => ⟨S32x2048x1, .f32⟩
  | 107 => ⟨S32x2048x1, .f32⟩
  | 108 => ⟨S32x2048x1, .f32⟩
  | 109 => ⟨S32x2048x1024, .f32⟩
  | 110 => ⟨S32x2048x1024, .f32⟩
  | 111 => ⟨S1x1x1024, .f32⟩
  | 112 => ⟨S32x2048x1024, .f32⟩
  | 113 => ⟨S32x2048x1024, .f32⟩
  | 114 => ⟨S_, .f32⟩
  | 115 => ⟨S32x1x1024, .f32⟩
  | 116 => ⟨S32x1x1024, .f32⟩
  | 117 => ⟨S32x2048x1024, .f32⟩
  | 118 => ⟨S32x2048x1024, .f32⟩
  | 119 => ⟨S32x2048x1024, .f32⟩
  | 120 => ⟨S32x2048x1024, .f32⟩
  | 121 => ⟨S32x2048x5632, .f32⟩
  | 122 => ⟨S32x2048x2816, .f32⟩
  | 123 => ⟨S32x2048x2816, .f32⟩
  | 124 => ⟨S32x2048x2816, .f32⟩
  | 125 => ⟨S32x2048x2816, .f32⟩
  | 126 => ⟨S_, .f32⟩
  | 127 => ⟨S32x2048x2816, .f32⟩
  | _ => ⟨S32x2048x1024, .f32⟩

abbrev hbmTy0_1 (i : Nat) : BufTy := match i % 128 with
  | 0 => ⟨S32x2048x2816, .f32⟩
  | 1 => ⟨S_, .f32⟩
  | 2 => ⟨S32x2048x2816, .f32⟩
  | 3 => ⟨S32x2048x2816, .f32⟩
  | 4 => ⟨S32x2048x2816, .f32⟩
  | 5 => ⟨S32x2048x2816, .f32⟩
  | 6 => ⟨S32x2048x1024, .f32⟩
  | 7 => ⟨S32x2048x1024, .f32⟩
  | 8 => ⟨S_, .f32⟩
  | 9 => ⟨S32x2048, .f32⟩
  | 10 => ⟨S32x2048x1, .f32⟩
  | 11 => ⟨S_, .f32⟩
  | 12 => ⟨S32x2048x1, .f32⟩
  | 13 => ⟨S32x2048x1, .f32⟩
  | 14 => ⟨S_, .f32⟩
  | 15 => ⟨S32x2048x1, .f32⟩
  | 16 => ⟨S32x2048x1, .f32⟩
  | 17 => ⟨S32x2048x1, .f32⟩
  | 18 => ⟨S32x2048x1024, .f32⟩
  | 19 => ⟨S32x2048x1024, .f32⟩
  | 20 => ⟨S1x1x1024, .f32⟩
  | 21 => ⟨S32x2048x1024, .f32⟩
  | 22 => ⟨S32x2048x1024, .f32⟩
  | 23 => ⟨S32x2048x1024, .f32⟩
  | 24 => ⟨S32x2048x1024, .f32⟩
  | 25 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst : Ref sig .tc := ⟨.hbm, 57, rfl⟩
abbrev main_cst_2 : Ref sig .tc := ⟨.hbm, 58, rfl⟩
abbrev main_call0_v0 : Ref sig .tc := ⟨.hbm, 59, rfl⟩
abbrev main_call0_v1 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_3 : Ref sig .tc := ⟨.hbm, 80, rfl⟩
abbrev main_v60 : Ref sig .tc := ⟨.hbm, 81, rfl⟩
abbrev main_v61 : Ref sig .tc := ⟨.hbm, 82, rfl⟩
abbrev main_cst_4 : Ref sig .tc := ⟨.hbm, 83, rfl⟩
abbrev main_v62 : Ref sig .tc := ⟨.hbm, 84, rfl⟩
abbrev main_v63 : Ref sig .tc := ⟨.hbm, 85, rfl⟩
abbrev main_cst_5 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_6 : Ref sig .tc := ⟨.hbm, 99, rfl⟩
abbrev main_v76 : Ref sig .tc := ⟨.hbm, 100, rfl⟩
abbrev main_v77 : Ref sig .tc := ⟨.hbm, 101, rfl⟩
abbrev main_cst_7 : Ref sig .tc := ⟨.hbm, 102, rfl⟩
abbrev main_v78 : Ref sig .tc := ⟨.hbm, 103, rfl⟩
abbrev main_v79 : Ref sig .tc := ⟨.hbm, 104, rfl⟩
abbrev main_cst_8 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_9 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_call1_v0 : Ref sig .tc := ⟨.hbm, 124, rfl⟩
abbrev main_call1_v1 : Ref sig .tc := ⟨.hbm, 125, rfl⟩
abbrev main_call1_cst : Ref sig .tc := ⟨.hbm, 126, rfl⟩
abbrev main_call1_v2 : Ref sig .tc := ⟨.hbm, 127, rfl⟩
abbrev main_call1_v3 : Ref sig .tc := ⟨.hbm, 128, rfl⟩
abbrev main_call1_cst_0 : Ref sig .tc := ⟨.hbm, 129, rfl⟩
abbrev main_call1_v4 : Ref sig .tc := ⟨.hbm, 130, rfl⟩
abbrev main_call1_v5 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_10 : Ref sig .tc := ⟨.hbm, 136, rfl⟩
abbrev main_v101 : Ref sig .tc := ⟨.hbm, 137, rfl⟩
abbrev main_v102 : Ref sig .tc := ⟨.hbm, 138, rfl⟩
abbrev main_cst_11 : Ref sig .tc := ⟨.hbm, 139, rfl⟩
abbrev main_v103 : Ref sig .tc := ⟨.hbm, 140, rfl⟩
abbrev main_v104 : Ref sig .tc := ⟨.hbm, 141, rfl⟩
abbrev main_cst_12 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩

abbrev nD : Nat := 1
abbrev τ : Topo := Topo.v7x

variable {F : FTy → Type} [FloatOps F]
-- ==== Project.lean ====
abbrev S32x2048x1024 : Shape := ⟨3, ![32, 2048, 1024]⟩
abbrev S32x6144 : Shape := ⟨2, ![32, 6144]⟩
abbrev S1024 : Shape := ⟨1, ![1024]⟩
abbrev S1024x1536 : Shape := ⟨2, ![1024, 1536]⟩
abbrev S1792 : Shape := ⟨1, ![1792]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S32x6x1024 : Shape := ⟨3, ![32, 6, 1024]⟩
abbrev S32x8x1024 : Shape := ⟨3, ![32, 8, 1024]⟩
abbrev S1x1024 : Shape := ⟨2, ![1, 1024]⟩
abbrev S4x1024 : Shape := ⟨2, ![4, 1024]⟩
abbrev S8x1024 : Shape := ⟨2, ![8, 1024]⟩
abbrev S1792x1 : Shape := ⟨2, ![1792, 1]⟩
abbrev S1024x1792 : Shape := ⟨2, ![1024, 1792]⟩
abbrev S32x2048x512 : Shape := ⟨3, ![32, 2048, 512]⟩
abbrev S32x2048x256 : Shape := ⟨3, ![32, 2048, 256]⟩
abbrev S1x512x1024 : Shape := ⟨3, ![1, 512, 1024]⟩
abbrev S1x8x1024 : Shape := ⟨3, ![1, 8, 1024]⟩
abbrev S512x128 : Shape := ⟨2, ![512, 128]⟩
abbrev S1x512x512 : Shape := ⟨3, ![1, 512, 512]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S512x1792 : Shape := ⟨2, ![512, 1792]⟩
abbrev S1x512x128 : Shape := ⟨3, ![1, 512, 128]⟩
abbrev S512x256 : Shape := ⟨2, ![512, 256]⟩

abbrev nBuf : Space → Nat
  | .hbm => 101
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1536, .f32⟩
  | .hbm, ⟨7, _⟩ => ⟨S1792, .i32⟩
  | .hbm, ⟨8, _⟩ => ⟨S1792, .i1⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048, .i32⟩
  | .hbm, ⟨18, _⟩ => ⟨S_, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S2048, .f32⟩
  | .hbm, ⟨37, _⟩ => ⟨S2048x1, .f32⟩
  | .hbm, ⟨38, _⟩ => ⟨S1x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S_, .i32⟩
  | .hbm, ⟨57, _⟩ => ⟨S_, .i1⟩
  | .hbm, ⟨58, _⟩ => ⟨S2048, .i1⟩
  | .hbm, ⟨59, _⟩ => ⟨S2048, .i1⟩
  | .hbm, ⟨60, _⟩ => ⟨S2048, .i1⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S2048, .f32⟩
  | .hbm, ⟨65, _⟩ => ⟨S2048x1, .f32⟩
  | .hbm, ⟨66, _⟩ => ⟨S1x16, .f32⟩
  | .hbm, ⟨67, _⟩ => ⟨S2048x16, .f32⟩
  | .hbm, ⟨68, _⟩ => ⟨S2048x16, .f32⟩
  | .hbm, ⟨69, _⟩ => ⟨S2048x16, .f32⟩
  | .hbm, ⟨70, _⟩ => ⟨S2048x32, .f32⟩
  | .hbm, ⟨71, _⟩ => ⟨S2048x32, .f32⟩
  | .hbm, ⟨72, _⟩ => ⟨S1x2048x1x32, .f32⟩
  | .hbm, ⟨73, _⟩ => ⟨S1x2048x4x32, .f32⟩
  | .hbm, ⟨74, _⟩ => ⟨S2048x128, .f32⟩
  | .hbm, ⟨75, _⟩ => ⟨S2048x32, .f32⟩
  | .hbm, ⟨76, _⟩ => ⟨S2048x32, .f32⟩
  | .hbm, ⟨77, _⟩ => ⟨S2048x32, .f32⟩
  | .hbm, ⟨78, _⟩ => ⟨S2048x128, .f32⟩
  | .hbm, ⟨79, _⟩ => ⟨S32x6x1024, .f32⟩
  | .hbm, ⟨80, _⟩ => ⟨S_, .i32⟩
  | .hbm, ⟨81, _⟩ => ⟨S_, .f32⟩
  | .hbm, ⟨82, _⟩ => ⟨S32x8x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S4x1024, .f32⟩
  | .hbm, ⟨88, _⟩ => ⟨S_, .i32⟩
  | .hbm, ⟨89, _⟩ => ⟨S_, .f32⟩
  | .hbm, ⟨90, _⟩ => ⟨S8x1024, .f32⟩
  | .hbm, ⟨91, _⟩ => ⟨S_, .i32⟩
  | .hbm, ⟨92, _⟩ => ⟨S1792, .i32⟩
  | .hbm, ⟨93, _⟩ => ⟨S1792, .i32⟩
  | .hbm, ⟨94, _⟩ => ⟨S1792, .i32⟩
  | .hbm, ⟨95, _⟩ => ⟨S1792x1, .i32⟩
  | .hbm, ⟨96, _⟩ => ⟨S1024x1792, .f32⟩
  | .hbm, ⟨97, _⟩ => ⟨S1024x1792, .bf16⟩
  | .hbm, ⟨98, _⟩ => ⟨S32x2048x1024, .bf16⟩
  | .hbm, ⟨99, _⟩ => ⟨S32x2048x512, .bf16⟩
  | .hbm, ⟨100, _⟩ => ⟨S32x2048x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S8x1024, .f32⟩
  | .local _ .vmem, ⟨5, _⟩ => ⟨S1024x1792, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x256, .bf16⟩
  | .local _ .vmem, ⟨15, _⟩ => ⟨S1x512x256, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_c_4 : Ref sig .tc := ⟨.hbm, 80, rfl⟩
abbrev main_call2_v0 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_c_5 : Ref sig .tc := ⟨.hbm, 88, rfl⟩
abbrev main_call3_v0 : Ref sig .tc := ⟨.hbm, 89, rfl⟩
abbrev main_v37 : Ref sig .tc := ⟨.hbm, 90, rfl⟩
abbrev main_c_6 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44_0 : Ref sig .tc := ⟨.hbm, 98, rfl⟩
abbrev main_v44_1 : Ref sig .tc := ⟨.hbm, 99, rfl⟩
abbrev main_v44_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjectRefIdeal.lean ====
abbrev S32x2048x1024 : Shape := ⟨3, ![32, 2048, 1024]⟩
abbrev S32x6144 : Shape := ⟨2, ![32, 6144]⟩
abbrev S1024 : Shape := ⟨1, ![1024]⟩
abbrev S1024x1536 : Shape := ⟨2, ![1024, 1536]⟩
abbrev S32x1x6144 : Shape := ⟨3, ![32, 1, 6144]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x1536 : Shape := ⟨3, ![32, 2048, 1536]⟩
abbrev S32x2048x256 : Shape := ⟨3, ![32, 2048, 256]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S32x2048x16x64 : Shape := ⟨4, ![32, 2048, 16, 64]⟩
abbrev S16 : Shape := ⟨1, ![16]⟩
abbrev S32x2048x16x32 : Shape := ⟨4, ![32, 2048, 16, 32]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S32x2048x16x16 : Shape := ⟨4, ![32, 2048, 16, 16]⟩
abbrev S32x2048x4x64 : Shape := ⟨4, ![32, 2048, 4, 64]⟩
abbrev S32x2048x4x32 : Shape := ⟨4, ![32, 2048, 4, 32]⟩
abbrev S32x2048x4x16 : Shape := ⟨4, ![32, 2048, 4, 16]⟩
abbrev S32x2048x8x2x2x2x16 : Shape := ⟨7, ![32, 2048, 8, 2, 2, 2, 16]⟩
abbrev S32x2048x4x1x2x2x16 : Shape := ⟨7, ![32, 2048, 4, 1, 2, 2, 16]⟩
abbrev S32x2048x4x2x1x2x16 : Shape := ⟨7, ![32, 2048, 4, 2, 1, 2, 16]⟩
abbrev S32x2048x4x2x2x2x16 : Shape := ⟨7, ![32, 2048, 4, 2, 2, 2, 16]⟩
abbrev S32x2048x512 : Shape := ⟨3, ![32, 2048, 512]⟩

abbrev nBuf : Space → Nat
  | .hbm => 177
  | .vmem => 0
  | .smem => 0
  | _ => 0

abbrev hbmTy0_0 (i : Nat) : BufTy := match i % 128 with
  | 0 => ⟨S32x2048x1024, .f32⟩
  | 1 => ⟨S32x6144, .f32⟩
  | 2 => ⟨S1024, .f32⟩
  | 3 => ⟨S1024, .f32⟩
  | 4 => ⟨S1024, .f32⟩
  | 5 => ⟨S1024, .f32⟩
  | 6 => ⟨S1024x1536, .f32⟩
  | 7 => ⟨S32x1x6144, .f32⟩
  | 8 => ⟨S32x1x1024, .f32⟩
  | 9 => ⟨S32x1x1024, .f32⟩
  | 10 => ⟨S32x1x1024, .f32⟩
  | 11 => ⟨S32x1x1024, .f32⟩
  | 12 => ⟨S32x1x1024, .f32⟩
  | 13 => ⟨S32x1x1024, .f32⟩
  | 14 => ⟨S32x2048x1024, .f32⟩
  | 15 => ⟨S_, .f32⟩
  | 16 => ⟨S32x2048, .f32⟩
  | 17 => ⟨S32x2048x1, .f32⟩
  | 18 => ⟨S_, .f32⟩
  | 19 => ⟨S32x2048x1, .f32⟩
  | 20 => ⟨S32x2048x1, .f32⟩
  | 21 => ⟨S_, .f32⟩
  | 22 => ⟨S32x2048x1, .f32⟩
  | 23 => ⟨S32x2048x1, .f32⟩
  | 24 => ⟨S32x2048x1, .f32⟩
  | 25 => ⟨S32x2048x1024, .f32⟩
  | 26 => ⟨S32x2048x1024, .f32⟩
  | 27 => ⟨S1x1x1024, .f32⟩
  | 28 => ⟨S32x2048x1024, .f32⟩
  | 29 => ⟨S32x2048x1024, .f32⟩
  | 30 => ⟨S_, .f32⟩
  | 31 => ⟨S32x1x1024, .f32⟩
  | 32 => ⟨S32x1x1024, .f32⟩
  | 33 => ⟨S32x2048x1024, .f32⟩
  | 34 => ⟨S32x2048x1024, .f32⟩
  | 35 => ⟨S32x2048x1024, .f32⟩
  | 36 => ⟨S32x2048x1024, .f32⟩
  | 37 => ⟨S32x2048x1536, .f32⟩
  | 38 => ⟨S32x2048x1024, .f32⟩
  | 39 => ⟨S32x2048x256, .f32⟩
  | 40 => ⟨S32x2048x256, .f32⟩
  | 41 => ⟨S32, .i32⟩
  | 42 => ⟨S32x64, .i32⟩
  | 43 => ⟨S2048, .i32⟩
  | 44 => ⟨S64, .i32⟩
  | 45 => ⟨S1x64, .i32⟩
  | 46 => ⟨S32x64, .i32⟩
  | 47 => ⟨S2048, .i32⟩
  | 48 => ⟨S32x2048x16x64, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S32x2048x16x32, .f32⟩
  | 58 => ⟨S2048, .f32⟩
  | 59 => ⟨S2048x1, .f32⟩
  | 60 => ⟨S1x16, .f32⟩
  | 61 => ⟨S2048x16, .f32⟩
  | 62 => ⟨S2048x16, .f32⟩
  | 63 => ⟨S2048x16, .f32⟩
  | 64 => ⟨S2048x16, .f32⟩
  | 65 => ⟨S1x2048x1x16, .f32⟩
  | 66 => ⟨S2048x16, .f32⟩
  | 67 => ⟨S1x2048x1x16, .f32⟩
  | 68 => ⟨S32x2048x16x16, .f32⟩
  | 69 => ⟨S32x2048x16x16, .f32⟩
  | 70 => ⟨S32x2048x16x16, .f32⟩
  | 71 => ⟨S32x2048x16x16, .f32⟩
  | 72 => ⟨S32x2048x16x16, .f32⟩
  | 73 => ⟨S32x2048x16x16, .f32⟩
  | 74 => ⟨S32x2048x16x16, .f32⟩
  | 75 => ⟨S32x2048x16x16, .f32⟩
  | 76 => ⟨S32x2048x16x16, .f32⟩
  | 77 => ⟨S32x2048x16x16, .f32⟩
  | 78 => ⟨S32x2048x16x16, .f32⟩
  | 79 => ⟨S32x2048x16x16, .f32⟩
  | 80 => ⟨S32x2048x16x32, .f32⟩
  | 81 => ⟨S32x2048x16x32, .f32⟩
  | 82 => ⟨S2048, .f32⟩
  | 83 => ⟨S2048x1, .f32⟩
  | 84 => ⟨S1x16, .f32⟩
  | 85 => ⟨S2048x16, .f32⟩
  | 86 => ⟨S2048x16, .f32⟩
  | 87 => ⟨S2048x16, .f32⟩
  | 88 => ⟨S2048x16, .f32⟩
  | 89 => ⟨S1x2048x1x16, .f32⟩
  | 90 => ⟨S2048x16, .f32⟩
  | 91 => ⟨S1x2048x1x16, .f32⟩
  | 92 => ⟨S32x2048x16x16, .f32⟩
  | 93 => ⟨S32x2048x16x16, .f32⟩
  | 94 => ⟨S32x2048x16x16, .f32⟩
  | 95 => ⟨S32x2048x16x16, .f32⟩
  | 96 => ⟨S32x2048x16x16, .f32⟩
  | 97 => ⟨S32x2048x16x16, .f32⟩
  | 98 => ⟨S32x2048x16x16, .f32⟩
  | 99 => ⟨S32x2048x16x16, .f32⟩
  | 100 => ⟨S32x2048x16x16, .f32⟩
  | 101 => ⟨S32x2048x16x16, .f32⟩
  | 102 => ⟨S32x2048x16x16, .f32⟩
  | 103 => ⟨S32x2048x16x16, .f32⟩
  | 104 => ⟨S32x2048x16x32, .f32⟩
  | 105 => ⟨S32x2048x16x64, .f32⟩
  | 106 => ⟨S_, .f32⟩
  | 107 => ⟨S32x2048x16x64, .f32⟩
  | 108 => ⟨S32x2048x16x64, .f32⟩
  | 109 => ⟨S32x2048x4x64, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S32x2048x4x32, .f32⟩
  | 119 => ⟨S2048, .f32⟩
  | 120 => ⟨S2048x1, .f32⟩
  | 121 => ⟨S1x16, .f32⟩
  | 122 => ⟨S2048x16, .f32⟩
  | 123 => ⟨S2048x16, .f32⟩
  | 124 => ⟨S2048x16, .f32⟩
  | 125 => ⟨S2048x16, .f32⟩
  | 126 => ⟨S1x2048x1x16, .f32⟩
  | 127 => ⟨S2048x16, .f32⟩
  | _ => ⟨S32x2048x1024, .f32⟩

abbrev hbmTy0_1 (i : Nat) : BufTy := match i % 128 with
  | 0 => ⟨S1x2048x1x16, .f32⟩
  | 1 => ⟨S32x2048x4x16, .f32⟩
  | 2 => ⟨S32x2048x4x16, .f32⟩
  | 3 => ⟨S32x2048x4x16, .f32⟩
  | 4 => ⟨S32x2048x4x16, .f32⟩
  | 5 => ⟨S32x2048x4x16, .f32⟩
  | 6 => ⟨S32x2048x4x16, .f32⟩
  | 7 => ⟨S32x2048x4x16, .f32⟩
  | 8 => ⟨S32x2048x4x16, .f32⟩
  | 9 => ⟨S32x2048x4x16, .f32⟩
  | 10 => ⟨S32x2048x4x16, .f32⟩
  | 11 => ⟨S32x2048x4x16, .f32⟩
  | 12 => ⟨S32x2048x4x16, .f32⟩
  | 13 => ⟨S32x2048x4x32, .f32⟩
  | 14 => ⟨S32x2048x4x32, .f32⟩
  | 15 => ⟨S2048, .f32⟩
  | 16 => ⟨S2048x1, .f32⟩
  | 17 => ⟨S1x16, .f32⟩
  | 18 => ⟨S2048x16, .f32⟩
  | 19 => ⟨S2048x16, .f32⟩
  | 20 => ⟨S2048x16, .f32⟩
  | 21 => ⟨S2048x16, .f32⟩
  | 22 => ⟨S1x2048x1x16, .f32⟩
  | 23 => ⟨S2048x16, .f32⟩
  | 24 => ⟨S1x2048x1x16, .f32⟩
  | 25 => ⟨S32x2048x4x16, .f32⟩
  | 26 => ⟨S32x2048x4x16, .f32⟩
  | 27 => ⟨S32x2048x4x16, .f32⟩
  | 28 => ⟨S32x2048x4x16, .f32⟩
  | 29 => ⟨S32x2048x4x16, .f32⟩
  | 30 => ⟨S32x2048x4x16, .f32⟩
  | 31 => ⟨S32x2048x4x16, .f32⟩
  | 32 => ⟨S32x2048x4x16, .f32⟩
  | 33 => ⟨S32x2048x4x16, .f32⟩
  | 34 => ⟨S32x2048x4x16, .f32⟩
  | 35 => ⟨S32x2048x4x16, .f32⟩
  | 36 => ⟨S32x2048x4x16, .f32⟩
  | 37 => ⟨S32x2048x4x32, .f32⟩
  | 38 => ⟨S32x2048x4x64, .f32⟩
  | 39 => ⟨S32x2048x8x2x2x2x16, .f32⟩
  | 40 => ⟨S32x2048x8x2x2x2x16, .f32⟩
  | 41 => ⟨S32x2048x1024, .f32⟩
  | 42 => ⟨S32x2048x4x1x2x2x16, .f32⟩
  | 43 => ⟨S32x2048x4x2x1x2x16, .f32⟩
  | 44 => ⟨S32x2048x4x2x2x2x16, .f32⟩
  | 45 => ⟨S32x2048x512, .f32⟩
  | 46 => ⟨S32x2048x1024, .bf16⟩
  | 47 => ⟨S32x2048x512, .bf16⟩
  | 48 => ⟨S32x2048x256, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_cst_5 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_cst_6 : Ref sig .tc := ⟨.hbm, 112, rfl⟩
abbrev main_v98 : Ref sig .tc := ⟨.hbm, 113, rfl⟩
abbrev main_v99 : Ref sig .tc := ⟨.hbm, 114, rfl⟩
abbrev main_cst_7 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩

abbrev nD : Nat := 1
abbrev τ : Topo := Topo.v7x

variable {F : FTy → Type} [FloatOps F]
-- ==== Proof.Softmax.lean ====
module
public import Idealize.ShloMosaic.Lib.Pipeline.ValueKit
public import Idealize.ShloMosaic.Lib.Pointwise

/-! Softmax-weighted sums over the extended reals.

`softSum s v` is the sum of `exp (s i - max s) * v i`, divided once by the sum of `exp (s i - max s)`. The facts here:
dividing every weight before the products gives the same number (`softSum_eq_sum`), and a family may be cut in two
(`softSum_append`). The scores may be `⊥` (a masked key); one of them has to be a real number. -/

set_option maxRecDepth 16384

@[expose] public section

noncomputable section

open Idealize.ShloMosaic

namespace Softmax

/-- The constant `-∞` of a 32-bit float is the bottom element. -/
theorem negInf : Ideal.ofBits .f32 0xFF800000#32 = (⊥ : EReal) := by
  rfl

/-- A fold of `max` from the bottom element is the supremum. -/
theorem fold_max {ι : Type*} [Fintype ι] (s : ι → EReal) : Finset.univ.fold max ⊥ s = Finset.univ.sup s := rfl

/-- The exponential is nowhere negative. -/
theorem exp_nonneg (x : EReal) : 0 ≤ Ideal.exp x := by
  induction x with
  | bot => simp
  | top => simp
  | coe r => rw [Ideal.exp_coe]; exact_mod_cast (Real.exp_pos r).le

/-- The exponential of a number below the top element is below the top element. -/
theorem exp_ne_top (x : EReal) (h : x ≠ ⊤) : Ideal.exp x ≠ ⊤ := by
  induction x with
  | bot => simp
  | top => exact absurd rfl h
  | coe r => rw [Ideal.exp_coe]; exact EReal.coe_ne_top _

/-- A real, nonnegative factor comes out of a finite sum, whatever the summands. -/
theorem sum_mul_coe {ι : Type*} (t : Finset ι) (f : ι → EReal) (r : ℝ) (hr : 0 ≤ r) :
    ∑ i ∈ t, f i * (r : EReal) = (∑ i ∈ t, f i) * (r : EReal) := by
  classical
  induction t using Finset.induction_on with
  | empty => simp
  | insert a t ha ih =>
    rw [Finset.sum_insert ha, Finset.sum_insert ha, ih,
      EReal.right_distrib_of_nonneg_of_ne_top (by exact_mod_cast hr) (EReal.coe_ne_top r)]

/-- A finite sum of numbers below the top element is below the top element. -/
theorem sum_ne_top {ι : Type*} (t : Finset ι) (f : ι → EReal) (h : ∀ i ∈ t, f i ≠ ⊤) : ∑ i ∈ t, f i ≠ ⊤ := by
  classical
  induction t using Finset.induction_on with
  | empty => simp
  | insert a t ha ih =>
    rw [Finset.sum_insert ha]
    exact EReal.add_ne_top (h a (Finset.mem_insert_self a t)) (ih fun i hi => h i (Finset.mem_insert_of_mem hi))

/-- The largest score. -/
def top {ι : Type*} [Fintype ι] (s : ι → EReal) : EReal := Finset.univ.fold max ⊥ s

/-- A fold of an operation that is `max`, from the bottom element, is the largest score. -/
theorem fold_eq_top {ι : Type*} [Fintype ι] (op : EReal → EReal → EReal) [Std.Commutative op] [Std.Associative op]
    (hop : ∀ x y, op x y = max x y) (b : EReal) (hb : b = ⊥) (s : ι → EReal) : Finset.univ.fold op b s = top s := by
  have h : op = max := funext fun x => funext fun y => hop x y
  subst h
  subst hb
  rfl

/-- The normaliser: the sum of the exponentials of the scores, each less the largest. -/
def den {ι : Type*} [Fintype ι] (s : ι → EReal) : EReal := ∑ i, Ideal.exp (s i - top s)

/-- The softmax-weighted sum of `v`, normalised once, after the sum. -/
def softSum {ι : Type*} [Fintype ι] (s v : ι → EReal) : EReal :=
  Ideal.div (∑ i, Ideal.exp (s i - top s) * v i) (den s)

/-- Scores among which one is a real number and none is the top element have a real, positive normaliser. -/
theorem den_real {ι : Type*} [Fintype ι] (s : ι → EReal) (hs : ∀ i, s i ≠ ⊤) (i₀ : ι) (h₀ : s i₀ ≠ ⊥) :
    ∃ r : ℝ, 0 < r ∧ den s = (r : EReal) := by
  classical
  obtain ⟨i, -, hi⟩ := Finset.exists_mem_eq_sup Finset.univ ⟨i₀, Finset.mem_univ i₀⟩ s
  have htop : top s = s i := hi
  have hle : ∀ j, s j ≤ top s := fun j => by
    show s j ≤ Finset.univ.sup s
    exact Finset.le_sup (Finset.mem_univ j)
  have hb : top s ≠ ⊥ := fun h => h₀ (le_bot_iff.1 (h ▸ hle i₀))
  have ht : top s ≠ ⊤ := by rw [htop]; exact hs i
  lift top s to ℝ using ⟨ht, hb⟩ with m hm
  have hone : Ideal.exp (s i - top s) = 1 := by
    rw [← htop, ← hm, ← EReal.coe_sub, sub_self, Ideal.exp_coe, Real.exp_zero]; rfl
  have hnt : den s ≠ ⊤ := sum_ne_top _ _ fun j _ => exp_ne_top _ (by
    rw [← hm]
    have hj := hs j
    generalize s j = x at hj
    induction x with
    | bot => simp
    | top => exact absurd rfl hj
    | coe r => rw [← EReal.coe_sub]; exact EReal.coe_ne_top _)
  have h1 : (1 : EReal) ≤ den s := by
    rw [← hone]
    exact Finset.single_le_sum (f := fun j => Ideal.exp (s j - top s)) (fun j _ => exp_nonneg _) (Finset.mem_univ i)
  have hnb : den s ≠ ⊥ := fun h => by rw [h] at h1; exact absurd (le_bot_iff.1 h1) (by decide)
  lift den s to ℝ using ⟨hnt, hnb⟩ with r hr
  refine ⟨r, ?_, rfl⟩
  have : (1 : ℝ) ≤ r := by exact_mod_cast h1
  linarith

/-- Normalising every weight before the products gives the same sum as normalising once after it. -/
theorem softSum_eq_sum {ι : Type*} [Fintype ι] (s v : ι → EReal) (hs : ∀ i, s i ≠ ⊤) (i₀ : ι) (h₀ : s i₀ ≠ ⊥) :
    softSum s v = ∑ i, Ideal.div (Ideal.exp (s i - top s)) (den s) * v i := by
  obtain ⟨r, hr, hd⟩ := den_real s hs i₀ h₀
  unfold softSum
  rw [hd, Ideal.div_coe hr.ne', ← sum_mul_coe _ _ _ (one_div_pos.2 hr).le]
  refine Finset.sum_congr rfl fun i _ => ?_
  rw [Ideal.div_coe hr.ne']
  exact mul_right_comm _ _ _

/-- The largest of a family cut in two is the larger of the two parts' largest. -/
theorem top_append {N : ℕ} (a b : ℕ) (hN : a + b = N) (s : Fin N → EReal) :
    top s = max (top fun k : Fin a => s ⟨k.val, by have := k.isLt; omega⟩)
      (top fun k : Fin b => s ⟨a + k.val, by have := k.isLt; omega⟩) := by
  subst hN
  refine le_antisymm ?_ ?_
  · refine Finset.sup_le fun k _ => ?_
    rcases lt_or_ge k.val a with h | h
    · exact le_max_of_le_left (le_trans (le_of_eq rfl)
        (Finset.le_sup (f := fun k : Fin a => s ⟨k.val, by have := k.isLt; omega⟩) (Finset.mem_univ ⟨k.val, h⟩)))
    · refine le_max_of_le_right (le_trans (le_of_eq (congrArg s (Fin.ext ?_)))
        (Finset.le_sup (f := fun k : Fin b => s ⟨a + k.val, by have := k.isLt; omega⟩) (Finset.mem_univ ⟨k.val - a, by omega⟩)))
      show k.val = a + (k.val - a)
      omega
  · refine max_le (Finset.sup_le fun k _ => ?_) (Finset.sup_le fun k _ => ?_)
    · exact Finset.le_sup (f := s) (Finset.mem_univ _)
    · exact Finset.le_sup (f := s) (Finset.mem_univ _)

/-- The softmax-weighted sum of a family given in two parts: one largest score, the sums of both parts added. -/
def joint {a b : ℕ} (s₁ v₁ : Fin a → EReal) (s₂ v₂ : Fin b → EReal) : EReal :=
  Ideal.div
    ((∑ k, Ideal.exp (s₁ k - max (top s₁) (top s₂)) * v₁ k) + ∑ k, Ideal.exp (s₂ k - max (top s₁) (top s₂)) * v₂ k)
    ((∑ k, Ideal.exp (s₁ k - max (top s₁) (top s₂))) + ∑ k, Ideal.exp (s₂ k - max (top s₁) (top s₂)))

/-- The softmax-weighted sum over a family cut in two is that of its two parts. -/
theorem softSum_append {N : ℕ} (a b : ℕ) (hN : a + b = N) (s v : Fin N → EReal)
    (s₁ v₁ : Fin a → EReal) (s₂ v₂ : Fin b → EReal)
    (hs₁ : ∀ k : Fin a, s ⟨k.val, by have := k.isLt; omega⟩ = s₁ k) (hs₂ : ∀ k : Fin b, s ⟨a + k.val, by have := k.isLt; omega⟩ = s₂ k)
    (hv₁ : ∀ k : Fin a, v ⟨k.val, by have := k.isLt; omega⟩ = v₁ k) (hv₂ : ∀ k : Fin b, v ⟨a + k.val, by have := k.isLt; omega⟩ = v₂ k) :
    softSum s v = joint s₁ v₁ s₂ v₂ := by
  have ht : top s = max (top s₁) (top s₂) := by
    rw [top_append a b hN s]
    exact congrArg₂ max (congrArg top (funext hs₁)) (congrArg top (funext hs₂))
  unfold softSum den joint
  rw [ht, Fin.sum_univ_two_halves a b hN, Fin.sum_univ_two_halves a b hN]
  simp only [hs₁, hs₂, hv₁, hv₂]

/-- The lane at which dim `d` of the head in place `z` of a 128-lane chunk lies: half, place, axis, 16 dims. -/
def lane (z : Fin 2) (d : Fin 64) : Fin 128 := ⟨(d : ℕ) / 16 % 2 * 64 + z * 32 + (d : ℕ) / 32 * 16 + (d : ℕ) % 16, by omega⟩

/-- Different dims lie at different lanes. -/
theorem lane_inj : ∀ (z : Fin 2) (d d' : Fin 64), lane z d = lane z d' → d = d' := by decide +kernel

/-- A head's lanes carry its place. -/
theorem lane_place : ∀ (z : Fin 2) (d : Fin 64), (lane z d : ℕ) / 32 % 2 = z := by decide +kernel

/-- A lane that carries a head's place is one of its lanes. -/
theorem lane_onto : ∀ (z : Fin 2) (l : Fin 128), (l : ℕ) / 32 % 2 = z → ∃ d, lane z d = l := by decide +kernel

/-- A product with a vector kept on the 64 lanes of one head of a chunk is the product over that head's dims. -/
theorem masked_dot (z : Fin 2) (x y : Fin 128 → EReal) :
    (∑ l : Fin 128, (if (l : ℕ) / 32 % 2 = z then x l else 0) * y l) = ∑ d : Fin 64, x (lane z d) * y (lane z d) := by
  symm
  refine Finset.sum_of_injOn (lane z) (fun d _ d' _ h => lane_inj z d d' h) (fun d _ => Finset.mem_coe.2 (Finset.mem_univ _)) ?_ ?_
  · intro l _ hl
    rw [if_neg, zero_mul]
    intro hz
    obtain ⟨d, hd⟩ := lane_onto z l hz
    exact hl ⟨d, Finset.mem_coe.2 (Finset.mem_univ _), hd⟩
  · intro d _
    rw [if_pos (lane_place z d)]

end Softmax
-- ==== Proof.Dense.Block.lean ====
module
public import proofs.«01_k».proof.Proof.Gen.DenseIdeal.Frame
public import proofs.«01_k».proof.Proof.Softmax

/-! What one block of the dense attention computes.

A block holds 128 queries of all heads (four chunks of 128 lanes, two heads each) and the keys and values of one batch
entry. For a group `g` of heads the body stacks its two chunks twice, once for each head of a chunk, the other head's
lanes zeroed, and multiplies by the group's keys. Row `256 j + 128 z + r` of the stack is query `r` of head `z` of chunk
`j`. `group0` and `group1` read the two groups' results at a row and a lane. -/

set_option maxRecDepth 16384

@[expose] public section

noncomputable section

open Idealize.ShloMosaic Idealize.ShloMosaic.TcCoe Idealize.SL.Sem

namespace Cert.DenseIdeal.Value
open Cert.DenseIdeal Cert.DenseIdeal.Gen

/-- The mask of the first head of a chunk: the lanes whose place is 0. -/
theorem place_mask : ∀ l : Fin 128, (k0_pay4 (ix2 0 l) : BitVec 1) = if (l : ℕ) / 32 % 2 = 0 then 1#1 else 0#1 := by
  decide +kernel

/-- The lanes below 64 of a chunk. -/
theorem low_mask : ∀ l : Fin 128, (k0_pay5 (iota .tc S1x128 32 [1] iota_S1x128_d1_w32) 64#32 (ix2 0 l) : BitVec 1)
    = if (l : ℕ) < 64 then 1#1 else 0#1 := by
  decide +kernel

/-- The stacked queries at a row and a lane: the row's head keeps its own lanes. -/
theorem stack_at (a b : Vec Ideal S1x128x128 .bf16) (r : Fin 512) (j z : Fin 2) (q : Fin 128)
    (hr : (r : ℕ) = 256 * j + 128 * z + q) (l : Fin 128) :
    k0_pay6 (F := Ideal) k0_pay4 a b (ix2 r l)
      = if (l : ℕ) / 32 % 2 = z then (if (j : ℕ) = 0 then a (ix3 0 q l) else b (ix3 0 q l)) else (0 : EReal) := by
  pointwise [k0_pay6]
  rw [place_mask]
  have hq := q.isLt
  obtain ⟨j, hj⟩ := j
  obtain ⟨z, hz⟩ := z
  have hj' : j = 0 ∨ j = 1 := by omega
  have hz' : z = 0 ∨ z = 1 := by omega
  have hl : (l : ℕ) / 32 % 2 = 0 ∨ (l : ℕ) / 32 % 2 = 1 := by omega
  have e (w : ℕ) (hw : w < 128) (hwq : w = q) : (⟨w, hw⟩ : Fin 128) = q := Fin.ext hwq
  rcases hj' with rfl | rfl <;> rcases hz' with rfl | rfl <;> simp only [] at hr <;>
    first
    | rw [dif_pos (by omega), e _ _ (by omega)]
    | rw [dif_neg (by omega), dif_pos (by omega), e _ _ (by omega)]
    | rw [dif_neg (by omega), dif_neg (by omega), dif_pos (by omega), e _ _ (by omega)]
    | rw [dif_neg (by omega), dif_neg (by omega), dif_neg (by omega), e _ _ (by omega)]
  all_goals rcases hl with hl | hl <;> simp [hl, Scalar.select]

/-- The scores of stacked queries against the keys of the sequence. -/
def scores (a : FVec Ideal S512x128 .bf16) (k : FVec Ideal S2048x128 .bf16) : FVec Ideal S512x2048 .f32 :=
  matmul dot_S512x128_S2048x128_S512x2048_1_1_0_0_n_n none a k (constant S512x2048 .f32 0x00000000#32)

/-- The scores of stacked queries against the keys of the context. -/
def scoresC (a : FVec Ideal S512x128 .bf16) (k : FVec Ideal S256x128 .bf16) : FVec Ideal S512x256 .f32 :=
  matmul dot_S512x128_S256x128_S512x256_1_1_0_0_n_n none a k (constant S512x256 .f32 0x00000000#32)

/-- The largest score of every row. -/
def tops (s : FVec Ideal S512x2048 .f32) (sc : FVec Ideal S512x256 .f32) : FVec Ideal S512x1 .f32 :=
  maximumf
    (shapeCast S512x1 (multiReduction .maximumf [1] S512 s 0xFF800000#32 reduces_S512x2048_S512 (.inl rfl) rfl) shapeCasts_S512_S512x1)
    (shapeCast S512x1 (multiReduction .maximumf [1] S512 sc 0xFF800000#32 reduces_S512x256_S512 (.inl rfl) rfl) shapeCasts_S512_S512x1)

/-- The weighted values of every row, from its scores. -/
def weigh (s : FVec Ideal S512x2048 .f32) (sc : FVec Ideal S512x256 .f32) (v : FVec Ideal S2048x128 .bf16)
    (vc : FVec Ideal S256x128 .bf16) : FVec Ideal S512x128 .f32 :=
  k0_pay13 v vc sc (tops s sc) (subf s (broadcastTo S512x2048 (tops s sc) broadcasts_S512x1_S512x2048))

/-- The larger of two columns at a row. -/
theorem larger_at (a b : FVec Ideal S512x1 .f32) (r : Fin 512) : maximumf a b (ix2 r 0) = max (a (ix2 r 0)) (b (ix2 r 0)) := by
  pointwise

/-- The largest score of a row is the larger of the sequence's and the context's. -/
theorem tops_at (s : FVec Ideal S512x2048 .f32) (sc : FVec Ideal S512x256 .f32) (r : Fin 512) :
    tops s sc (ix2 r 0) = max (Softmax.top fun t : Fin 2048 => s (ix2 r t)) (Softmax.top fun t : Fin 256 => sc (ix2 r t)) := by
  refine (larger_at _ _ r).trans (congrArg₂ max ?_ ?_)
  · pointwise
    exact Softmax.fold_eq_top _ (fun _ _ => rfl) _ Softmax.negInf _
  · pointwise
    exact Softmax.fold_eq_top _ (fun _ _ => rfl) _ Softmax.negInf _

/-- The weighted values at a row and a lane. -/
theorem weigh_at (s : FVec Ideal S512x2048 .f32) (sc : FVec Ideal S512x256 .f32) (v : FVec Ideal S2048x128 .bf16)
    (vc : FVec Ideal S256x128 .bf16) (r : Fin 512) (l : Fin 128) :
    weigh s sc v vc (ix2 r l) = Softmax.joint (fun t : Fin 2048 => s (ix2 r t)) (fun t => v (ix2 t l))
      (fun t : Fin 256 => sc (ix2 r t)) (fun t => vc (ix2 t l)) := by
  have ht := tops_at s sc r
  pointwise [weigh, k0_pay13, Softmax.joint, ht]

/-- The scores at a row and a key, for stacked queries that keep the lanes of place `z`. -/
theorem scores_at (a : FVec Ideal S512x128 .bf16) (k : FVec Ideal S2048x128 .bf16) (r : Fin 512) (t : Fin 2048) (z : Fin 2)
    (x : Fin 128 → EReal) (hx : ∀ l, a (ix2 r l) = if (l : ℕ) / 32 % 2 = z then x l else 0) :
    scores a k (ix2 r t) = ∑ d : Fin 64, x (Softmax.lane z d) * k (ix2 t (Softmax.lane z d)) := by
  pointwise [scores]
  rw [← Softmax.masked_dot z x fun l => k (ix2 t l)]
  exact Finset.sum_congr rfl fun l _ => by rw [hx l]

/-- The same against a key of the context. -/
theorem scoresC_at (a : FVec Ideal S512x128 .bf16) (k : FVec Ideal S256x128 .bf16) (r : Fin 512) (t : Fin 256) (z : Fin 2)
    (x : Fin 128 → EReal) (hx : ∀ l, a (ix2 r l) = if (l : ℕ) / 32 % 2 = z then x l else 0) :
    scoresC a k (ix2 r t) = ∑ d : Fin 64, x (Softmax.lane z d) * k (ix2 t (Softmax.lane z d)) := by
  pointwise [scoresC]
  rw [← Softmax.masked_dot z x fun l => k (ix2 t l)]
  exact Finset.sum_congr rfl fun l _ => by rw [hx l]

/-- The attention of head `z` of chunk `j` of group `g`, for query `q` of a block, at lane `l` of the values. -/
def headOf (x0 : Vec Ideal S1x128x512 .bf16) (x1 : Vec Ideal S1x2048x256 .bf16) (x2 : Vec Ideal S1x2048x128 .bf16)
    (x3 : Vec Ideal S1x256x256 .bf16) (x4 : Vec Ideal S1x256x128 .bf16) (g j z : Fin 2) (q l : Fin 128) : EReal :=
  Softmax.joint
    (fun t : Fin 2048 => ∑ d : Fin 64, x0 (ix3 0 q ⟨256 * g + 128 * j + Softmax.lane z d, by omega⟩)
      * x1 (ix3 0 t ⟨128 * g + Softmax.lane z d, by omega⟩))
    (fun t => x2 (ix3 0 t l))
    (fun t : Fin 256 => ∑ d : Fin 64, x0 (ix3 0 q ⟨256 * g + 128 * j + Softmax.lane z d, by omega⟩)
      * x3 (ix3 0 t ⟨128 * g + Softmax.lane z d, by omega⟩))
    (fun t => x4 (ix3 0 t l))

/-- Group 0 at row `256 j + 128 z + q` and lane `l`. -/
theorem group0 (x0 : Vec Ideal S1x128x512 .bf16) (x1 : Vec Ideal S1x2048x256 .bf16) (x2 : Vec Ideal S1x2048x128 .bf16)
    (x3 : Vec Ideal S1x256x256 .bf16) (x4 : Vec Ideal S1x256x128 .bf16) (r : Fin 512) (j z : Fin 2) (q : Fin 128)
    (hr : (r : ℕ) = 256 * j + 128 * z + q) (l : Fin 128) :
    k0_pay23 (F := Ideal) x0 x1 x2 x3 x4 (ix2 r l) = headOf x0 x1 x2 x3 x4 0 j z q l := by
  have st (a b : Vec Ideal S1x128x128 .bf16) (l : Fin 128) := stack_at a b r j z q hr l
  have e : k0_pay23 (F := Ideal) x0 x1 x2 x3 x4
      = weigh (scores (k0_pay6 k0_pay4 (View.ld x0 r0_0) (View.ld x0 r0_1)) (k0_pay7 (View.ld x1 r0_2)))
          (scoresC (k0_pay6 k0_pay4 (View.ld x0 r0_0) (View.ld x0 r0_1)) (k0_pay8 (View.ld x3 r0_4)))
          (k0_pay7 (View.ld x2 r0_3)) (k0_pay8 (View.ld x4 r0_5)) := by
    unfold k0_pay23 k0_pay21 k0_pay12 k0_pay11 weigh tops
    rfl
  rw [e, weigh_at]
  unfold headOf
  congr 1 <;> funext t
  · rw [scores_at _ _ r t z _ (st _ _)]
    refine Finset.sum_congr rfl fun d _ => ?_
    pointwise [k0_pay7]
    fin_vals j with hj <;> simp [hj]
  · pointwise [k0_pay7]
  · rw [scoresC_at _ _ r t z _ (st _ _)]
    refine Finset.sum_congr rfl fun d _ => ?_
    pointwise [k0_pay8]
    fin_vals j with hj <;> simp [hj]
  · pointwise [k0_pay8]

/-- Group 1 at row `256 j + 128 z + q` and lane `l`. -/
theorem group1 (x0 : Vec Ideal S1x128x512 .bf16) (x1 : Vec Ideal S1x2048x256 .bf16) (x2 : Vec Ideal S1x2048x128 .bf16)
    (x3 : Vec Ideal S1x256x256 .bf16) (x4 : Vec Ideal S1x256x128 .bf16) (r : Fin 512) (j z : Fin 2) (q : Fin 128)
    (hr : (r : ℕ) = 256 * j + 128 * z + q) (l : Fin 128) :
    k0_pay28 (F := Ideal) x0 x1 x2 x3 x4 (ix2 r l) = headOf x0 x1 x2 x3 x4 1 j z q l := by
  have st (a b : Vec Ideal S1x128x128 .bf16) (l : Fin 128) := stack_at a b r j z q hr l
  have e : k0_pay28 (F := Ideal) x0 x1 x2 x3 x4
      = weigh (scores (k0_pay6 k0_pay4 (View.ld x0 r0_6) (View.ld x0 r0_7)) (k0_pay7 (View.ld x1 r0_8)))
          (scoresC (k0_pay6 k0_pay4 (View.ld x0 r0_6) (View.ld x0 r0_7)) (k0_pay8 (View.ld x3 r0_9)))
          (k0_pay7 (View.ld x2 r0_3)) (k0_pay8 (View.ld x4 r0_5)) := by
    unfold k0_pay28 k0_pay27 k0_pay26 k0_pay25 k0_pay24 k0_pay21 k0_pay18 weigh tops scores scoresC k0_pay13
    rfl
  rw [e, weigh_at]
  unfold headOf
  congr 1 <;> funext t
  · rw [scores_at _ _ r t z _ (st _ _)]
    refine Finset.sum_congr rfl fun d _ => ?_
    pointwise [k0_pay7]
    fin_vals j with hj <;> simp [hj]
  · pointwise [k0_pay7]
  · rw [scoresC_at _ _ r t z _ (st _ _)]
    refine Finset.sum_congr rfl fun d _ => ?_
    pointwise [k0_pay8]
    fin_vals j with hj <;> simp [hj]
  · pointwise [k0_pay8]

/-- A chunk's lower half is group 0's head, its upper half group 1's. -/
theorem half (x0 : Vec Ideal S1x128x512 .bf16) (x1 : Vec Ideal S1x2048x256 .bf16) (x2 : Vec Ideal S1x2048x128 .bf16)
    (x3 : Vec Ideal S1x256x256 .bf16) (x4 : Vec Ideal S1x256x128 .bf16) (c : Fin 4) (q l : Fin 128) :
    Scalar.select (k0_pay22 (F := Ideal) x0 x1 x2 x3 x4 (ix2 0 l))
        (k0_pay23 (F := Ideal) x0 x1 x2 x3 x4 (ix2 ⟨128 * c + q, by omega⟩ l))
        (k0_pay28 (F := Ideal) x0 x1 x2 x3 x4 (ix2 ⟨128 * c + q, by omega⟩ l))
      = headOf x0 x1 x2 x3 x4 ⟨(l : ℕ) / 64, by omega⟩ ⟨(c : ℕ) / 2, by omega⟩ ⟨(c : ℕ) % 2, by omega⟩ q l := by
  rw [group0 x0 x1 x2 x3 x4 _ ⟨(c : ℕ) / 2, by omega⟩ ⟨(c : ℕ) % 2, by omega⟩ q (by simp only; omega) l,
    group1 x0 x1 x2 x3 x4 _ ⟨(c : ℕ) / 2, by omega⟩ ⟨(c : ℕ) % 2, by omega⟩ q (by simp only; omega) l]
  rw [show k0_pay22 (F := Ideal) x0 x1 x2 x3 x4 (ix2 0 l) = _ from low_mask l]
  by_cases h : (l : ℕ) < 64
  · have e : (⟨(l : ℕ) / 64, by omega⟩ : Fin 2) = 0 := Fin.ext (by simp only [Fin.val_zero]; omega)
    rw [if_pos h, e]; rfl
  · have e : (⟨(l : ℕ) / 64, by omega⟩ : Fin 2) = 1 := Fin.ext (by simp only [Fin.val_one]; omega)
    rw [if_neg h, e]; rfl

/-- What the body stores at query `q` and column `e`. -/
theorem out_at (x0 : Vec Ideal S1x128x512 .bf16) (x1 : Vec Ideal S1x2048x256 .bf16) (x2 : Vec Ideal S1x2048x128 .bf16)
    (x3 : Vec Ideal S1x256x256 .bf16) (x4 : Vec Ideal S1x256x128 .bf16) (q : Fin 128) (e : Fin 512) :
    out0_5 (F := Ideal) x0 x1 x2 x3 x4 (ix3 0 q e)
      = headOf x0 x1 x2 x3 x4 ⟨(e : ℕ) / 64 % 2, by omega⟩ ⟨(e : ℕ) / 256, by omega⟩ ⟨(e : ℕ) / 128 % 2, by omega⟩ q
          ⟨(e : ℕ) % 128, by omega⟩ := by
  have hh (c : Fin 4) (l : Fin 128) (he : (e : ℕ) = 128 * c + l) :=
    (half x0 x1 x2 x3 x4 c q l).trans (show _ = headOf x0 x1 x2 x3 x4 ⟨(e : ℕ) / 64 % 2, by omega⟩ ⟨(e : ℕ) / 256, by omega⟩
      ⟨(e : ℕ) / 128 % 2, by omega⟩ q ⟨(e : ℕ) % 128, by omega⟩ by congr 1 <;> refine Fin.ext ?_ <;> simp only <;> omega)
  unfold out0_5
  canon_tiles u h
  all_goals
    idx_vars u
    obtain rfl : q = _ := Fin.ext h1
  · refine Eq.trans ?_ (hh 3 _ h2)
    pointwise [k0_pay3]
  · refine Eq.trans ?_ (hh 2 _ h2)
    pointwise [k0_pay2]
  · refine Eq.trans ?_ (hh 1 _ h2)
    pointwise [k0_pay1, k0_pay20]
    rfl
  · refine Eq.trans ?_ (hh 0 u2 (by simpa using h2))
    pointwise [k0_pay19]
    rfl

end Cert.DenseIdeal.Value
-- ==== Proof.Dense.Spec.lean ====
module
public import proofs.«01_k».proof.Proof.Softmax

/-! The dense attention's result, element by element, from the five argument arrays. -/

set_option maxRecDepth 16384

@[expose] public section

noncomputable section

open Idealize.ShloMosaic

namespace DenseSpec

/-- The attention of head `z` of chunk `j` of group `g`, for query `s` of batch entry `b`, at lane `l` of the values: the
    softmax of the query's products with the keys of the sequence and of the context, weighing their values. -/
def head (Q : FVec Ideal ⟨3, ![32, 2048, 512]⟩ .bf16) (K : FVec Ideal ⟨3, ![32, 2048, 256]⟩ .bf16)
    (V : FVec Ideal ⟨3, ![32, 2048, 128]⟩ .bf16) (KC : FVec Ideal ⟨3, ![32, 256, 256]⟩ .bf16)
    (VC : FVec Ideal ⟨3, ![32, 256, 128]⟩ .bf16) (b : Fin 32) (s : Fin 2048) (g j z : Fin 2) (l : Fin 128) : EReal :=
  Softmax.joint
    (fun t : Fin 2048 => ∑ d : Fin 64, Q (ix3 b s ⟨256 * g + 128 * j + Softmax.lane z d, by omega⟩)
      * K (ix3 b t ⟨128 * g + Softmax.lane z d, by omega⟩))
    (fun t => V (ix3 b t l))
    (fun t : Fin 256 => ∑ d : Fin 64, Q (ix3 b s ⟨256 * g + 128 * j + Softmax.lane z d, by omega⟩)
      * KC (ix3 b t ⟨128 * g + Softmax.lane z d, by omega⟩))
    (fun t => VC (ix3 b t l))

/-- The result at query `s` of batch entry `b` and column `e`. -/
def out (Q : FVec Ideal ⟨3, ![32, 2048, 512]⟩ .bf16) (K : FVec Ideal ⟨3, ![32, 2048, 256]⟩ .bf16)
    (V : FVec Ideal ⟨3, ![32, 2048, 128]⟩ .bf16) (KC : FVec Ideal ⟨3, ![32, 256, 256]⟩ .bf16)
    (VC : FVec Ideal ⟨3, ![32, 256, 128]⟩ .bf16) (b : Fin 32) (s : Fin 2048) (e : Fin 512) : EReal :=
  head Q K V KC VC b s ⟨(e : ℕ) / 64 % 2, by omega⟩ ⟨(e : ℕ) / 256, by omega⟩ ⟨(e : ℕ) / 128 % 2, by omega⟩
    ⟨(e : ℕ) % 128, by omega⟩

end DenseSpec
-- ==== Proof.Dense.Value.lean ====
module
public import proofs.«01_k».proof.Proof.Dense.Block
public import proofs.«01_k».proof.Proof.Dense.Spec
public import Idealize.ShloMosaic.Lib.Pipeline.ValueKit

/-! The array the dense attention's kernel leaves. -/

set_option maxRecDepth 16384

@[expose] public section

noncomputable section

open Idealize.ShloMosaic Idealize.ShloMosaic.TcCoe Idealize.SL.Sem

namespace Cert.DenseIdeal.Value
open Cert.DenseIdeal Cert.DenseIdeal.Gen

variable (m : (ℓ : Loc nD τ sig) → Buf (Elt Ideal) ℓ)

/-- Point `t` of the grid is query tile `t % 16` of batch entry `t / 16`. -/
theorem idx : ∀ t : Fin cfg0.N, win0_0.index t = ![t.val / 16, t.val % 16, 0] ∧ win0_1.index t = ![t.val / 16, 0, 0]
    ∧ win0_2.index t = ![t.val / 16, 0, 0] ∧ win0_3.index t = ![t.val / 16, 0, 0] ∧ win0_4.index t = ![t.val / 16, 0, 0]
    ∧ win0_5.index t = ![t.val / 16, t.val % 16, 0] ∧ t.val / 16 < 32 :=
  (by decide +kernel : ∀ t : Fin grid0.N, _)

/-- A grid point's block of the queries. -/
theorem read0 (c : Dev nD) (t : Fin cfg0.N) (r : Fin 128) (e : Fin 512) : iblk m c 0 t (ix3 0 r e : S1x128x512.Idx)
    = m ((c.tc : Thread nD τ).loc main_arg0) (ix3 ⟨t.val / 16, (idx t).2.2.2.2.2.2⟩ ⟨128 * (t.val % 16) + r, by omega⟩ e) := by
  blk_ext [iblk, V, idx t]

/-- A grid point's block of the keys. -/
theorem read1 (c : Dev nD) (t : Fin cfg0.N) (r : Fin 2048) (e : Fin 256) : iblk m c 1 t (ix3 0 r e : S1x2048x256.Idx)
    = m ((c.tc : Thread nD τ).loc main_arg1) (ix3 ⟨t.val / 16, (idx t).2.2.2.2.2.2⟩ r e) := by
  blk_ext [iblk, V, idx t]

/-- A grid point's block of the values. -/
theorem read2 (c : Dev nD) (t : Fin cfg0.N) (r : Fin 2048) (e : Fin 128) : iblk m c 2 t (ix3 0 r e : S1x2048x128.Idx)
    = m ((c.tc : Thread nD τ).loc main_arg2) (ix3 ⟨t.val / 16, (idx t).2.2.2.2.2.2⟩ r e) := by
  blk_ext [iblk, V, idx t]

/-- A grid point's block of the context's keys. -/
theorem read3 (c : Dev nD) (t : Fin cfg0.N) (r : Fin 256) (e : Fin 256) : iblk m c 3 t (ix3 0 r e : S1x256x256.Idx)
    = m ((c.tc : Thread nD τ).loc main_arg3) (ix3 ⟨t.val / 16, (idx t).2.2.2.2.2.2⟩ r e) := by
  blk_ext [iblk, V, idx t]

/-- A grid point's block of the context's values. -/
theorem read4 (c : Dev nD) (t : Fin cfg0.N) (r : Fin 256) (e : Fin 128) : iblk m c 4 t (ix3 0 r e : S1x256x128.Idx)
    = m ((c.tc : Thread nD τ).loc main_arg4) (ix3 ⟨t.val / 16, (idx t).2.2.2.2.2.2⟩ r e) := by
  blk_ext [iblk, V, idx t]

/-- A head's attention, from blocks that hold the arrays' elements at a place, is that of the arrays at the place. -/
theorem head_of_reads (x0 : Vec Ideal S1x128x512 .bf16) (x1 : Vec Ideal S1x2048x256 .bf16) (x2 : Vec Ideal S1x2048x128 .bf16)
    (x3 : Vec Ideal S1x256x256 .bf16) (x4 : Vec Ideal S1x256x128 .bf16) (Q : FVec Ideal S32x2048x512 .bf16)
    (K : FVec Ideal S32x2048x256 .bf16) (V : FVec Ideal S32x2048x128 .bf16) (KC : FVec Ideal S32x256x256 .bf16)
    (VC : FVec Ideal S32x256x128 .bf16) (b : Fin 32) (s : Fin 2048) (q : Fin 128)
    (h0 : ∀ e, x0 (ix3 0 q e) = Q (ix3 b s e)) (h1 : ∀ r e, x1 (ix3 0 r e) = K (ix3 b r e))
    (h2 : ∀ r e, x2 (ix3 0 r e) = V (ix3 b r e)) (h3 : ∀ r e, x3 (ix3 0 r e) = KC (ix3 b r e))
    (h4 : ∀ r e, x4 (ix3 0 r e) = VC (ix3 b r e)) (g j z : Fin 2) (l : Fin 128) :
    headOf x0 x1 x2 x3 x4 g j z q l = DenseSpec.head Q K V KC VC b s g j z l := by
  unfold headOf DenseSpec.head
  simp only [h0, h1, h2, h3, h4]

/-- A head's attention, from the blocks of a grid point, is that of the arrays at the point's place. -/
theorem head_block (c : Dev nD) (t : Fin cfg0.N) (g j z : Fin 2) (q l : Fin 128) :
    headOf (iblk m c 0 t) (iblk m c 1 t) (iblk m c 2 t) (iblk m c 3 t) (iblk m c 4 t) g j z q l
      = DenseSpec.head (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        ⟨t.val / 16, (idx t).2.2.2.2.2.2⟩ ⟨128 * (t.val % 16) + q, by omega⟩ g j z l :=
  head_of_reads _ _ _ _ _ _ _ _ _ _ _ _ _ (read0 m c t q) (read1 m c t) (read2 m c t) (read3 m c t) (read4 m c t) g j z l

/-- The result array. -/
def result (c : Dev nD) : FVec Ideal S32x2048x512 .bf16 := fun i =>
  DenseSpec.out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (i 0) (i 1) (i 2)

/-- The result array at three coordinates. -/
theorem result_at (c : Dev nD) (b : Fin 32) (s : Fin 2048) (e : Fin 512) : result m c (ix3 b s e)
    = DenseSpec.out (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) b s e := rfl

/-- What a grid point stores is its block of the result. -/
theorem point (c : Dev nD) (t : Fin cfg0.N) (y : S1x128x512.Idx) :
    out0_5 (iblk m c 0 t) (iblk m c 1 t) (iblk m c 2 t) (iblk m c 3 t) (iblk m c 4 t) y
      = result m c (((cfg0.win 5).blk t).view.emb y) := by
  idx_vars y
  obtain rfl : y0 = 0 := Subsingleton.elim _ _
  rw [out_at, head_block]
  unfold result DenseSpec.out
  congr 1 <;> refine Fin.ext ?_ <;> blk_simp [idx t] <;> first | omega | (simp; done) | (simp; omega)

/-- The array after the run. -/
theorem final (c : Dev nD) : (dats m 0 c).arrAt 5 (cfgs 0).N = result m c := by
  refine (dats m 0 c).arrAt_eq_of_covers 5 _ (by decide +kernel) fun t _ y => ?_
  blk_simp
  rw [after0_5]
  exact point m c t y

end Cert.DenseIdeal.Value
-- ==== Proof.Dense.Ref.lean ====
module
public import proofs.«01_k».proof.Proof.Gen.DenseRefIdeal.Read
public import proofs.«01_k».proof.Proof.Dense.Spec

/-! What the reference of the dense attention computes, element by element. -/

set_option maxRecDepth 16384

@[expose] public section

noncomputable section

open Idealize.ShloMosaic Idealize.ShloMosaic.TcCoe Idealize.SL.Sem

namespace Cert.DenseRefIdeal.Value
open Cert.DenseRefIdeal Cert.DenseRefIdeal.Gen Cert.DenseRefIdeal.Read

variable (Q : FVec Ideal S32x2048x512 .bf16) (K : FVec Ideal S32x2048x256 .bf16) (V : FVec Ideal S32x2048x128 .bf16)
  (KC : FVec Ideal S32x256x256 .bf16) (VC : FVec Ideal S32x256x128 .bf16)

/-- The queries' chunks, halves and places. -/
theorem query_chunk (b : Fin 32) (s : Fin 2048) (n : Fin 4) (hf p : Fin 2) (r : Fin 32) :
    val_main_v5 (F := Ideal) Q (ix6 b s n hf p r)
      = Q (ix3 b s ⟨(n : ℕ) * 128 + (hf : ℕ) * 64 + (p : ℕ) * 32 + r, by omega⟩) := by
  pointwise [val_main_v5, val_main_v0]

/-- Halves and places exchanged. -/
theorem query_swap (b : Fin 32) (s : Fin 2048) (n : Fin 4) (p hf : Fin 2) (r : Fin 32) :
    val_main_v6 (F := Ideal) Q (ix6 b s n p hf r) = val_main_v5 (F := Ideal) Q (ix6 b s n hf p r) := by
  rw [val_main_v6_apply]
  generalize val_main_v5 (F := Ideal) Q = X
  refine congrArg X (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- A chunk and a place of it counted as one: the heads. -/
theorem query_join (b : Fin 32) (s : Fin 2048) (h : Fin 8) (hf u : Fin 2) (r : Fin 16) :
    val_main_v7 (F := Ideal) Q (ix6 b s h hf u r)
      = val_main_v6 (F := Ideal) Q (ix6 b s ⟨(h : ℕ) / 2, by omega⟩ ⟨(h : ℕ) % 2, by omega⟩ hf ⟨(u : ℕ) * 16 + r, by omega⟩) := by
  pointwise [val_main_v7]

/-- Halves and quarters exchanged. -/
theorem query_turn (b : Fin 32) (s : Fin 2048) (h : Fin 8) (u hf : Fin 2) (r : Fin 16) :
    val_main_v8 (F := Ideal) Q (ix6 b s h u hf r) = val_main_v7 (F := Ideal) Q (ix6 b s h hf u r) := by
  rw [val_main_v8_apply]
  generalize val_main_v7 (F := Ideal) Q = X
  refine congrArg X (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- The dims of a head counted as one axis. -/
theorem query_dims (b : Fin 32) (s : Fin 2048) (h : Fin 8) (d : Fin 64) :
    val_main_v9 (F := Ideal) Q (ix4 b s h d)
      = val_main_v8 (F := Ideal) Q (ix6 b s h ⟨(d : ℕ) / 32, by omega⟩ ⟨(d : ℕ) / 16 % 2, by omega⟩ ⟨(d : ℕ) % 16, by omega⟩) := by
  pointwise [val_main_v9]

/-- A head's query: its 64 dims, from the lanes of its chunk. -/
theorem query_at (b : Fin 32) (s : Fin 2048) (h : Fin 8) (d : Fin 64) :
    val_main_v9 (F := Ideal) Q (ix4 b s h d) = Q (ix3 b s ⟨128 * ((h : ℕ) / 2) + Softmax.lane ⟨(h : ℕ) % 2, by omega⟩ d, by omega⟩) := by
  rw [query_dims, query_turn, query_join, query_swap, query_chunk]
  exact congrArg (fun e => Q (ix3 b s e)) (Fin.ext (by simp only [Softmax.lane]; omega))

/-- The keys of the sequence followed by those of the context. -/
theorem keys_at (b : Fin 32) (t : Fin 2304) (e : Fin 256) :
    val_main_v10 (F := Ideal) K KC (ix3 b t e)
      = if ht : (t : ℕ) < 2048 then K (ix3 b ⟨t, ht⟩ e) else KC (ix3 b ⟨(t : ℕ) - 2048, by omega⟩ e) := by
  pointwise [val_main_v10, val_main_v3, val_main_v1]

/-- The keys' chunks, halves and places. -/
theorem chunk_at (b : Fin 32) (t : Fin 2304) (n hf p : Fin 2) (r : Fin 32) :
    val_main_v11 (F := Ideal) K KC (ix6 b t n hf p r)
      = val_main_v10 (F := Ideal) K KC (ix3 b t ⟨(n : ℕ) * 128 + (hf : ℕ) * 64 + (p : ℕ) * 32 + r, by omega⟩) := by
  pointwise [val_main_v11]

/-- Halves and places exchanged. -/
theorem swap_at (b : Fin 32) (t : Fin 2304) (n p hf : Fin 2) (r : Fin 32) :
    val_main_v12 (F := Ideal) K KC (ix6 b t n p hf r) = val_main_v11 (F := Ideal) K KC (ix6 b t n hf p r) := by
  rw [val_main_v12_apply]
  generalize val_main_v11 (F := Ideal) K KC = X
  refine congrArg X (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- A chunk and a place of it counted as one. -/
theorem join_at (b : Fin 32) (t : Fin 2304) (n : Fin 4) (hf u : Fin 2) (r : Fin 16) :
    val_main_v13 (F := Ideal) K KC (ix6 b t n hf u r)
      = val_main_v12 (F := Ideal) K KC (ix6 b t ⟨(n : ℕ) / 2, by omega⟩ ⟨(n : ℕ) % 2, by omega⟩ hf ⟨(u : ℕ) * 16 + r, by omega⟩) := by
  pointwise [val_main_v13]

/-- Halves and quarters exchanged. -/
theorem turn_at (b : Fin 32) (t : Fin 2304) (n : Fin 4) (u hf : Fin 2) (r : Fin 16) :
    val_main_v14 (F := Ideal) K KC (ix6 b t n u hf r) = val_main_v13 (F := Ideal) K KC (ix6 b t n hf u r) := by
  rw [val_main_v14_apply]
  generalize val_main_v13 (F := Ideal) K KC = X
  refine congrArg X (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- The dims of a place counted as one axis. -/
theorem dims_at (b : Fin 32) (t : Fin 2304) (n : Fin 4) (d : Fin 64) :
    val_main_v15 (F := Ideal) K KC (ix4 b t n d)
      = val_main_v14 (F := Ideal) K KC (ix6 b t n ⟨(d : ℕ) / 32, by omega⟩ ⟨(d : ℕ) / 16 % 2, by omega⟩ ⟨(d : ℕ) % 16, by omega⟩) := by
  pointwise [val_main_v15]

/-- Place `n` of the keys: its 64 dims, from the lanes of its chunk. -/
theorem place_at (b : Fin 32) (t : Fin 2304) (n : Fin 4) (d : Fin 64) :
    val_main_v15 (F := Ideal) K KC (ix4 b t n d)
      = val_main_v10 (F := Ideal) K KC (ix3 b t ⟨128 * ((n : ℕ) / 2) + Softmax.lane ⟨(n : ℕ) % 2, by omega⟩ d, by omega⟩) := by
  rw [dims_at, turn_at, join_at, swap_at, chunk_at]
  exact congrArg (fun e => val_main_v10 (F := Ideal) K KC (ix3 b t e)) (Fin.ext (by simp only [Softmax.lane]; omega))

/-- A group's places, with an axis to copy them along. -/
theorem group_at (b : Fin 32) (t : Fin 2304) (g : Fin 2) (o : Fin 1) (p : Fin 2) (d : Fin 64) :
    val_main_v16 (F := Ideal) K KC (ix6 b t g o p d)
      = val_main_v15 (F := Ideal) K KC (ix4 b t ⟨(g : ℕ) * 2 + p, by omega⟩ d) := by
  pointwise [val_main_v16]

/-- Every copy is the same. -/
theorem copies_at (b : Fin 32) (t : Fin 2304) (g j p : Fin 2) (d : Fin 64) :
    val_main_v17 (F := Ideal) K KC (ix6 b t g j p d) = val_main_v16 (F := Ideal) K KC (ix6 b t g 0 p d) := by
  rw [val_main_v17_apply]
  generalize val_main_v16 (F := Ideal) K KC = X
  refine congrArg X (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- The heads of a group counted as one axis. -/
theorem heads_at (b : Fin 32) (t : Fin 2304) (h : Fin 8) (d : Fin 64) :
    val_main_v18 (F := Ideal) K KC (ix4 b t h d)
      = val_main_v17 (F := Ideal) K KC (ix6 b t ⟨(h : ℕ) / 4, by omega⟩ ⟨(h : ℕ) / 2 % 2, by omega⟩ ⟨(h : ℕ) % 2, by omega⟩ d) := by
  pointwise [val_main_v18]

/-- A head's key is that of its group and its place in a pair. -/
theorem copy_at (b : Fin 32) (t : Fin 2304) (h : Fin 8) (d : Fin 64) :
    val_main_v18 (F := Ideal) K KC (ix4 b t h d)
      = val_main_v15 (F := Ideal) K KC (ix4 b t ⟨(h : ℕ) / 4 * 2 + (h : ℕ) % 2, by omega⟩ d) := by
  rw [heads_at, copies_at, group_at]

/-- A head's key at a position of the sequence followed by the context. -/
theorem key_at (b : Fin 32) (t : Fin 2304) (h : Fin 8) (d : Fin 64) :
    val_main_v18 (F := Ideal) K KC (ix4 b t h d) = if ht : (t : ℕ) < 2048
      then K (ix3 b ⟨t, ht⟩ ⟨128 * ((h : ℕ) / 4) + Softmax.lane ⟨(h : ℕ) % 2, by omega⟩ d, by omega⟩)
      else KC (ix3 b ⟨(t : ℕ) - 2048, by omega⟩ ⟨128 * ((h : ℕ) / 4) + Softmax.lane ⟨(h : ℕ) % 2, by omega⟩ d, by omega⟩) := by
  rw [copy_at, place_at, keys_at]
  have e : (⟨128 * ((⟨(h : ℕ) / 4 * 2 + (h : ℕ) % 2, by omega⟩ : Fin 4) / 2 : ℕ)
        + Softmax.lane ⟨((⟨(h : ℕ) / 4 * 2 + (h : ℕ) % 2, by omega⟩ : Fin 4) : ℕ) % 2, by omega⟩ d, by omega⟩ : Fin 256)
      = ⟨128 * ((h : ℕ) / 4) + Softmax.lane ⟨(h : ℕ) % 2, by omega⟩ d, by omega⟩ := by
    refine Fin.ext ?_
    simp only [Softmax.lane]
    omega
  rw [e]

/-- The values of the sequence followed by those of the context. -/
theorem values_at (b : Fin 32) (t : Fin 2304) (e : Fin 128) :
    val_main_v19 (F := Ideal) V VC (ix3 b t e)
      = if ht : (t : ℕ) < 2048 then V (ix3 b ⟨t, ht⟩ e) else VC (ix3 b ⟨(t : ℕ) - 2048, by omega⟩ e) := by
  pointwise [val_main_v19, val_main_v4, val_main_v2]

/-- The values by group, with an axis to copy them along. -/
theorem value_group (b : Fin 32) (t : Fin 2304) (g : Fin 2) (o : Fin 1) (d : Fin 64) :
    val_main_v20 (F := Ideal) V VC (ix5 b t g o d)
      = val_main_v19 (F := Ideal) V VC (ix3 b t ⟨(g : ℕ) * 64 + d, by omega⟩) := by
  pointwise [val_main_v20]

/-- Every copy is the same. -/
theorem value_copies (b : Fin 32) (t : Fin 2304) (g : Fin 2) (n : Fin 4) (d : Fin 64) :
    val_main_v21 (F := Ideal) V VC (ix5 b t g n d) = val_main_v20 (F := Ideal) V VC (ix5 b t g 0 d) := by
  rw [val_main_v21_apply]
  generalize val_main_v20 (F := Ideal) V VC = X
  refine congrArg X (funext fun a => ?_)
  match a with
  | ⟨0, _⟩ => rfl
  | ⟨1, _⟩ => rfl
  | ⟨2, _⟩ => rfl
  | ⟨3, _⟩ => rfl
  | ⟨4, _⟩ => rfl

/-- The heads of a group counted as one axis. -/
theorem value_heads (b : Fin 32) (t : Fin 2304) (h : Fin 8) (d : Fin 64) :
    val_main_v22 (F := Ideal) V VC (ix4 b t h d)
      = val_main_v21 (F := Ideal) V VC (ix5 b t ⟨(h : ℕ) / 4, by omega⟩ ⟨(h : ℕ) % 4, by omega⟩ d) := by
  pointwise [val_main_v22]

/-- A head's value at a position. -/
theorem value_at (b : Fin 32) (t : Fin 2304) (h : Fin 8) (d : Fin 64) :
    val_main_v22 (F := Ideal) V VC (ix4 b t h d) = if ht : (t : ℕ) < 2048
      then V (ix3 b ⟨t, ht⟩ ⟨(h : ℕ) / 4 * 64 + d, by omega⟩)
      else VC (ix3 b ⟨(t : ℕ) - 2048, by omega⟩ ⟨(h : ℕ) / 4 * 64 + d, by omega⟩) := by
  rw [value_heads, value_copies, value_group, values_at]

end Cert.DenseRefIdeal.Value
-- ==== Proof.Dense.RefSoft.lean ====
module
public import proofs.«01_k».proof.Proof.Dense.Ref

/-! The softmax of the dense attention's reference, element by element, from its scores. -/

set_option maxRecDepth 16384

@[expose] public section

noncomputable section

open Idealize.ShloMosaic Idealize.ShloMosaic.TcCoe Idealize.SL.Sem

namespace Cert.DenseRefIdeal.Value
open Cert.DenseRefIdeal Cert.DenseRefIdeal.Gen Cert.DenseRefIdeal.Read

variable (Q : FVec Ideal S32x2048x512 .bf16) (K : FVec Ideal S32x2048x256 .bf16) (V : FVec Ideal S32x2048x128 .bf16)
  (KC : FVec Ideal S32x256x256 .bf16) (VC : FVec Ideal S32x256x128 .bf16)

/-- A query's scores under one head. -/
def scores (b : Fin 32) (h : Fin 8) (s : Fin 2048) : Fin 2304 → EReal :=
  fun t => val_main_v23 (F := Ideal) Q K KC (ix4 b h s t)

/-- A score is the product of the query and the key. -/
theorem scores_at (b : Fin 32) (h : Fin 8) (s : Fin 2048) (t : Fin 2304) :
    scores Q K KC b h s t
      = ∑ d : Fin 64, val_main_v9 (F := Ideal) Q (ix4 b s h d) * val_main_v18 (F := Ideal) K KC (ix4 b t h d) := by
  unfold scores
  rw [val_main_v23_apply]
  generalize val_main_v9 (F := Ideal) Q = X
  generalize val_main_v18 (F := Ideal) K KC = Y
  refine Finset.sum_congr rfl fun d _ => congrArg₂ (· * ·) (congrArg X (funext fun a => ?_)) (congrArg Y (funext fun a => ?_)) <;>
  match a with
  | ⟨0, _⟩ => rfl
  | ⟨1, _⟩ => rfl
  | ⟨2, _⟩ => rfl
  | ⟨3, _⟩ => rfl

/-- The largest score. -/
theorem reduced_at (b : Fin 32) (h : Fin 8) (s : Fin 2048) :
    val_main_v24 (F := Ideal) Q K KC (ix3 b h s) = Softmax.top (scores Q K KC b h s) := by
  unfold scores val_main_v24
  generalize val_main_v23 (F := Ideal) Q K KC = X
  pointwise
  exact Softmax.fold_eq_top _ (fun _ _ => rfl) _ Softmax.negInf _

/-- The largest score, once more against the bottom element. -/
theorem top_at (b : Fin 32) (h : Fin 8) (s : Fin 2048) :
    val_main_v26 (F := Ideal) Q K KC (ix3 b h s) = Softmax.top (scores Q K KC b h s) := by
  rw [val_main_v26_apply, reduced_at, val_main_v25_apply, val_main_cst_0_apply]
  exact max_eq_right bot_le

/-- A score's exponential, the largest score subtracted. -/
theorem exp_at (b : Fin 32) (h : Fin 8) (s : Fin 2048) (t : Fin 2304) :
    val_main_v30 (F := Ideal) Q K KC (ix4 b h s t)
      = Ideal.exp (scores Q K KC b h s t - Softmax.top (scores Q K KC b h s)) := by
  rw [val_main_v30_apply, val_main_v29_apply, val_main_v28_apply, val_main_v27_apply, ← top_at]
  unfold scores
  generalize val_main_v26 (F := Ideal) Q K KC = X
  generalize val_main_v23 (F := Ideal) Q K KC = Y
  refine congrArg (fun x => Ideal.exp (Y (ix4 b h s t) - x)) (congrArg X (funext fun a => ?_))
  match a with
  | ⟨0, _⟩ => rfl
  | ⟨1, _⟩ => rfl
  | ⟨2, _⟩ => rfl

/-- The normaliser. -/
theorem den_at (b : Fin 32) (h : Fin 8) (s : Fin 2048) :
    val_main_v31 (F := Ideal) Q K KC (ix3 b h s) = Softmax.den (scores Q K KC b h s) := by
  rw [val_main_v31_apply]
  have z : (val_main_cst_1 (F := Ideal)) (Shape.Idx.first h_S_) = (0 : EReal) := by
    rw [val_main_cst_1_apply]
    exact Ideal.ofBits_zero_f32
  rw [z, zero_add]
  refine Finset.sum_congr rfl fun t _ => Eq.trans ?_ (exp_at Q K KC b h s t)
  generalize val_main_v30 (F := Ideal) Q K KC = X
  refine congrArg X (funext fun a => ?_)
  match a with
  | ⟨0, _⟩ => rfl
  | ⟨1, _⟩ => rfl
  | ⟨2, _⟩ => rfl
  | ⟨3, _⟩ => rfl

/-- A weight. -/
theorem weight_at (b : Fin 32) (h : Fin 8) (s : Fin 2048) (t : Fin 2304) :
    val_main_v34 (F := Ideal) Q K KC (ix4 b h s t)
      = Ideal.div (Ideal.exp (scores Q K KC b h s t - Softmax.top (scores Q K KC b h s)))
        (Softmax.den (scores Q K KC b h s)) := by
  rw [val_main_v34_apply, val_main_v33_apply, val_main_v32_apply, exp_at, ← den_at]
  generalize val_main_v31 (F := Ideal) Q K KC = X
  refine congrArg (Ideal.div _) (congrArg X (funext fun a => ?_))
  match a with
  | ⟨0, _⟩ => rfl
  | ⟨1, _⟩ => rfl
  | ⟨2, _⟩ => rfl

/-- The weighted sum of a head's values. -/
theorem sum_at (b : Fin 32) (h : Fin 8) (d : Fin 64) (s : Fin 2048) :
    val_main_v35 (F := Ideal) Q K V KC VC (ix4 b h d s)
      = ∑ t : Fin 2304, Ideal.div (Ideal.exp (scores Q K KC b h s t - Softmax.top (scores Q K KC b h s)))
        (Softmax.den (scores Q K KC b h s)) * val_main_v22 (F := Ideal) V VC (ix4 b t h d) := by
  rw [val_main_v35_apply]
  refine Finset.sum_congr rfl fun t _ => ?_
  rw [← weight_at, mul_comm]
  generalize val_main_v34 (F := Ideal) Q K KC = X
  generalize val_main_v22 (F := Ideal) V VC = Y
  refine congrArg₂ (· * ·) (congrArg X (funext fun a => ?_)) (congrArg Y (funext fun a => ?_)) <;>
  match a with
  | ⟨0, _⟩ => rfl
  | ⟨1, _⟩ => rfl
  | ⟨2, _⟩ => rfl
  | ⟨3, _⟩ => rfl

/-- The result's columns: head `4 * g + c` of group `g` at 64 columns of chunk `c`. -/
theorem columns_at (b : Fin 32) (s : Fin 2048) (e : Fin 512) :
    val_main_v40 (F := Ideal) Q K V KC VC (ix3 b s e)
      = val_main_v35 (F := Ideal) Q K V KC VC
        (ix4 b ⟨(e : ℕ) / 64 % 2 * 4 + (e : ℕ) / 128, by omega⟩ ⟨(e : ℕ) % 64, by omega⟩ s) := by
  unfold val_main_v40 val_main_v39 val_main_v38 val_main_v37 val_main_v36
  generalize val_main_v35 (F := Ideal) Q K V KC VC = X
  pointwise

end Cert.DenseRefIdeal.Value
-- ==== Proof.Finite.lean ====
module
public import Idealize.ShloMosaic.Lib.ReduceAll
public import Idealize.ShloMosaic.Lib.Pipeline.ValueKit
public import proofs.«01_k».proof.Proof.Softmax

/-! Real numbers among the extended reals: what the preconditions' tests state, and what sums of products keep. -/

set_option maxRecDepth 16384

@[expose] public section

noncomputable section

open Idealize.ShloMosaic Idealize.ShloMosaic.TcCoe Idealize.SL.Sem

namespace Finite

/-- The bits of the top element. -/
theorem posInf : Ideal.ofBits .f32 0x7F800000#32 = (⊤ : EReal) := by
  rfl

/-- A number below the top and above the bottom element, as the two comparisons' words state it, is a real one. -/
theorem of_words (x : EReal)
    (h : IntOp.andi (FloatOps.cmpf (F := Ideal) (φ := .f32) .olt x (Ideal.ofBits .f32 0x7F800000#32))
      (FloatOps.cmpf (F := Ideal) (φ := .f32) .ogt x (Ideal.ofBits .f32 0xFF800000#32)) = 1#1) : x ≠ ⊤ ∧ x ≠ ⊥ := by
  rw [posInf, Softmax.negInf] at h
  have one (p : Bool) : (BitVec.ofBool p = 1#1) = (p = true) := by cases p <;> decide
  have h' : IntOp.andi (BitVec.ofBool (decide (x < ⊤))) (BitVec.ofBool (decide (⊥ < x))) = 1#1 := h
  rw [IntOp.andi, BitVec.ofBool_and_ofBool, one, Bool.and_eq_true, decide_eq_true_eq, decide_eq_true_eq] at h'
  exact ⟨h'.1.ne, h'.2.ne'⟩

/-- A sum of products of real numbers is a real number. -/
theorem sum_mul {ι : Type*} [Fintype ι] (x y : ι → EReal) (hx : ∀ i, x i ≠ ⊤ ∧ x i ≠ ⊥) (hy : ∀ i, y i ≠ ⊤ ∧ y i ≠ ⊥) :
    (∑ i, x i * y i) ≠ ⊤ ∧ (∑ i, x i * y i) ≠ ⊥ := by
  have h : ∃ r : ℝ, (∑ i, x i * y i) = (r : EReal) := by
    classical
    induction (Finset.univ : Finset ι) using Finset.induction_on with
    | empty => exact ⟨0, rfl⟩
    | insert a t ha ih =>
      obtain ⟨r, hr⟩ := ih
      refine ⟨(x a).toReal * (y a).toReal + r, ?_⟩
      rw [Finset.sum_insert ha, hr, EReal.coe_add, EReal.coe_mul, EReal.coe_toReal (hx a).1 (hx a).2,
        EReal.coe_toReal (hy a).1 (hy a).2]
  obtain ⟨r, hr⟩ := h
  rw [hr]
  exact ⟨EReal.coe_ne_top _, EReal.coe_ne_bot _⟩

end Finite
-- ==== Proof.Dense.RefValue.lean ====
module
public import proofs.«01_k».proof.Proof.Dense.RefSoft
public import proofs.«01_k».proof.Proof.Finite

/-! The dense attention's reference is the attention its kernel computes, where the scores are real numbers. -/

set_option maxRecDepth 16384

@[expose] public section

noncomputable section

open Idealize.ShloMosaic Idealize.ShloMosaic.TcCoe Idealize.SL.Sem

namespace Cert.DenseRefIdeal.Value
open Cert.DenseRefIdeal Cert.DenseRefIdeal.Gen Cert.DenseRefIdeal.Read

variable (Q : FVec Ideal S32x2048x512 .bf16) (K : FVec Ideal S32x2048x256 .bf16) (V : FVec Ideal S32x2048x128 .bf16)
  (KC : FVec Ideal S32x256x256 .bf16) (VC : FVec Ideal S32x256x128 .bf16)

/-- Real queries and keys have real scores. -/
theorem scores_finite (hQ : ∀ i, Q i ≠ ⊤ ∧ Q i ≠ ⊥) (hK : ∀ i, K i ≠ ⊤ ∧ K i ≠ ⊥) (hKC : ∀ i, KC i ≠ ⊤ ∧ KC i ≠ ⊥)
    (b : Fin 32) (h : Fin 8) (s : Fin 2048) (t : Fin 2304) :
    scores Q K KC b h s t ≠ ⊤ ∧ scores Q K KC b h s t ≠ ⊥ := by
  rw [scores_at]
  refine Finite.sum_mul _ _ (fun d => ?_) fun d => ?_
  · rw [query_at]
    exact hQ _
  · rw [key_at]
    split
    · exact hK _
    · exact hKC _

/-- The attention of one head at one dim, from the argument arrays. -/
theorem head_at (hQ : ∀ i, Q i ≠ ⊤ ∧ Q i ≠ ⊥) (hK : ∀ i, K i ≠ ⊤ ∧ K i ≠ ⊥) (hKC : ∀ i, KC i ≠ ⊤ ∧ KC i ≠ ⊥)
    (b : Fin 32) (h : Fin 8) (d : Fin 64) (s : Fin 2048) :
    val_main_v35 (F := Ideal) Q K V KC VC (ix4 b h d s)
      = DenseSpec.head Q K V KC VC b s ⟨(h : ℕ) / 4, by omega⟩ ⟨(h : ℕ) / 2 % 2, by omega⟩ ⟨(h : ℕ) % 2, by omega⟩
        ⟨(h : ℕ) / 4 * 64 + d, by omega⟩ := by
  have hf := scores_finite Q K KC hQ hK hKC b h s
  rw [sum_at, ← Softmax.softSum_eq_sum _ _ (fun t => (hf t).1) 0 (hf 0).2]
  have eq (d : Fin 64) : (⟨128 * ((h : ℕ) / 2) + Softmax.lane ⟨(h : ℕ) % 2, by omega⟩ d, by omega⟩ : Fin 512)
      = ⟨256 * ((h : ℕ) / 4) + 128 * ((h : ℕ) / 2 % 2) + Softmax.lane ⟨(h : ℕ) % 2, by omega⟩ d, by omega⟩ :=
    Fin.ext (by simp only; omega)
  refine Softmax.softSum_append 2048 256 rfl _ _ _ _ _ _ (fun t => ?_) (fun t => ?_) (fun t => ?_) fun t => ?_
  · rw [scores_at]
    refine Finset.sum_congr rfl fun d _ => ?_
    rw [query_at, key_at, dif_pos (show ((⟨(t : ℕ), by omega⟩ : Fin 2304) : ℕ) < 2048 from t.isLt), eq]
  · rw [scores_at]
    refine Finset.sum_congr rfl fun d _ => ?_
    rw [query_at, key_at, dif_neg (show ¬ ((⟨2048 + (t : ℕ), by omega⟩ : Fin 2304) : ℕ) < 2048 by simp only; omega), eq]
    simp only [Nat.add_sub_cancel_left]
  · rw [value_at, dif_pos (show ((⟨(t : ℕ), by omega⟩ : Fin 2304) : ℕ) < 2048 from t.isLt)]
  · rw [value_at, dif_neg (show ¬ ((⟨2048 + (t : ℕ), by omega⟩ : Fin 2304) : ℕ) < 2048 by simp only; omega)]
    simp only [Nat.add_sub_cancel_left]

/-- The reference's result, element by element. -/
theorem out_at (hQ : ∀ i, Q i ≠ ⊤ ∧ Q i ≠ ⊥) (hK : ∀ i, K i ≠ ⊤ ∧ K i ≠ ⊥) (hKC : ∀ i, KC i ≠ ⊤ ∧ KC i ≠ ⊥)
    (b : Fin 32) (s : Fin 2048) (e : Fin 512) :
    val_main_v40 (F := Ideal) Q K V KC VC (ix3 b s e) = DenseSpec.out Q K V KC VC b s e := by
  rw [columns_at, head_at Q K V KC VC hQ hK hKC]
  unfold DenseSpec.out
  have h1 : (⟨((e : ℕ) / 64 % 2 * 4 + (e : ℕ) / 128) / 4, by omega⟩ : Fin 2) = ⟨(e : ℕ) / 64 % 2, by omega⟩ :=
    Fin.ext (by simp only; omega)
  have h2 : (⟨((e : ℕ) / 64 % 2 * 4 + (e : ℕ) / 128) / 2 % 2, by omega⟩ : Fin 2) = ⟨(e : ℕ) / 256, by omega⟩ :=
    Fin.ext (by
      have h : ∀ x y : ℕ, x < 2 → y < 4 → (x * 4 + y) / 2 % 2 = y / 2 := by omega
      simp only [h _ _ (Nat.mod_lt ((e : ℕ) / 64) two_pos) (show (e : ℕ) / 128 < 4 by omega)]
      omega)
  have h3 : (⟨((e : ℕ) / 64 % 2 * 4 + (e : ℕ) / 128) % 2, by omega⟩ : Fin 2) = ⟨(e : ℕ) / 128 % 2, by omega⟩ :=
    Fin.ext (by simp only; omega)
  have h4 : (⟨((e : ℕ) / 64 % 2 * 4 + (e : ℕ) / 128) / 4 * 64 + (e : ℕ) % 64, by omega⟩ : Fin 128) = ⟨(e : ℕ) % 128, by omega⟩ :=
    Fin.ext (by
      have : ((e : ℕ) / 64 % 2 * 4 + (e : ℕ) / 128) / 4 = (e : ℕ) / 64 % 2 := by omega
      simp only [this]
      omega)
  rw [h1, h2, h3, h4]

end Cert.DenseRefIdeal.Value
-- ==== Proof.Dense.Pre.lean ====
module
public import proofs.«01_k».proof.Proof.Gen.Pre_finite_dense
public import proofs.«01_k».proof.Proof.Finite

/-! What the dense attention's precondition states of its arguments. -/

set_option maxRecDepth 16384

@[expose] public section

noncomputable section

open Idealize.ShloMosaic Idealize.ShloMosaic.TcCoe Idealize.SL.Sem

namespace Cert.Pre_finite_dense
open Cert.Pre_finite_dense Cert.Pre_finite_dense.Gen

variable (Q : FVec Ideal S32x2048x512 .bf16) (K : FVec Ideal S32x2048x256 .bf16) (V : FVec Ideal S32x2048x128 .bf16)
  (KC : FVec Ideal S32x256x256 .bf16) (VC : FVec Ideal S32x256x128 .bf16)

instance : Subsingleton S_.Idx := ⟨fun _ _ => funext fun a => a.elim0⟩

/-- The precondition: the queries and both kinds of keys are real numbers. -/
theorem finite (h : fn (F := Ideal) Q K V KC VC = fun _ => 1#1) :
    (∀ i, Q i ≠ ⊤ ∧ Q i ≠ ⊥) ∧ (∀ i, K i ≠ ⊤ ∧ K i ≠ ⊥) ∧ (∀ i, KC i ≠ ⊤ ∧ KC i ≠ ⊥) := by
  have h0 := congrFun h (Shape.Idx.first h_S_)
  dsimp only [fn, fn_part1] at h0
  have split (x y : BitVec 1) (e : IntOp.andi x y = 1#1) : x = 1#1 ∧ y = 1#1 := by
    revert x y
    decide
  obtain ⟨h1, hKC⟩ := split _ _ h0
  obtain ⟨hQ, hK⟩ := split _ _ h1
  exact ⟨fun i => Finite.of_words _ (Host.reduce_andi_all _ _ _ _ _ hQ i),
    fun i => Finite.of_words _ (Host.reduce_andi_all _ _ _ _ _ hK i),
    fun i => Finite.of_words _ (Host.reduce_andi_all _ _ _ _ _ hKC i)⟩

end Cert.Pre_finite_dense
-- ==== Proof.Dense.Claim.lean ====
module
public import proofs.«01_k».proof.Defs
public import proofs.«01_k».proof.Proof.Dense.Value
public import proofs.«01_k».proof.Proof.Dense.RefValue
public import proofs.«01_k».proof.Proof.Dense.Pre
public import proofs.«01_k».proof.Proof.Gen.Dense.Frame
public import Idealize.ShloMosaic.Adequacy
public import Idealize.ShloMosaic.Init

/-! The dense attention's kernel and its reference compute the same array from real queries and keys. -/

set_option maxRecDepth 16384

@[expose] public section

noncomputable section

open Idealize.ShloMosaic Idealize.ShloMosaic.TcCoe Idealize.SL.Sem

namespace Cert.DenseClaim

/-- The reference's result is the kernel's array. -/
theorem equal (m : (ℓ : Loc DenseIdeal.nD DenseIdeal.τ DenseIdeal.sig) → Buf (Elt Ideal) ℓ) (c : Dev DenseIdeal.nD)
    (h : Cert.Pre_DenseIdeal_finite_dense m) :
    DenseRefIdeal.Read.val_main_v40 (F := Ideal) (m ((c.tc : Thread DenseIdeal.nD DenseIdeal.τ).loc DenseIdeal.main_arg0))
        (m ((c.tc : Thread DenseIdeal.nD DenseIdeal.τ).loc DenseIdeal.main_arg1))
        (m ((c.tc : Thread DenseIdeal.nD DenseIdeal.τ).loc DenseIdeal.main_arg2))
        (m ((c.tc : Thread DenseIdeal.nD DenseIdeal.τ).loc DenseIdeal.main_arg3))
        (m ((c.tc : Thread DenseIdeal.nD DenseIdeal.τ).loc DenseIdeal.main_arg4))
      = DenseIdeal.Value.result m c := by
  obtain ⟨hQ, hK, hKC⟩ := Pre_finite_dense.finite _ _ _ _ _ (h c)
  funext i
  idx_vars i
  exact (DenseRefIdeal.Value.out_at _ _ _ _ _ hQ hK hKC i0 i1 i2).trans (DenseIdeal.Value.result_at m c i0 i1 i2).symm

/-- The two programs' results are equal. -/
theorem algebraic : Cert.algebraic_DenseIdeal_DenseRefIdeal_pre_finite_dense := by
  pair_intro
  · run_from Cert.DenseIdeal.Gen.run_main m g
  · run_from Cert.DenseRefIdeal.Value.run m' g'
    obtain ⟨h0, h1, h2, h3, h4⟩ := hagree c
    rw [DenseRefIdeal.Read.val_main_v40_eq, h0, h1, h2, h3, h4]
    exact (equal m c hpre).trans (DenseIdeal.Value.final m c).symm

end Cert.DenseClaim
-- ==== Proof.Post.Spec.lean ====
module
public import proofs.«01_k».proof.Proof.Softmax

/-! One row of the closing call of an odd layer, as a function of the rows and matrices it is computed from.

Throughout, a row is a function of its 1024 columns. -/

@[expose] public section

noncomputable section

open Idealize.ShloMosaic

namespace PostSpec

/-- A row divided by the root of its mean square, to which a small constant is added. -/
def rms (f : Fin 1024 → EReal) (n : Fin 1024) : EReal :=
  f n * Ideal.rsqrt (Ideal.div (∑ k, f k * f k) (Ideal.ofBits .f32 0x44800000#32) + Ideal.ofBits .f32 0x358637BD#32)

/-- A row `x` and the gated, normalised row `y` beside it. -/
def plus (x y gate gain : Fin 1024 → EReal) (n : Fin 1024) : EReal := x n + gate n * (rms y n * gain n)

/-- A row normalised, scaled and shifted. -/
def modulated (x gain scale shift : Fin 1024 → EReal) (n : Fin 1024) : EReal := rms x n * gain n * (1 + scale n) + shift n

/-- `p` times its logistic function, times `r`. -/
def glu (p r : EReal) : EReal := p * Ideal.div 1 (1 + Ideal.exp (0 - p)) * r

/-- A hidden unit of the feed-forward part, from its two columns of weights. -/
def unit (h gate up : Fin 1024 → EReal) : EReal := glu (∑ e, h e * gate e) (∑ e, h e * up e)

/-- The row after the feed-forward part: `x1` is the row before it, `h` what the feed-forward part sees. -/
def feed (x1 h : Fin 1024 → EReal) (gate up : Fin 2816 → Fin 1024 → EReal) (down : Fin 2816 → Fin 1024 → EReal)
    (gt gain : Fin 1024 → EReal) (n : Fin 1024) : EReal :=
  plus x1 (fun n => ∑ k, unit h (gate k) (up k) * down k n) gt gain n

/-- A row of the result: `x` is the stream's row, `y` the attention's output projected. -/
def out (x y gtm gain1 gain2 scale shift : Fin 1024 → EReal) (gate up down : Fin 2816 → Fin 1024 → EReal)
    (gtf gain3 : Fin 1024 → EReal) (n : Fin 1024) : EReal :=
  feed (plus x y gtm gain1) (modulated (plus x y gtm gain1) gain2 scale shift) gate up down gtf gain3 n

/-- The row of the output weights that a lane of the attention's output meets. -/
def place (k : Fin 1024) : Fin 1024 :=
  ⟨512 * ((k : ℕ) / 512) + 256 * ((k : ℕ) / 64 % 2) + 64 * ((k : ℕ) / 128 % 4) + (k : ℕ) % 64, by omega⟩

/-- The lane of the attention's output that a row of the output weights meets. -/
def source (k : Fin 1024) : Fin 1024 :=
  ⟨512 * ((k : ℕ) / 512) + 128 * ((k : ℕ) / 64 % 4) + 64 * ((k : ℕ) / 256 % 2) + (k : ℕ) % 64, by omega⟩

/-- The projection of the attention's output, summed over its lanes or over the rows of the weights. -/
theorem project (A W : Fin 1024 → EReal) : ∑ k, A (source k) * W k = ∑ k, A k * W (place k) := by
  have hl : ∀ k, place (source k) = k := by decide +kernel
  have hr : ∀ k, source (place k) = k := by decide +kernel
  refine Finset.sum_nbij' source place (fun _ _ => Finset.mem_univ _) (fun _ _ => Finset.mem_univ _) (fun k _ => hl k)
    (fun k _ => hr k) (fun k _ => ?_)
  rw [hl]

/-- The result at row `s` of batch entry `b` and column `n`, from the arguments' arrays. -/
def result (X : FVec Ideal ⟨3, ![32, 2048, 1024]⟩ .f32) (A : FVec Ideal ⟨3, ![32, 2048, 1024]⟩ .bf16)
    (M : FVec Ideal ⟨2, ![32, 6144]⟩ .f32) (G1 G2 G3 : FVec Ideal ⟨1, ![1024]⟩ .f32) (WO : FVec Ideal ⟨2, ![1024, 1024]⟩ .f32)
    (WFI : FVec Ideal ⟨2, ![1024, 5632]⟩ .f32) (WFO : FVec Ideal ⟨2, ![2816, 1024]⟩ .f32) (b : Fin 32) (s : Fin 2048)
    (n : Fin 1024) : EReal :=
  out (fun e => X (ix3 b s e)) (fun n => ∑ k, A (ix3 b s k) * WO (ix2 (place k) n))
    (fun e => M (ix2 b ⟨2048 + (e : ℕ), by omega⟩)) (fun e => G1 (ix1 e)) (fun e => G2 (ix1 e))
    (fun e => M (ix2 b ⟨4096 + (e : ℕ), by omega⟩)) (fun e => M (ix2 b ⟨3072 + (e : ℕ), by omega⟩))
    (fun k e => WFI (ix2 e ⟨(k : ℕ), by omega⟩)) (fun k e => WFI (ix2 e ⟨2816 + (k : ℕ), by omega⟩))
    (fun k e => WFO (ix2 k e)) (fun e => M (ix2 b ⟨5120 + (e : ℕ), by omega⟩)) (fun e => G3 (ix1 e)) n

end PostSpec
-- ==== Proof.Post.Block.lean ====
module
public import proofs.«01_k».proof.Proof.Gen.PostIdeal.Value
public import proofs.«01_k».proof.Proof.Post.Spec
public import Idealize.ShloMosaic.Lib.Pipeline.ValueKit
public import Idealize.ShloMosaic.Lib.Pipeline.ReadBack

/-! What one block of the closing call of an odd layer computes.

A block holds 512 rows. The body keeps the hidden units in a buffer of 2816 columns that it fills 256 at a time, the weights'
columns standing in the same order: 256 columns of the first half, the 256 of the second half that go with them, and so on. -/

set_option maxRecDepth 16384

@[expose] public section

noncomputable section

open Idealize.ShloMosaic Idealize.ShloMosaic.TcCoe Idealize.SL.Sem

namespace Cert.PostIdeal.Value
open Cert.PostIdeal Cert.PostIdeal.Gen PostSpec

/-- The row after the attention's part. -/
theorem first_at (a : Vec Ideal S1x512x1024 .bf16) (w : Vec Ideal S1024x1024 .bf16) (x : Vec Ideal S1x512x1024 .f32)
    (gt : Vec Ideal S1x1x1024 .f32) (g : Vec Ideal S1x1024 .f32) (q : Fin 512) (n : Fin 1024) :
    k0_pay2 (F := Ideal) a w x gt g (ix2 q n) = plus (fun n => x (ix3 0 q n)) (fun n => ∑ k, a (ix3 0 q k) * w (ix2 k n))
      (fun n => gt (ix3 0 0 n)) (fun n => g (ix2 0 n)) n := by
  pointwise [k0_pay2, plus, rms]

/-- That row, normalised. -/
theorem normed_at (a : Vec Ideal S1x512x1024 .bf16) (w : Vec Ideal S1024x1024 .bf16) (x : Vec Ideal S1x512x1024 .f32)
    (gt : Vec Ideal S1x1x1024 .f32) (g : Vec Ideal S1x1024 .f32) (q : Fin 512) (n : Fin 1024) :
    k0_pay3 (F := Ideal) a w x gt g (ix2 q n) = rms (plus (fun n => x (ix3 0 q n)) (fun n => ∑ k, a (ix3 0 q k) * w (ix2 k n))
      (fun n => gt (ix3 0 0 n)) (fun n => g (ix2 0 n))) n := by
  have h := first_at a w x gt g q
  pointwise [k0_pay3, rms, h]

/-- That row, scaled and shifted. -/
theorem modulated_at (v : FVec Ideal S512x1024 .f32) (g : Vec Ideal S1x1024 .f32) (sc sh : Vec Ideal S1x1x1024 .f32) (q : Fin 512)
    (n : Fin 1024) : k0_pay4 (F := Ideal) v g sc sh (ix2 q n) = v (ix2 q n) * g (ix2 0 n) * (1 + sc (ix3 0 0 n)) + sh (ix3 0 0 n) := by
  pointwise [k0_pay4]

/-- 256 hidden units, from the rows they see and their columns of weights. -/
theorem units_at (h : FVec Ideal S512x1024 .bf16) (w : Vec Ideal S1024x512 .bf16) (q : Fin 512) (n : Fin 256) :
    k0_pay11 (F := Ideal) h w (ix2 q n)
      = unit (fun e => h (ix2 q e)) (fun e => w (ix2 e ⟨n, by omega⟩)) (fun e => w (ix2 e ⟨256 + n, by omega⟩)) := by
  pointwise [k0_pay11, unit, glu]

/-- The row after the feed-forward part. -/
theorem last_at (v : FVec Ideal S512x1024 .f32) (h : Vec Ideal S512x2816 .bf16) (w : Vec Ideal S2816x1024 .bf16)
    (gt : Vec Ideal S1x1x1024 .f32) (g : Vec Ideal S1x1024 .f32) (q : Fin 512) (n : Fin 1024) :
    k0_pay1 (k0_pay29 (F := Ideal) v h w gt g) (ix3 0 q n) = plus (fun n => v (ix2 q n)) (fun n => ∑ k, h (ix2 q k) * w (ix2 k n))
      (fun n => gt (ix3 0 0 n)) (fun n => g (ix2 0 n)) n := by
  pointwise [k0_pay1, k0_pay29, plus, rms]

/-- The same, from hidden units and a row known element by element. -/
theorem last_of (v : FVec Ideal S512x1024 .f32) (h : Vec Ideal S512x2816 .bf16) (w : Vec Ideal S2816x1024 .bf16)
    (gt : Vec Ideal S1x1x1024 .f32) (g : Vec Ideal S1x1024 .f32) (q : Fin 512) (n : Fin 1024) (x1 : Fin 1024 → EReal)
    (u : Fin 2816 → EReal) (hv : ∀ n, v (ix2 q n) = x1 n) (hu : ∀ k, h (ix2 q k) = u k) :
    k0_pay1 (k0_pay29 (F := Ideal) v h w gt g) (ix3 0 q n) = plus x1 (fun n => ∑ k, u k * w (ix2 k n))
      (fun n => gt (ix3 0 0 n)) (fun n => g (ix2 0 n)) n := by
  rw [last_at]
  simp only [hv, hu]

variable (x0 : Vec Ideal S1x512x1024 .f32) (x1 : Vec Ideal S1x512x1024 .bf16) (x2 : Vec Ideal S1x8x1024 .f32)
  (x3 : Vec Ideal S8x1024 .f32) (x4 : Vec Ideal S1024x1024 .bf16) (x5 : Vec Ideal S1024x5632 .bf16)
  (x6 : Vec Ideal S2816x1024 .bf16)

/-- Row `q` of a block after the attention's part, from the blocks' contents. -/
def first (q : Fin 512) (n : Fin 1024) : EReal :=
  plus (fun n => x0 (ix3 0 q n)) (fun n => ∑ k, x1 (ix3 0 q k) * x4 (ix2 k n)) (fun n => x2 (ix3 0 2 n)) (fun n => x3 (ix2 1 n)) n

/-- What the feed-forward part sees of row `q`. -/
def seen (q : Fin 512) (n : Fin 1024) : EReal :=
  modulated (first x0 x1 x2 x3 x4 q) (fun n => x3 (ix2 2 n)) (fun n => x2 (ix3 0 4 n)) (fun n => x2 (ix3 0 3 n)) n

/-- Hidden unit `k` of row `q`. -/
def unitOf (q : Fin 512) (k : Fin 2816) : EReal :=
  unit (seen x0 x1 x2 x3 x4 q) (fun e => x5 (ix2 e ⟨512 * (k / 256) + k % 256, by omega⟩))
    (fun e => x5 (ix2 e ⟨512 * (k / 256) + 256 + k % 256, by omega⟩))

/-- Row `q` of a block after the feed-forward part. -/
def rowOf (q : Fin 512) (n : Fin 1024) : EReal :=
  plus (first x0 x1 x2 x3 x4 q) (fun n => ∑ k, unitOf x0 x1 x2 x3 x4 x5 q k * x6 (ix2 k n)) (fun n => x2 (ix3 0 5 n))
    (fun n => x3 (ix2 3 n)) n

/-- The body writes the hidden units' arithmetic out for every chunk; it is the same each time. -/
theorem chunk0 (v : FVec Ideal S512x1024 .f32) (g : Vec Ideal S1x1024 .f32) (sc sh : Vec Ideal S1x1x1024 .f32)
    (w : Vec Ideal S1024x512 .bf16) : k0_pay5 (F := Ideal) v g sc sh w = k0_pay11 (k0_pay4 v g sc sh) w := rfl

/-- The same for the next chunk of hidden units. -/
theorem chunk1 (v : FVec Ideal S512x1024 .f32) (g : Vec Ideal S1x1024 .f32) (sc sh : Vec Ideal S1x1x1024 .f32)
    (w : Vec Ideal S1024x512 .bf16) :
    k0_pay10 (F := Ideal) (k0_pay7 v g sc sh w) (k0_pay8 v g sc sh w) (k0_pay9 v g sc sh w) = k0_pay11 (k0_pay4 v g sc sh) w := rfl

/-- The same for the next chunk of hidden units. -/
theorem chunk3 (h : FVec Ideal S512x1024 .bf16) (w : Vec Ideal S1024x512 .bf16) :
    k0_pay17 (F := Ideal) (k0_pay13 h w) (k0_pay14 h w) (k0_pay15 h w) k0_pay16 = k0_pay11 h w := rfl

/-- The same for the next chunk of hidden units. -/
theorem chunk4 (h : FVec Ideal S512x1024 .bf16) (w : Vec Ideal S1024x512 .bf16) : k0_pay18 (F := Ideal) h w = k0_pay11 h w := rfl

/-- The same for the next chunk of hidden units. -/
theorem chunk5 (h : FVec Ideal S512x1024 .bf16) (w : Vec Ideal S1024x512 .bf16) :
    k0_pay20 (F := Ideal) (k0_pay19 h w) = k0_pay11 h w := rfl

/-- The same for the next chunk of hidden units. -/
theorem chunk6 (h : FVec Ideal S512x1024 .bf16) (w : Vec Ideal S1024x512 .bf16) : k0_pay21 (F := Ideal) h w = k0_pay11 h w := rfl

/-- The same for the next chunk of hidden units. -/
theorem chunk7 (h : FVec Ideal S512x1024 .bf16) (w : Vec Ideal S1024x512 .bf16) : k0_pay22 (F := Ideal) h w = k0_pay11 h w := rfl

/-- The same for the next chunk of hidden units. -/
theorem chunk8 (h : FVec Ideal S512x1024 .bf16) (w : Vec Ideal S1024x512 .bf16) : k0_pay23 (F := Ideal) h w = k0_pay11 h w := rfl

/-- The same for the next chunk of hidden units. -/
theorem chunk9 (h : FVec Ideal S512x1024 .bf16) (w : Vec Ideal S1024x512 .bf16) : k0_pay24 (F := Ideal) h w = k0_pay11 h w := rfl

/-- The same for the next chunk of hidden units. -/
theorem chunk10 (h : FVec Ideal S512x1024 .bf16) (w : Vec Ideal S1024x512 .bf16) :
    k0_pay28 (F := Ideal) (k0_pay26 h w) (k0_pay27 h w) = k0_pay11 h w := rfl

/-- A hidden unit of chunk `c`, from rows of the blocks and from 512 columns of weights that are those of the chunk. -/
theorem unit_of_chunk (gt : Vec Ideal S1x1x1024 .f32) (g1 g2 : Vec Ideal S1x1024 .f32) (sc sh : Vec Ideal S1x1x1024 .f32)
    (w : Vec Ideal S1024x512 .bf16) (q r : Fin 512) (c : ℕ) (n : Fin 256) (k : Fin 2816) (hq : (q : ℕ) = r)
    (hk : (k : ℕ) = 256 * c + n) (hgt : ∀ e, gt (ix3 0 0 e) = x2 (ix3 0 2 e)) (hg1 : ∀ e, g1 (ix2 0 e) = x3 (ix2 1 e))
    (hg2 : ∀ e, g2 (ix2 0 e) = x3 (ix2 2 e)) (hsc : ∀ e, sc (ix3 0 0 e) = x2 (ix3 0 4 e)) (hsh : ∀ e, sh (ix3 0 0 e) = x2 (ix3 0 3 e))
    (hw : ∀ (e : Fin 1024) (j : Fin 512) (i : Fin 5632), (i : ℕ) = 512 * c + j → w (ix2 e j) = x5 (ix2 e i)) :
    k0_pay11 (F := Ideal) (k0_pay4 (k0_pay3 x1 x4 x0 gt g1) g2 sc sh) w (ix2 r n) = unitOf x0 x1 x2 x3 x4 x5 q k := by
  obtain rfl : q = r := Fin.ext hq
  rw [units_at]
  unfold unitOf
  congr 1 <;> funext e
  · rw [modulated_at, normed_at]
    unfold seen modulated first
    simp only [hgt, hg1, hg2, hsc, hsh]
  · exact hw e _ _ (by simp only; omega)
  · exact hw e _ _ (by simp only; omega)

variable (m : (ℓ : Loc nD τ sig) → Buf (Elt Ideal) ℓ)

/-- What a grid point leaves for the result, as a function of its blocks. -/
theorem stored (c : Dev nD) (t : Fin cfg0.N) (q : Fin 512) (n : Fin 1024) : outsAt0 m c t (ix3 0 q n)
    = rowOf (iblk m c 0 t) (iblk m c 1 t) (iblk m c 2 t) (iblk m c 3 t) (iblk m c 4 t) (iblk m c 5 t) (iblk m c 6 t) q n := by
  unfold outsAt0
  frame_out
  rw [View.readCov_eq_canon']
  refine (last_of _ _ _ _ _ q n (first (iblk m c 0 t) (iblk m c 1 t) (iblk m c 2 t) (iblk m c 3 t) (iblk m c 4 t) q)
    (unitOf (iblk m c 0 t) (iblk m c 1 t) (iblk m c 2 t) (iblk m c 3 t) (iblk m c 4 t) (iblk m c 5 t) q) (fun n => ?_) (fun k => ?_)).trans ?_
  · rw [first_at]
    unfold first
    pointwise
  · canon_tiles u h
    all_goals
      idx_vars u
      try simp only [chunk0, chunk1, chunk3, chunk4, chunk5, chunk6, chunk7, chunk8, chunk9, chunk10]
      refine unit_of_chunk _ _ _ _ _ _ _ _ _ _ _ _ q u0 ((k : ℕ) / 256) u1 k (by simpa using h0) ?_ (fun e => by pointwise)
        (fun e => by pointwise) (fun e => by pointwise) (fun e => by pointwise) (fun e => by pointwise) (fun e j i hi => ?_)
    all_goals
      simp at h1
      first
        | omega
        | (pointwise
           exact congrArg (iblk m c 5 t) (congrArg (ix2 e) (Fin.ext (by simp; omega))))
  · unfold rowOf
    pointwise

end Cert.PostIdeal.Value
-- ==== Proof.Post.Gather.lean ====
module
public import proofs.«01_k».proof.PostIdeal
public import Idealize.ShloMosaic.Lib.Pipeline.ValueKit

/-! The weights the second sublayer's kernel gathers, read at an index. -/

set_option maxRecDepth 16384

@[expose] public section

noncomputable section

open Idealize.ShloMosaic Idealize.ShloMosaic.TcCoe Idealize.SL.Sem

namespace Cert.PostIdeal.Value
open Cert.PostIdeal
variable [Cert.PostIdeal.Facts]

/-- A gathered row: the row of the operand that the index names, kept within the operand. -/
theorem gather_row (x : Vec Ideal S1024x1024 .f32) (s : IVec S1024x1 32) (r e : Fin 1024) :
    Host.gather gather_S1024x1024_S1024x1_S1024x1024_1_0_n_n_0_1_11024 x s (ix2 r e)
      = x (ix2 ⟨min (s (ix2 r 0)).toInt.toNat 1023, by omega⟩ e) := by
  generalize hG : gather_S1024x1024_S1024x1_S1024x1024_1_0_n_n_0_1_11024 = G
  have h0 : (0 : Fin 2) ∈ G.startIndexMap := by rw [← hG]; exact List.mem_singleton.mpr rfl
  unfold Host.gather
  refine congrArg x (funext fun a => Fin.ext ?_)
  show G.start (ix2 r e) s a + G.batchCoord (ix2 r e) a + G.offCoord (ix2 r e) a = _
  match a with
  | ⟨0, _⟩ =>
    show G.start (ix2 r e) s 0 + G.batchCoord (ix2 r e) 0 + G.offCoord (ix2 r e) 0 = _
    subst hG
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos h0]
    have hs : GatherDims.siIdx gather_S1024x1024_S1024x1_S1024x1024_1_0_n_n_0_1_11024 (ix2 r e)
        ⟨List.idxOf (0 : Fin 2) (gather_S1024x1024_S1024x1_S1024x1024_1_0_n_n_0_1_11024).startIndexMap,
          List.idxOf_lt_length_iff.2 h0⟩ = ix2 r 0 := by
      funext b
      refine Fin.ext ?_
      match b with
      | ⟨0, _⟩ => rfl
      | ⟨1, _⟩ => rfl
    rw [hs]
    rfl
  | ⟨1, _⟩ =>
    show G.start (ix2 r e) s 1 + G.batchCoord (ix2 r e) 1 + G.offCoord (ix2 r e) 1 = _
    subst hG
    rw [GatherDims.batchCoord_eq_zero _ _ _ List.not_mem_nil]
    unfold GatherDims.start
    rw [dif_neg (show (1 : Fin 2) ∉ (gather_S1024x1024_S1024x1_S1024x1024_1_0_n_n_0_1_11024).startIndexMap from fun h => absurd (List.mem_singleton.mp h : (1 : Fin 2) = 0) (by decide))]
    unfold GatherDims.offCoord
    rw [dif_pos ((GatherDims.mem_sKept _ _).mpr ⟨fun h => absurd (List.mem_singleton.mp h : (1 : Fin 2) = 0) (by decide), List.not_mem_nil⟩)]
    simp only [Nat.zero_add]
    rfl

/-- A gathered column: the column of the operand that the index names, kept within the operand. -/
theorem gather_column (x : Vec Ideal S1024x5632 .f32) (s : IVec S5632x1 32) (r : Fin 1024) (e : Fin 5632) :
    Host.gather gather_S1024x5632_S5632x1_S1024x5632_0_1_n_n_1_1_10241 x s (ix2 r e)
      = x (ix2 r ⟨min (s (ix2 e 0)).toInt.toNat 5631, by omega⟩) := by
  generalize hG : gather_S1024x5632_S5632x1_S1024x5632_0_1_n_n_1_1_10241 = G
  have h0 : (1 : Fin 2) ∈ G.startIndexMap := by rw [← hG]; exact List.mem_singleton.mpr rfl
  unfold Host.gather
  refine congrArg x (funext fun a => Fin.ext ?_)
  show G.start (ix2 r e) s a + G.batchCoord (ix2 r e) a + G.offCoord (ix2 r e) a = _
  match a with
  | ⟨1, _⟩ =>
    show G.start (ix2 r e) s 1 + G.batchCoord (ix2 r e) 1 + G.offCoord (ix2 r e) 1 = _
    subst hG
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos h0]
    have hs : GatherDims.siIdx gather_S1024x5632_S5632x1_S1024x5632_0_1_n_n_1_1_10241 (ix2 r e)
        ⟨List.idxOf (1 : Fin 2) (gather_S1024x5632_S5632x1_S1024x5632_0_1_n_n_1_1_10241).startIndexMap,
          List.idxOf_lt_length_iff.2 h0⟩ = ix2 e 0 := by
      funext b
      refine Fin.ext ?_
      match b with
      | ⟨0, _⟩ => rfl
      | ⟨1, _⟩ => rfl
    rw [hs]
    rfl
  | ⟨0, _⟩ =>
    show G.start (ix2 r e) s 0 + G.batchCoord (ix2 r e) 0 + G.offCoord (ix2 r e) 0 = _
    subst hG
    rw [GatherDims.batchCoord_eq_zero _ _ _ List.not_mem_nil]
    unfold GatherDims.start
    rw [dif_neg (show (0 : Fin 2) ∉ (gather_S1024x5632_S5632x1_S1024x5632_0_1_n_n_1_1_10241).startIndexMap from fun h => absurd (List.mem_singleton.mp h : (0 : Fin 2) = 1) (by decide))]
    unfold GatherDims.offCoord
    rw [dif_pos ((GatherDims.mem_sKept _ _).mpr ⟨fun h => absurd (List.mem_singleton.mp h : (0 : Fin 2) = 1) (by decide), List.not_mem_nil⟩)]
    simp only [Nat.zero_add]
    rfl

end Cert.PostIdeal.Value
-- ==== Proof.Post.Table.lean ====
module
public import proofs.«01_k».proof.PostIdeal

/-! The permutations the second sublayer's kernel gathers its weights by. -/

set_option maxRecDepth 16384

@[expose] public section

noncomputable section

open Idealize.ShloMosaic Idealize.ShloMosaic.TcCoe Idealize.SL.Sem

namespace Cert.PostIdeal.Value
open Cert.PostIdeal

/-- The columns of the input weights: by chunks of 512, 256 columns of the gate's half and the 256 columns of the other half. -/
theorem columns : ∀ i : Fin 5632, (lit0 i).toNat = (if (i : ℕ) % 512 < 256 then 256 * ((i : ℕ) / 512) + (i : ℕ) % 512
    else 2816 + 256 * ((i : ℕ) / 512) + ((i : ℕ) % 512 - 256)) := by decide +kernel

/-- The rows of the output weights: within every group of 512, the two coordinates above the head's 64 lanes change places. -/
theorem rows : ∀ i : Fin 1024, (lit1 i).toNat
    = 512 * ((i : ℕ) / 512) + 256 * ((i : ℕ) / 64 % 2) + 64 * ((i : ℕ) / 128 % 4) + (i : ℕ) % 64 := by decide +kernel

end Cert.PostIdeal.Value
-- ==== Proof.Post.Host.lean ====
module
public import proofs.«01_k».proof.Proof.Post.Gather
public import proofs.«01_k».proof.Proof.Post.Table
public import proofs.«01_k».proof.Proof.Gen.PostIdeal.Value
public import Idealize.ShloMosaic.Lib.Pipeline.ValueKit

/-! The operands the second sublayer's kernel is called on, from the arguments. -/

set_option maxRecDepth 16384

@[expose] public section

noncomputable section

open Idealize.ShloMosaic Idealize.ShloMosaic.TcCoe Idealize.SL.Sem

namespace Cert.PostIdeal.Value
open Cert.PostIdeal Cert.PostIdeal.Gen

/-- The modulation's six vectors in the eight rows of the padded operand. -/
theorem mods (A : Vec Ideal S32x6144 .f32) (z : Vec Ideal S_ .f32) (b : Fin 32) (r : Fin 8) (hr : (r : ℕ) < 6) (e : Fin 1024) :
    pad S32x8x1024 ![0, 0, 0] ![0, 2, 0] ![0, 0, 0] (shapeCast S32x6x1024 A shapeCasts_S32x6144_S32x6x1024) z
      pads_S32x6x1024_S32x8x1024_000_020_000 h_S_ (ix3 b r e) = A (ix2 b ⟨1024 * (r : ℕ) + e, by omega⟩) := by
  pointwise
  rw [dif_pos hr]
  exact congrArg A (congrArg (ix2 b) (Fin.ext (by simp only; omega)))

/-- Row 1 of the gains' padded operand. -/
theorem gain1 (A B C D : Vec Ideal S1x1024 .f32) (z : Vec Ideal S_ .f32) (e : Fin 1024) :
    pad S8x1024 ![0, 0] ![4, 0] ![0, 0] (concatenate S4x1024 0 [⟨S1x1024, A⟩, ⟨S1x1024, B⟩, ⟨S1x1024, C⟩, ⟨S1x1024, D⟩]
      concatenates_S1x1024_S1x1024_S1x1024_S1x1024_S4x1024_d0) z pads_S4x1024_S8x1024_040_000 h_S_ (ix2 1 e) = B (ix2 0 e) := by
  pointwise

/-- Row 2 of the gains' padded operand. -/
theorem gain2 (A B C D : Vec Ideal S1x1024 .f32) (z : Vec Ideal S_ .f32) (e : Fin 1024) :
    pad S8x1024 ![0, 0] ![4, 0] ![0, 0] (concatenate S4x1024 0 [⟨S1x1024, A⟩, ⟨S1x1024, B⟩, ⟨S1x1024, C⟩, ⟨S1x1024, D⟩]
      concatenates_S1x1024_S1x1024_S1x1024_S1x1024_S4x1024_d0) z pads_S4x1024_S8x1024_040_000 h_S_ (ix2 2 e) = C (ix2 0 e) := by
  pointwise

/-- Row 3 of the gains' padded operand. -/
theorem gain3 (A B C D : Vec Ideal S1x1024 .f32) (z : Vec Ideal S_ .f32) (e : Fin 1024) :
    pad S8x1024 ![0, 0] ![4, 0] ![0, 0] (concatenate S4x1024 0 [⟨S1x1024, A⟩, ⟨S1x1024, B⟩, ⟨S1x1024, C⟩, ⟨S1x1024, D⟩]
      concatenates_S1x1024_S1x1024_S1x1024_S1x1024_S4x1024_d0) z pads_S4x1024_S8x1024_040_000 h_S_ (ix2 3 e) = D (ix2 0 e) := by
  pointwise

/-- An index of one axis is its own place in the row-major order. -/
theorem rowMajor_one {n : ℕ} (r : Fin n) : ((⟨1, ![n]⟩ : Shape).rowMajor (ix1 r) : ℕ) = r := by
  exact Shape.rowMajor_val_one (ix1 r)

/-- The index of a gathered row. -/
theorem start_row (r : Fin 1024) : broadcastInDim S1024x1 ![0] bcast_S1024_S1024x1_0 (select (constantI S1024 1 0#1)
    (addi (fun i => lit1 (S1024.rowMajor i)) (broadcastInDim S1024 ![] bcast_S_S1024 (constantI S_ 32 1024#32)))
    fun i => lit1 (S1024.rowMajor i)) (ix2 r 0) = lit1 r := by
  pointwise
  exact congrArg lit1 (Fin.ext (rowMajor_one r))

/-- The index of a gathered column. -/
theorem start_column (r : Fin 5632) : broadcastInDim S5632x1 ![0] bcast_S5632_S5632x1_0 (select (constantI S5632 1 0#1)
    (addi (fun i => lit0 (S5632.rowMajor i)) (broadcastInDim S5632 ![] bcast_S_S5632 (constantI S_ 32 5632#32)))
    fun i => lit0 (S5632.rowMajor i)) (ix2 r 0) = lit0 r := by
  pointwise
  exact congrArg lit0 (Fin.ext (rowMajor_one r))

/-- A row's index, as a number. -/
theorem row_index (r : Fin 1024) : min (lit1 r).toInt.toNat 1023
    = 512 * ((r : ℕ) / 512) + 256 * ((r : ℕ) / 64 % 2) + 64 * ((r : ℕ) / 128 % 4) + (r : ℕ) % 64 := by
  have h := rows r
  rw [BitVec.toInt_eq_toNat_of_lt (by omega), Int.toNat_natCast]
  omega

/-- A column's index, as a number. -/
theorem column_index (r : Fin 5632) : min (lit0 r).toInt.toNat 5631
    = (if (r : ℕ) % 512 < 256 then 256 * ((r : ℕ) / 512) + (r : ℕ) % 512
      else 2816 + 256 * ((r : ℕ) / 512) + ((r : ℕ) % 512 - 256)) := by
  have h := columns r
  have hl : (if (r : ℕ) % 512 < 256 then 256 * ((r : ℕ) / 512) + (r : ℕ) % 512
      else 2816 + 256 * ((r : ℕ) / 512) + ((r : ℕ) % 512 - 256)) ≤ 5631 := by split <;> omega
  rw [BitVec.toInt_eq_toNat_of_lt (by omega), Int.toNat_natCast, h]
  exact Nat.min_eq_left hl

variable (m : (ℓ : Loc nD τ sig) → Buf (Elt Ideal) ℓ)

/-- The modulation's operand. -/
theorem host_mods (c : Dev nD) (b : Fin 32) (r : Fin 8) (hr : (r : ℕ) < 6) (e : Fin 1024) : V m c main_v1 (ix3 b r e)
    = m ((c.tc : Thread nD τ).loc main_arg2) (ix2 b ⟨1024 * (r : ℕ) + e, by omega⟩) := by
  unfold V
  simp only [List.flatten_cons, List.flatten_nil, List.append_nil, List.cons_append, List.nil_append]
  after_results
  exact mods _ _ b r hr e

/-- The gains' operand, row 1. -/
theorem host_gain1 (c : Dev nD) (e : Fin 1024) : V m c main_v7 (ix2 1 e) = m ((c.tc : Thread nD τ).loc main_arg4) (ix1 e) := by
  unfold V
  simp only [List.flatten_cons, List.flatten_nil, List.append_nil, List.cons_append, List.nil_append]
  after_results
  refine (gain1 _ _ _ _ _ e).trans ?_
  show _ = _
  pointwise
  after_results_loop
  pointwise

/-- The gains' operand, row 2. -/
theorem host_gain2 (c : Dev nD) (e : Fin 1024) : V m c main_v7 (ix2 2 e) = m ((c.tc : Thread nD τ).loc main_arg5) (ix1 e) := by
  unfold V
  simp only [List.flatten_cons, List.flatten_nil, List.append_nil, List.cons_append, List.nil_append]
  after_results
  refine (gain2 _ _ _ _ _ e).trans ?_
  show _ = _
  pointwise
  after_results_loop
  pointwise

/-- The gains' operand, row 3. -/
theorem host_gain3 (c : Dev nD) (e : Fin 1024) : V m c main_v7 (ix2 3 e) = m ((c.tc : Thread nD τ).loc main_arg6) (ix1 e) := by
  unfold V
  simp only [List.flatten_cons, List.flatten_nil, List.append_nil, List.cons_append, List.nil_append]
  after_results
  refine (gain3 _ _ _ _ _ e).trans ?_
  show _ = _
  pointwise
  after_results_loop
  pointwise

/-- The attention's output weights: rows regrouped. -/
theorem host_wo (c : Dev nD) (r e : Fin 1024) : V m c main_v20 (ix2 r e) = m ((c.tc : Thread nD τ).loc main_arg7)
    (ix2 ⟨512 * ((r : ℕ) / 512) + 256 * ((r : ℕ) / 64 % 2) + 64 * ((r : ℕ) / 128 % 4) + (r : ℕ) % 64, by omega⟩ e) := by
  unfold V
  simp only [List.flatten_cons, List.flatten_nil, List.append_nil, List.cons_append, List.nil_append]
  after_results
  refine (gather_row _ _ r e).trans ?_
  refine congrArg (m ((c.tc : Thread nD τ).loc main_arg7)) (congrArg (fun k => (ix2 k e : S1024x1024.Idx)) (Fin.ext ?_))
  exact (congrArg (fun w : BitVec 32 => min w.toInt.toNat 1023) (start_row r)).trans (row_index r)

/-- The feed-forward network's first weights: columns regrouped by chunks. -/
theorem host_wfi (c : Dev nD) (r : Fin 1024) (e : Fin 5632) : V m c main_v13 (ix2 r e) = m ((c.tc : Thread nD τ).loc main_arg8)
    (ix2 r ⟨if (e : ℕ) % 512 < 256 then 256 * ((e : ℕ) / 512) + (e : ℕ) % 512
      else 2816 + 256 * ((e : ℕ) / 512) + ((e : ℕ) % 512 - 256), by split <;> omega⟩) := by
  unfold V
  simp only [List.flatten_cons, List.flatten_nil, List.append_nil, List.cons_append, List.nil_append]
  after_results
  refine (gather_column _ _ r e).trans ?_
  refine congrArg (m ((c.tc : Thread nD τ).loc main_arg8)) (congrArg (fun k => (ix2 r k : S1024x5632.Idx)) (Fin.ext ?_))
  exact (congrArg (fun w : BitVec 32 => min w.toInt.toNat 5631) (start_column e)).trans (column_index e)

/-- The feed-forward network's last weights. -/
theorem host_wfo (c : Dev nD) (i : S2816x1024.Idx) : V m c main_v14 i = m ((c.tc : Thread nD τ).loc main_arg9) i := by
  unfold V
  simp only [List.flatten_cons, List.flatten_nil, List.append_nil, List.cons_append, List.nil_append]
  after_results
  pointwise

end Cert.PostIdeal.Value
-- ==== Proof.Post.Value.lean ====
module
public import proofs.«01_k».proof.Proof.Post.Block
public import proofs.«01_k».proof.Proof.Post.Host
public import proofs.«01_k».proof.Proof.Post.Spec
public import Idealize.ShloMosaic.Lib.Pipeline.ValueKit

/-! The array the second sublayer's kernel leaves. -/

set_option maxRecDepth 16384

@[expose] public section

noncomputable section

open Idealize.ShloMosaic Idealize.ShloMosaic.TcCoe Idealize.SL.Sem

namespace Cert.PostIdeal.Value
open Cert.PostIdeal Cert.PostIdeal.Gen

variable (m : (ℓ : Loc nD τ sig) → Buf (Elt Ideal) ℓ)

/-- Point `t` of the grid is tile `t % 4` of batch entry `t / 4`. -/
theorem idx : ∀ t : Fin cfg0.N, win0_0.index t = ![t.val / 4, t.val % 4, 0] ∧ win0_1.index t = ![t.val / 4, t.val % 4, 0]
    ∧ win0_2.index t = ![t.val / 4, 0, 0] ∧ win0_3.index t = ![0, 0] ∧ win0_4.index t = ![0, 0]
    ∧ win0_5.index t = ![0, 0] ∧ win0_6.index t = ![0, 0] ∧ win0_7.index t = ![t.val / 4, t.val % 4, 0] ∧ t.val / 4 < 32 :=
  (by decide +kernel : ∀ t : Fin grid0.N, _)

/-- The batch entry of a grid point. -/
def batch (t : Fin cfg0.N) : Fin 32 := ⟨t.val / 4, (idx t).2.2.2.2.2.2.2.2⟩

/-- The row of the sequence that row `q` of a grid point's tile is. -/
def row (t : Fin cfg0.N) (q : Fin 512) : Fin 2048 := ⟨512 * (t.val % 4) + q, by omega⟩

/-- A grid point's block of the stream. -/
theorem read0 (c : Dev nD) (t : Fin cfg0.N) (q : Fin 512) (e : Fin 1024) : iblk m c 0 t (ix3 0 q e : S1x512x1024.Idx)
    = m ((c.tc : Thread nD τ).loc main_arg0) (ix3 (batch t) (row t q) e) := by
  blk_ext [iblk, V, idx t, batch, row]

/-- A grid point's block of the attention's output. -/
theorem read1 (c : Dev nD) (t : Fin cfg0.N) (q : Fin 512) (e : Fin 1024) : iblk m c 1 t (ix3 0 q e : S1x512x1024.Idx)
    = m ((c.tc : Thread nD τ).loc main_arg1) (ix3 (batch t) (row t q) e) := by
  blk_ext [iblk, V, idx t, batch, row]

/-- A grid point's block of the modulation. -/
theorem read2 (c : Dev nD) (t : Fin cfg0.N) (r : Fin 8) (hr : (r : ℕ) < 6) (e : Fin 1024) : iblk m c 2 t (ix3 0 r e : S1x8x1024.Idx)
    = m ((c.tc : Thread nD τ).loc main_arg2) (ix2 (batch t) ⟨1024 * (r : ℕ) + e, by omega⟩) := by
  refine Eq.trans ?_ (host_mods m c (batch t) r hr e)
  blk_ext [iblk, idx t, batch]

/-- The gains, row 1. -/
theorem read31 (c : Dev nD) (t : Fin cfg0.N) (e : Fin 1024) : iblk m c 3 t (ix2 1 e : S8x1024.Idx)
    = m ((c.tc : Thread nD τ).loc main_arg4) (ix1 e) := by
  refine Eq.trans ?_ (host_gain1 m c e)
  blk_ext [iblk, idx t]

/-- The gains, row 2. -/
theorem read32 (c : Dev nD) (t : Fin cfg0.N) (e : Fin 1024) : iblk m c 3 t (ix2 2 e : S8x1024.Idx)
    = m ((c.tc : Thread nD τ).loc main_arg5) (ix1 e) := by
  refine Eq.trans ?_ (host_gain2 m c e)
  blk_ext [iblk, idx t]

/-- The gains, row 3. -/
theorem read33 (c : Dev nD) (t : Fin cfg0.N) (e : Fin 1024) : iblk m c 3 t (ix2 3 e : S8x1024.Idx)
    = m ((c.tc : Thread nD τ).loc main_arg6) (ix1 e) := by
  refine Eq.trans ?_ (host_gain3 m c e)
  blk_ext [iblk, idx t]

/-- The attention's output weights. -/
theorem read4 (c : Dev nD) (t : Fin cfg0.N) (r e : Fin 1024) : iblk m c 4 t (ix2 r e : S1024x1024.Idx)
    = m ((c.tc : Thread nD τ).loc main_arg7)
      (ix2 ⟨512 * ((r : ℕ) / 512) + 256 * ((r : ℕ) / 64 % 2) + 64 * ((r : ℕ) / 128 % 4) + (r : ℕ) % 64, by omega⟩ e) := by
  refine Eq.trans ?_ (host_wo m c r e)
  blk_ext [iblk, idx t]

/-- The feed-forward network's first weights. -/
theorem read5 (c : Dev nD) (t : Fin cfg0.N) (r : Fin 1024) (e : Fin 5632) : iblk m c 5 t (ix2 r e : S1024x5632.Idx)
    = m ((c.tc : Thread nD τ).loc main_arg8)
      (ix2 r ⟨if (e : ℕ) % 512 < 256 then 256 * ((e : ℕ) / 512) + (e : ℕ) % 512
        else 2816 + 256 * ((e : ℕ) / 512) + ((e : ℕ) % 512 - 256), by split <;> omega⟩) := by
  refine Eq.trans ?_ (host_wfi m c r e)
  blk_ext [iblk, idx t]

/-- The feed-forward network's last weights. -/
theorem read6 (c : Dev nD) (t : Fin cfg0.N) (r : Fin 2816) (e : Fin 1024) : iblk m c 6 t (ix2 r e : S2816x1024.Idx)
    = m ((c.tc : Thread nD τ).loc main_arg9) (ix2 r e) := by
  refine Eq.trans ?_ (host_wfo m c (ix2 r e))
  blk_ext [iblk, idx t]

/-- A row of the result, from blocks that hold the arrays' elements. -/
theorem row_of_reads (x0 : Vec Ideal S1x512x1024 .f32) (x1 : Vec Ideal S1x512x1024 .bf16) (x2 : Vec Ideal S1x8x1024 .f32)
    (x3 : Vec Ideal S8x1024 .f32) (x4 : Vec Ideal S1024x1024 .bf16) (x5 : Vec Ideal S1024x5632 .bf16)
    (x6 : Vec Ideal S2816x1024 .bf16) (q : Fin 512) (X A gtm shift scale gtf g1 g2 g3 : Fin 1024 → EReal)
    (wo : Fin 1024 → Fin 1024 → EReal) (gate up down : Fin 2816 → Fin 1024 → EReal)
    (h0 : ∀ e, x0 (ix3 0 q e) = X e) (h1 : ∀ e, x1 (ix3 0 q e) = A e) (h22 : ∀ e, x2 (ix3 0 2 e) = gtm e)
    (h23 : ∀ e, x2 (ix3 0 3 e) = shift e) (h24 : ∀ e, x2 (ix3 0 4 e) = scale e) (h25 : ∀ e, x2 (ix3 0 5 e) = gtf e)
    (h31 : ∀ e, x3 (ix2 1 e) = g1 e) (h32 : ∀ e, x3 (ix2 2 e) = g2 e) (h33 : ∀ e, x3 (ix2 3 e) = g3 e)
    (h4 : ∀ r e, x4 (ix2 r e) = wo r e)
    (h5 : ∀ (k : Fin 2816) e, x5 (ix2 e ⟨512 * ((k : ℕ) / 256) + (k : ℕ) % 256, by omega⟩) = gate k e)
    (h5' : ∀ (k : Fin 2816) e, x5 (ix2 e ⟨512 * ((k : ℕ) / 256) + 256 + (k : ℕ) % 256, by omega⟩) = up k e)
    (h6 : ∀ k e, x6 (ix2 k e) = down k e) (n : Fin 1024) :
    rowOf x0 x1 x2 x3 x4 x5 x6 q n
      = PostSpec.out X (fun n => ∑ k, A k * wo k n) gtm g1 g2 scale shift gate up down gtf g3 n := by
  have hf : first x0 x1 x2 x3 x4 q = PostSpec.plus X (fun n => ∑ k, A k * wo k n) gtm g1 := by
    funext n
    unfold first
    simp only [h0, h1, h22, h31, h4]
  unfold rowOf PostSpec.out PostSpec.feed unitOf seen
  simp only [hf, h23, h24, h25, h32, h33, h5, h5', h6]

/-- The result array. -/
def result (c : Dev nD) : FVec Ideal S32x2048x1024 .f32 := fun i =>
  PostSpec.result (m ((c.tc : Thread nD τ).loc main_arg0)) (m ((c.tc : Thread nD τ).loc main_arg1))
    (m ((c.tc : Thread nD τ).loc main_arg2)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (i 0) (i 1) (i 2)

/-- A hidden unit's column of the gate's weights. -/
theorem gate_at (c : Dev nD) (t : Fin cfg0.N) (k : Fin 2816) (e : Fin 1024) :
    iblk m c 5 t (ix2 e ⟨512 * ((k : ℕ) / 256) + (k : ℕ) % 256, by omega⟩ : S1024x5632.Idx)
      = m ((c.tc : Thread nD τ).loc main_arg8) (ix2 e ⟨(k : ℕ), by omega⟩) := by
  rw [read5]
  exact congrArg (fun z => m ((c.tc : Thread nD τ).loc main_arg8) (ix2 e z : S1024x5632.Idx))
      (Fin.ext (by simp only; rw [if_pos (by omega)]; omega))

/-- A hidden unit's column of the other weights. -/
theorem up_at (c : Dev nD) (t : Fin cfg0.N) (k : Fin 2816) (e : Fin 1024) :
    iblk m c 5 t (ix2 e ⟨512 * ((k : ℕ) / 256) + 256 + (k : ℕ) % 256, by omega⟩ : S1024x5632.Idx)
      = m ((c.tc : Thread nD τ).loc main_arg8) (ix2 e ⟨2816 + (k : ℕ), by omega⟩) := by
  rw [read5]
  exact congrArg (fun z => m ((c.tc : Thread nD τ).loc main_arg8) (ix2 e z : S1024x5632.Idx))
      (Fin.ext (by simp only; rw [if_neg (by omega)]; omega))

/-- A row of a grid point's blocks is that of the arrays at the point's place. -/
theorem row_block (c : Dev nD) (t : Fin cfg0.N) (q : Fin 512) (n : Fin 1024) :
    rowOf (iblk m c 0 t) (iblk m c 1 t) (iblk m c 2 t) (iblk m c 3 t) (iblk m c 4 t) (iblk m c 5 t) (iblk m c 6 t) q n
      = result m c (ix3 (batch t) (row t q) n) :=
  row_of_reads _ _ _ _ _ _ _ q _ _ _ _ _ _ _ _ _ _ _ _ _ (read0 m c t q) (read1 m c t q) (read2 m c t 2 (by decide))
    (read2 m c t 3 (by decide)) (read2 m c t 4 (by decide)) (read2 m c t 5 (by decide)) (read31 m c t) (read32 m c t)
    (read33 m c t) (read4 m c t) (gate_at m c t) (up_at m c t) (read6 m c t) n

/-- What a grid point stores is its block of the result. -/
theorem point (c : Dev nD) (t : Fin cfg0.N) (y : S1x512x1024.Idx) :
    outsAt0 m c t y = result m c (((cfg0.win 7).blk t).view.emb y) := by
  idx_vars y
  obtain rfl : y0 = 0 := Subsingleton.elim _ _
  rw [stored, row_block]
  refine congrArg (result m c) ?_
  blk_ext [idx t, batch, row]

/-- The array after the run. -/
theorem final (c : Dev nD) : (dats m 0 c).arrAt 7 (cfgs 0).N = result m c := by
  refine (dats m 0 c).arrAt_eq_of_covers 7 _ (by decide +kernel) fun t _ y => ?_
  blk_simp
  rw [after0_7]
  exact point m c t y

end Cert.PostIdeal.Value
-- ==== Proof.Post.Ref.lean ====
module
public import proofs.«01_k».proof.Proof.Gen.PostRefIdeal.Read
public import proofs.«01_k».proof.Proof.Post.Spec

/-! What the reference of the second sublayer computes, element by element. -/

set_option maxRecDepth 16384

@[expose] public section

noncomputable section

open Idealize.ShloMosaic Idealize.ShloMosaic.TcCoe Idealize.SL.Sem

namespace Cert.PostRefIdeal.Value
open Cert.PostRefIdeal Cert.PostRefIdeal.Gen Cert.PostRefIdeal.Read PostSpec

variable (X : FVec Ideal S32x2048x1024 .f32) (A : FVec Ideal S32x2048x1024 .bf16) (M : FVec Ideal S32x6144 .f32)
  (G1 G2 G3 : FVec Ideal S1024 .f32) (WO : FVec Ideal S1024x1024 .f32) (WFI : FVec Ideal S1024x5632 .f32)
  (WFO : FVec Ideal S2816x1024 .f32)

/-- The lanes of the attention's output: chunks, heads, halves and dims. -/
theorem lanes_at (b : Fin 32) (s : Fin 2048) (i : Fin 2) (h : Fin 4) (z : Fin 2) (d : Fin 64) :
    val_main_v8 (F := Ideal) A (ix6 b s i h z d)
      = A (ix3 b s ⟨(i : ℕ) * 512 + (h : ℕ) * 128 + (z : ℕ) * 64 + d, by omega⟩) := by
  pointwise [val_main_v8, val_main_v7]

/-- Heads and halves exchanged. -/
theorem lanes_swap (b : Fin 32) (s : Fin 2048) (i : Fin 2) (z : Fin 2) (h : Fin 4) (d : Fin 64) :
    val_main_v9 (F := Ideal) A (ix6 b s i z h d) = val_main_v8 (F := Ideal) A (ix6 b s i h z d) := by
  rw [val_main_v9_apply]
  generalize val_main_v8 (F := Ideal) A = Y
  refine congrArg Y (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- The lanes counted as one axis again. -/
theorem lanes_join (b : Fin 32) (s : Fin 2048) (k : Fin 1024) : val_main_v10 (F := Ideal) A (ix3 b s k)
    = val_main_v9 (F := Ideal) A (ix6 b s ⟨(k : ℕ) / 512, by omega⟩ ⟨(k : ℕ) / 256 % 2, by omega⟩ ⟨(k : ℕ) / 64 % 4, by omega⟩
      ⟨(k : ℕ) % 64, by omega⟩) := by
  pointwise [val_main_v10]

/-- The attention's output, its lanes regrouped. -/
theorem regrouped (b : Fin 32) (s : Fin 2048) (k : Fin 1024) :
    val_main_v10 (F := Ideal) A (ix3 b s k) = A (ix3 b s (source k)) := by
  rw [lanes_join, lanes_swap, lanes_at]
  exact congrArg (fun e => A (ix3 b s e)) (Fin.ext (by simp only [source]; omega))

/-- The attention's output projected. -/
theorem projected (b : Fin 32) (s : Fin 2048) (n : Fin 1024) : val_main_v11 (F := Ideal) A WO (ix3 b s n)
    = ∑ k, A (ix3 b s k) * WO (ix2 (place k) n) := by
  refine Eq.trans ?_ (project (fun k => A (ix3 b s k)) (fun k => WO (ix2 k n)))
  rw [val_main_v11_apply]
  refine Finset.sum_congr rfl fun k _ => congrArg₂ (· * ·) ((congrArg (val_main_v10 (F := Ideal) A) (funext fun a => ?_)).trans
    (regrouped A b s k)) (congrArg WO (funext fun a => ?_))
  · match a with
    | ⟨0, _⟩ => rfl
    | ⟨1, _⟩ => rfl
    | ⟨2, _⟩ => rfl
  · match a with
    | ⟨0, _⟩ => rfl
    | ⟨1, _⟩ => rfl

/-- The projected row normalised. -/
theorem normed1 (b : Fin 32) (s : Fin 2048) (n : Fin 1024) : val_main_v21 (F := Ideal) A WO (ix3 b s n)
    = rms (fun n => val_main_v11 (F := Ideal) A WO (ix3 b s n)) n := by
  pointwise [val_main_v21, val_main_v20, val_main_v19, val_main_v18, val_main_v17, val_main_v16, val_main_v15, val_main_v14,
    val_main_v13, val_main_v12, val_main_cst, val_main_cst_0, val_main_cst_1, rms]

/-- The row after the attention's part. -/
theorem first_at (b : Fin 32) (s : Fin 2048) (n : Fin 1024) : val_main_v27 (F := Ideal) X A M G1 WO (ix3 b s n)
    = plus (fun e => X (ix3 b s e)) (fun n => val_main_v11 (F := Ideal) A WO (ix3 b s n))
      (fun e => M (ix2 b ⟨2048 + (e : ℕ), by omega⟩)) (fun e => G1 (ix1 e)) n := by
  have h := normed1 A WO b s
  pointwise [val_main_v27, val_main_v26, val_main_v25, val_main_v24, val_main_v23, val_main_v22, val_main_v3, val_main_v0, h, plus]

/-- That row normalised. -/
theorem normed2 (b : Fin 32) (s : Fin 2048) (n : Fin 1024) : val_main_v37 (F := Ideal) X A M G1 WO (ix3 b s n)
    = rms (fun n => val_main_v27 (F := Ideal) X A M G1 WO (ix3 b s n)) n := by
  pointwise [val_main_v37, val_main_v36, val_main_v35, val_main_v34, val_main_v33, val_main_v32, val_main_v31, val_main_v30,
    val_main_v29, val_main_v28, val_main_cst_2, val_main_cst_3, val_main_cst_4, rms]

/-- What the feed-forward part sees. -/
theorem seen_at (b : Fin 32) (s : Fin 2048) (n : Fin 1024) : val_main_v46 (F := Ideal) X A M G1 G2 WO (ix3 b s n)
    = modulated (fun n => val_main_v27 (F := Ideal) X A M G1 WO (ix3 b s n)) (fun e => G2 (ix1 e))
      (fun e => M (ix2 b ⟨4096 + (e : ℕ), by omega⟩)) (fun e => M (ix2 b ⟨3072 + (e : ℕ), by omega⟩)) n := by
  have h := normed2 X A M G1 WO b s
  pointwise [val_main_v46, val_main_v45, val_main_v44, val_main_v43, val_main_v42, val_main_v41, val_main_v40, val_main_v39,
    val_main_v38, val_main_v4, val_main_v5, val_main_v0, val_main_cst_5, h, modulated]

/-- The feed-forward part's first product. -/
theorem wide_at (b : Fin 32) (s : Fin 2048) (k : Fin 5632) : val_main_v47 (F := Ideal) X A M G1 G2 WO WFI (ix3 b s k)
    = ∑ e, val_main_v46 (F := Ideal) X A M G1 G2 WO (ix3 b s e) * WFI (ix2 e k) := by
  rw [val_main_v47_apply]
  generalize val_main_v46 (F := Ideal) X A M G1 G2 WO = Y
  refine Finset.sum_congr rfl fun e _ => congrArg₂ (· * ·) (congrArg Y (funext fun a => ?_)) (congrArg WFI (funext fun a => ?_))
  · match a with
    | ⟨0, _⟩ => rfl
    | ⟨1, _⟩ => rfl
    | ⟨2, _⟩ => rfl
  · match a with
    | ⟨0, _⟩ => rfl
    | ⟨1, _⟩ => rfl

/-- A hidden unit. -/
theorem unit_at (b : Fin 32) (s : Fin 2048) (k : Fin 2816) : val_main_v51 (F := Ideal) X A M G1 G2 WO WFI (ix3 b s k)
    = glu (val_main_v47 (F := Ideal) X A M G1 G2 WO WFI (ix3 b s ⟨(k : ℕ), by omega⟩))
      (val_main_v47 (F := Ideal) X A M G1 G2 WO WFI (ix3 b s ⟨2816 + (k : ℕ), by omega⟩)) := by
  pointwise [val_main_v51, val_main_v50, val_main_v49, val_main_v48, val_main_call0_v5, val_main_call0_v4, val_main_call0_v3,
    val_main_call0_v2, val_main_call0_v1, val_main_call0_v0, val_main_call0_cst, val_main_call0_cst_0, glu]
  rw [zero_sub]

/-- The feed-forward part's output. -/
theorem fed_at (b : Fin 32) (s : Fin 2048) (n : Fin 1024) : val_main_v52 (F := Ideal) X A M G1 G2 WO WFI WFO (ix3 b s n)
    = ∑ k, val_main_v51 (F := Ideal) X A M G1 G2 WO WFI (ix3 b s k) * WFO (ix2 k n) := by
  rw [val_main_v52_apply]
  generalize val_main_v51 (F := Ideal) X A M G1 G2 WO WFI = Y
  refine Finset.sum_congr rfl fun e _ => congrArg₂ (· * ·) (congrArg Y (funext fun a => ?_)) (congrArg WFO (funext fun a => ?_))
  · match a with
    | ⟨0, _⟩ => rfl
    | ⟨1, _⟩ => rfl
    | ⟨2, _⟩ => rfl
  · match a with
    | ⟨0, _⟩ => rfl
    | ⟨1, _⟩ => rfl

/-- That output normalised. -/
theorem normed3 (b : Fin 32) (s : Fin 2048) (n : Fin 1024) : val_main_v62 (F := Ideal) X A M G1 G2 WO WFI WFO (ix3 b s n)
    = rms (fun n => val_main_v52 (F := Ideal) X A M G1 G2 WO WFI WFO (ix3 b s n)) n := by
  pointwise [val_main_v62, val_main_v61, val_main_v60, val_main_v59, val_main_v58, val_main_v57, val_main_v56, val_main_v55,
    val_main_v54, val_main_v53, val_main_cst_6, val_main_cst_7, val_main_cst_8, rms]

/-- The result, from the rows before the last sum. -/
theorem last_at (b : Fin 32) (s : Fin 2048) (n : Fin 1024) : val_main_v68 (F := Ideal) X A M G1 G2 G3 WO WFI WFO (ix3 b s n)
    = plus (fun n => val_main_v27 (F := Ideal) X A M G1 WO (ix3 b s n))
      (fun n => val_main_v52 (F := Ideal) X A M G1 G2 WO WFI WFO (ix3 b s n))
      (fun e => M (ix2 b ⟨5120 + (e : ℕ), by omega⟩)) (fun e => G3 (ix1 e)) n := by
  have h := normed3 X A M G1 G2 WO WFI WFO b s
  pointwise [val_main_v68, val_main_v67, val_main_v66, val_main_v65, val_main_v64, val_main_v63, val_main_v6, val_main_v0, h, plus]

/-- The reference's result, element by element. -/
theorem value_at (b : Fin 32) (s : Fin 2048) (n : Fin 1024) : val_main_v68 (F := Ideal) X A M G1 G2 G3 WO WFI WFO (ix3 b s n)
    = PostSpec.result X A M G1 G2 G3 WO WFI WFO b s n := by
  rw [last_at]
  simp only [fed_at, unit_at, wide_at, seen_at, first_at, projected]
  rfl

end Cert.PostRefIdeal.Value
-- ==== Proof.Post.Claim.lean ====
module
public import proofs.«01_k».proof.Defs
public import proofs.«01_k».proof.Proof.Post.Value
public import proofs.«01_k».proof.Proof.Post.Ref
public import proofs.«01_k».proof.Proof.Gen.Post.Frame
public import Idealize.ShloMosaic.Adequacy
public import Idealize.ShloMosaic.Init

/-! The closing call's kernel and its reference compute the same array. -/

set_option maxRecDepth 16384

@[expose] public section

noncomputable section

open Idealize.ShloMosaic Idealize.ShloMosaic.TcCoe Idealize.SL.Sem

namespace Cert.PostClaim

/-- The reference's result is the kernel's array. -/
theorem equal (m : (ℓ : Loc PostIdeal.nD PostIdeal.τ PostIdeal.sig) → Buf (Elt Ideal) ℓ) (c : Dev PostIdeal.nD) :
    PostRefIdeal.Read.val_main_v68 (F := Ideal) (m ((c.tc : Thread PostIdeal.nD PostIdeal.τ).loc PostIdeal.main_arg0))
        (m ((c.tc : Thread PostIdeal.nD PostIdeal.τ).loc PostIdeal.main_arg1))
        (m ((c.tc : Thread PostIdeal.nD PostIdeal.τ).loc PostIdeal.main_arg2))
        (m ((c.tc : Thread PostIdeal.nD PostIdeal.τ).loc PostIdeal.main_arg4))
        (m ((c.tc : Thread PostIdeal.nD PostIdeal.τ).loc PostIdeal.main_arg5))
        (m ((c.tc : Thread PostIdeal.nD PostIdeal.τ).loc PostIdeal.main_arg6))
        (m ((c.tc : Thread PostIdeal.nD PostIdeal.τ).loc PostIdeal.main_arg7))
        (m ((c.tc : Thread PostIdeal.nD PostIdeal.τ).loc PostIdeal.main_arg8))
        (m ((c.tc : Thread PostIdeal.nD PostIdeal.τ).loc PostIdeal.main_arg9))
      = PostIdeal.Value.result m c := by
  funext i
  idx_vars i
  exact PostRefIdeal.Value.value_at _ _ _ _ _ _ _ _ _ i0 i1 i2

/-- The two programs' results are equal. -/
theorem algebraic : Cert.algebraic_PostIdeal_PostRefIdeal := by
  pair_intro
  · run_from Cert.PostIdeal.Gen.run_main m g
    all_goals
      simp only [List.flatten_cons, List.flatten_nil, List.append_nil, List.cons_append, List.nil_append]
      after_results
  · run_from Cert.PostRefIdeal.Value.run m' g'
    obtain ⟨h0, h1, h2, h3, h4, h5, h6, h7, h8, h9⟩ := hagree c
    rw [PostRefIdeal.Read.val_main_v68_eq, h0, h1, h2, h4, h5, h6, h7, h8, h9]
    exact (equal m c).trans (PostIdeal.Value.final m c).symm

end Cert.PostClaim
-- ==== Proof.Pool.Spec.lean ====
module
public import proofs.«01_k».proof.Proof.Post.Spec
public import Idealize.ShloMosaic.Lib.WordArith

/-! The pooled half of an even layer's mixed columns, and one row of the closing call of an even layer.

For a half width `h`, position `t` looks at the positions from `t - h` to `t + h`, the last one left out, as far as they exist. -/

set_option maxRecDepth 16384

@[expose] public section

noncomputable section

open Idealize.ShloMosaic

namespace PoolSpec

/-- The number of positions in the window of half width `h` around `t`, computed in integers. -/
def count (t h : BitVec 32) : EReal := FloatOps.sitofp (F := Ideal) .f32
  (IntOp.subi (IntOp.minsi (IntOp.addi t h) 2048#32) (IntOp.maxsi (IntOp.subi t h) 0#32))

/-- A sequence with eight zeros before it and zeros after it. -/
def padded (U : Fin 2048 → EReal) (p : ℕ) : EReal := if h : 8 ≤ p ∧ p < 2056 then U ⟨p - 8, by omega⟩ else 0

/-- The sum over the window of half width `h` around `q`, in a sequence that starts eight places earlier. -/
def total (E : ℕ → EReal) (q h : ℕ) : EReal := ∑ i ∈ Finset.range (2 * h), E (q + 8 - h + i)

/-- A pooled column: the windows' means less the position itself, times weights, times a scale. -/
def mixOf (E : ℕ → Fin 128 → EReal) (t : BitVec 32) (h : ℕ) (W : Fin 128 → EReal) (c : EReal) (q : ℕ) : EReal :=
  (∑ x, (Ideal.div (total (fun p => E p x) q h) (count t (BitVec.ofNat 32 h)) - E (q + 8) x) * W x) * c

/-- The columns the output weights meet: the attention's 512 and four times 128 pooled ones. -/
def inputs (A : Fin 512 → EReal) (M : Fin 4 → Fin 128 → EReal) (k : Fin 1024) : EReal :=
  if h : (k : ℕ) < 512 then A ⟨k, h⟩ else M ⟨((k : ℕ) - 512) / 128, by omega⟩ ⟨((k : ℕ) - 512) % 128, by omega⟩

/-- The sum of the sequence's elements inside the window, each times one, and the others times zero. -/
theorem total_eq (U : Fin 2048 → EReal) (t : Fin 2048) (h : ℕ) (hh : h ≤ 8) :
    ∑ s : Fin 2048, U s * (if (t : ℕ) ≤ s + h ∧ (s : ℕ) < t + h then 1 else 0) = total (padded U) t h := by
  have ht := t.isLt
  unfold total
  have h0 : ∑ i ∈ Finset.range (2 * h), padded U ((t : ℕ) + 8 - h + i)
      = ∑ p ∈ Finset.Ico ((t : ℕ) + 8 - h) ((t : ℕ) + 8 - h + 2 * h), padded U p := by
    rw [Finset.sum_Ico_eq_sum_range, Nat.add_sub_cancel_left]
  rw [h0]
  let G : ℕ → EReal := fun p => if (t : ℕ) + 8 - h ≤ p ∧ p < (t : ℕ) + 8 - h + 2 * h then padded U p else 0
  have h1 : ∑ s : Fin 2048, U s * (if (t : ℕ) ≤ s + h ∧ (s : ℕ) < t + h then 1 else 0) = ∑ p ∈ Finset.Ico 8 2056, G p := by
    rw [Finset.sum_Ico_eq_sum_range, Finset.sum_range]
    refine Finset.sum_congr rfl fun s _ => ?_
    have hs : (s : ℕ) < 2048 := s.isLt
    show _ = if _ then _ else _
    by_cases hc : (t : ℕ) ≤ s + h ∧ (s : ℕ) < t + h
    · rw [if_pos hc, if_pos (by omega), mul_one]
      unfold padded
      rw [dif_pos (by omega)]
      exact congrArg U (Fin.ext (by simp))
    · rw [if_neg hc, if_neg (by omega), mul_zero]
  have h2 : ∑ p ∈ Finset.Ico ((t : ℕ) + 8 - h) ((t : ℕ) + 8 - h + 2 * h), padded U p
      = ∑ p ∈ Finset.Ico ((t : ℕ) + 8 - h) ((t : ℕ) + 8 - h + 2 * h), G p := by
    refine Finset.sum_congr rfl fun p hp => ?_
    rw [Finset.mem_Ico] at hp
    exact (if_pos hp).symm
  have h3 : ∑ p ∈ Finset.Ico 8 2056, G p = ∑ p ∈ Finset.range 4096, G p := by
    refine Finset.sum_subset (fun p hp => ?_) (fun p _ hp => ?_)
    · rw [Finset.mem_Ico] at hp
      rw [Finset.mem_range]
      omega
    · rw [Finset.mem_Ico] at hp
      show (if _ then padded U p else 0) = 0
      unfold padded
      rw [dif_neg hp, ite_self]
  have h4 : ∑ p ∈ Finset.Ico ((t : ℕ) + 8 - h) ((t : ℕ) + 8 - h + 2 * h), G p = ∑ p ∈ Finset.range 4096, G p := by
    refine Finset.sum_subset (fun p hp => ?_) (fun p _ hp => ?_)
    · rw [Finset.mem_Ico] at hp
      rw [Finset.mem_range]
      omega
    · rw [Finset.mem_Ico] at hp
      exact if_neg hp
  rw [h1, h2, h3, h4]

/-- A small word, as an integer. -/
theorem toInt_small (n : ℕ) (hn : n < 2 ^ 31) : (BitVec.ofNat 32 n).toInt = n := by
  rw [BitVec.toInt_eq_toNat_of_lt (by rw [BitVec.toNat_ofNat]; omega), BitVec.toNat_ofNat]
  omega

/-- The window's mask, computed in integers. -/
theorem mask (t s h : ℕ) (ht : t < 2048) (hs : s < 2048) (hh : h ≤ 8) :
    Scalar.select (IntOp.andi (IntOp.cmpi .sge (BitVec.ofNat 32 s) (IntOp.maxsi (IntOp.subi (BitVec.ofNat 32 t) (BitVec.ofNat 32 h)) 0#32))
      (IntOp.cmpi .slt (BitVec.ofNat 32 s) (IntOp.minsi (IntOp.addi (BitVec.ofNat 32 t) (BitVec.ofNat 32 h)) 2048#32))) (1 : EReal) 0
      = if t ≤ s + h ∧ s < t + h then 1 else 0 := by
  have h1 : (BitVec.ofNat 32 t - BitVec.ofNat 32 h).toInt = (t : ℤ) - h := by
    rw [BitVec.toInt_sub, toInt_small t (by omega), toInt_small h (by omega)]
    exact Int.bmod_eq_of_le (by omega) (by omega)
  have h2 : (BitVec.ofNat 32 t + BitVec.ofNat 32 h).toInt = (t : ℤ) + h := by
    rw [BitVec.toInt_add, toInt_small t (by omega), toInt_small h (by omega)]
    exact Int.bmod_eq_of_le (by omega) (by omega)
  have h3 : (IntOp.maxsi (IntOp.subi (BitVec.ofNat 32 t) (BitVec.ofNat 32 h)) 0#32).toInt = max ((t : ℤ) - h) 0 := by
    show (if BitVec.slt 0#32 (BitVec.ofNat 32 t - BitVec.ofNat 32 h) then (BitVec.ofNat 32 t - BitVec.ofNat 32 h) else 0#32).toInt = _
    rw [BitVec.slt_eq_decide, h1, show ((0#32 : BitVec 32)).toInt = 0 from rfl]
    by_cases hc : 0 < (t : ℤ) - h
    · simp only [hc, decide_true, if_true]
      rw [h1]
      omega
    · simp only [hc, decide_false, Bool.false_eq_true, if_false]
      show (0 : ℤ) = _
      omega
  have h4 : (IntOp.minsi (IntOp.addi (BitVec.ofNat 32 t) (BitVec.ofNat 32 h)) 2048#32).toInt = min ((t : ℤ) + h) 2048 := by
    show (if (BitVec.ofNat 32 t + BitVec.ofNat 32 h).slt 2048#32 then (BitVec.ofNat 32 t + BitVec.ofNat 32 h) else 2048#32).toInt = _
    rw [BitVec.slt_eq_decide, h2, show ((2048#32 : BitVec 32)).toInt = 2048 from rfl]
    by_cases hc : (t : ℤ) + h < 2048
    · simp only [hc, decide_true, if_true]
      rw [h2]
      omega
    · simp only [hc, decide_false, Bool.false_eq_true, if_false]
      show (2048 : ℤ) = _
      omega
  have h5 : IntOp.cmpi .sge (BitVec.ofNat 32 s) (IntOp.maxsi (IntOp.subi (BitVec.ofNat 32 t) (BitVec.ofNat 32 h)) 0#32)
      = BitVec.ofBool (decide (max ((t : ℤ) - h) 0 ≤ s)) := by
    show BitVec.ofBool (BitVec.sle _ _) = _
    rw [BitVec.sle_eq_decide, h3, toInt_small s (by omega)]
  have h6 : IntOp.cmpi .slt (BitVec.ofNat 32 s) (IntOp.minsi (IntOp.addi (BitVec.ofNat 32 t) (BitVec.ofNat 32 h)) 2048#32)
      = BitVec.ofBool (decide ((s : ℤ) < min ((t : ℤ) + h) 2048)) := by
    show BitVec.ofBool (BitVec.slt _ _) = _
    rw [BitVec.slt_eq_decide, h4, toInt_small s (by omega)]
  rw [h5, h6, WordArith.andi_ofBool]
  by_cases hc : t ≤ s + h ∧ s < t + h
  · rw [if_pos hc, decide_eq_true (by omega), decide_eq_true (by omega)]
    rfl
  · rw [if_neg hc]
    have hb : (decide (max ((t : ℤ) - h) 0 ≤ s) && decide ((s : ℤ) < min ((t : ℤ) + h) 2048)) = false := by
      rw [Bool.and_eq_false_iff, decide_eq_false_iff_not, decide_eq_false_iff_not]
      omega
    rw [hb]
    rfl

/-- The row of the output weights that a column meets in the kernel. -/
def place (k : Fin 1024) : Fin 1024 :=
  ⟨if (k : ℕ) < 512 then 256 * ((k : ℕ) / 64 % 2) + 64 * ((k : ℕ) / 128) + (k : ℕ) % 64 else k, by split <;> omega⟩

/-- The column that a row of the output weights meets in the kernel. -/
def source (k : Fin 1024) : Fin 1024 :=
  ⟨if (k : ℕ) < 512 then 128 * ((k : ℕ) / 64 % 4) + 64 * ((k : ℕ) / 256) + (k : ℕ) % 64 else k, by split <;> omega⟩

/-- The columns projected, summed over the columns or over the rows of the weights. -/
theorem project (A W : Fin 1024 → EReal) : ∑ k, A (source k) * W k = ∑ k, A k * W (place k) := by
  have hl : ∀ k, place (source k) = k := by decide +kernel
  have hr : ∀ k, source (place k) = k := by decide +kernel
  refine Finset.sum_nbij' source place (fun _ _ => Finset.mem_univ _) (fun _ _ => Finset.mem_univ _) (fun k _ => hl k)
    (fun k _ => hr k) (fun k _ => ?_)
  rw [hl]

/-- Regrouping the attention's columns leaves the pooled ones in place. -/
theorem inputs_source (A : Fin 512 → EReal) (M : Fin 4 → Fin 128 → EReal) (k : Fin 1024) :
    inputs (fun j => A ⟨128 * ((j : ℕ) / 64 % 4) + 64 * ((j : ℕ) / 256) + (j : ℕ) % 64, by omega⟩) M k = inputs A M (source k) := by
  unfold inputs source
  by_cases hk : (k : ℕ) < 512
  · rw [dif_pos hk, dif_pos (by simp only [if_pos hk]; omega)]
    exact congrArg A (Fin.ext (by simp only [if_pos hk]))
  · rw [dif_neg hk, dif_neg (by simp only [if_neg hk]; exact hk)]
    simp only [if_neg hk]

/-- Pooled column `n` of group `g` at position `s` of batch entry `b`. -/
def mixed (U : FVec Ideal ⟨3, ![32, 2048, 512]⟩ .f32) (P : FVec Ideal ⟨3, ![4, 128, 128]⟩ .f32) (C : FVec Ideal ⟨1, ![512]⟩ .f32)
    (b : Fin 32) (s : Fin 2048) (g : Fin 4) (n : Fin 128) : EReal :=
  mixOf (fun p x => padded (fun r => U (ix3 b r ⟨128 * (g : ℕ) + x, by omega⟩)) p) (BitVec.ofNat 32 s) (2 ^ (g : ℕ))
    (fun x => P (ix3 g x n)) (C (ix1 ⟨128 * (g : ℕ) + n, by omega⟩)) s

/-- The result at row `s` of batch entry `b` and column `n`, from the arguments' arrays. -/
def result (X : FVec Ideal ⟨3, ![32, 2048, 1024]⟩ .f32) (A : FVec Ideal ⟨3, ![32, 2048, 512]⟩ .bf16)
    (U : FVec Ideal ⟨3, ![32, 2048, 512]⟩ .f32)
    (M : FVec Ideal ⟨2, ![32, 6144]⟩ .f32) (G1 G2 G3 : FVec Ideal ⟨1, ![1024]⟩ .f32) (WO : FVec Ideal ⟨2, ![1024, 1024]⟩ .f32)
    (P : FVec Ideal ⟨3, ![4, 128, 128]⟩ .f32) (C : FVec Ideal ⟨1, ![512]⟩ .f32)
    (WFI : FVec Ideal ⟨2, ![1024, 5632]⟩ .f32) (WFO : FVec Ideal ⟨2, ![2816, 1024]⟩ .f32) (b : Fin 32) (s : Fin 2048)
    (n : Fin 1024) : EReal :=
  PostSpec.out (fun e => X (ix3 b s e))
    (fun n => ∑ k, inputs (fun j => A (ix3 b s j)) (mixed U P C b s) k * WO (ix2 (place k) n))
    (fun e => M (ix2 b ⟨2048 + (e : ℕ), by omega⟩)) (fun e => G1 (ix1 e)) (fun e => G2 (ix1 e))
    (fun e => M (ix2 b ⟨4096 + (e : ℕ), by omega⟩)) (fun e => M (ix2 b ⟨3072 + (e : ℕ), by omega⟩))
    (fun k e => WFI (ix2 e ⟨(k : ℕ), by omega⟩)) (fun k e => WFI (ix2 e ⟨2816 + (k : ℕ), by omega⟩))
    (fun k e => WFO (ix2 k e)) (fun e => M (ix2 b ⟨5120 + (e : ℕ), by omega⟩)) (fun e => G3 (ix1 e)) n

end PoolSpec
-- ==== Proof.Pool.Block.lean ====
module
public import proofs.«01_k».proof.Proof.Gen.PoolIdeal.Value
public import proofs.«01_k».proof.Proof.Pool.Spec
public import Idealize.ShloMosaic.Lib.Pipeline.ValueKit
public import Idealize.ShloMosaic.Lib.Pipeline.ReadBack

/-! The arithmetic of one block of the closing call of an even layer, element by element. -/

set_option maxRecDepth 16384

@[expose] public section

noncomputable section

open Idealize.ShloMosaic Idealize.ShloMosaic.TcCoe Idealize.SL.Sem

namespace Cert.PoolIdeal.Value
open Cert.PoolIdeal Cert.PoolIdeal.Gen PostSpec PoolSpec

/-- Row `q` of a tile, as a word: its position in the sequence. -/
theorem position_at (i : grid0.Coords) (q : Fin 512) : k0_pay7 i (ix2 q 0) = BitVec.ofNat 32 (512 * (i 1 : ℕ) + q) := by
  pointwise [k0_pay7]
  show BitVec.ofNat 32 (i 1) * 512#32 + BitVec.ofNat 32 q = _
  rw [Nat.mul_comm, BitVec.ofNat_add, BitVec.ofNat_mul]

/-- The test for a tile that is not the first. -/
theorem not_first : ∀ w : Fin 4, Scalar.cmpi .sgt (BitVec.ofNat 32 (w : ℕ)) 0#32 = if 0 < (w : ℕ) then 1#1 else 0#1 := by decide

/-- The test for a tile that is not the last. -/
theorem not_last : ∀ w : Fin 4, Scalar.cmpi .slt (BitVec.ofNat 32 (w : ℕ)) 3#32 = if (w : ℕ) < 3 then 1#1 else 0#1 := by decide

/-- The eight rows before a tile. -/
theorem before_at (i : grid0.Coords) (x : Vec Ideal S1x8x512 .f32) (q : Fin 8) (n : Fin 512) :
    k0_pay4 (F := Ideal) i x (ix2 q n) = if 0 < (i 1 : ℕ) then x (ix3 0 q n) else 0 := by
  pointwise [k0_pay4, k0_pay3]
  refine (congrArg (fun c => Scalar.select c _ _) (not_first (i 1))).trans ?_
  split <;> rfl

/-- The eight rows after a tile. -/
theorem after_at (i : grid0.Coords) (x : Vec Ideal S1x8x512 .f32) (q : Fin 8) (n : Fin 512) :
    k0_pay6 (F := Ideal) i x (ix2 q n) = if (i 1 : ℕ) < 3 then x (ix3 0 q n) else 0 := by
  pointwise [k0_pay6, k0_pay3]
  refine (congrArg (fun c => Scalar.select c _ _) (not_last (i 1))).trans ?_
  split <;> rfl

variable (E : ℕ → Fin 128 → EReal) (tok : IVec S512x1 32) (w : Vec Ideal S1x128x128 .bf16) (p : Vec Ideal S1x128 .f32)

/-- The pooled columns of the first group. -/
theorem mixed0_at (e7 e8 e8' : FVec Ideal S512x128 .f32) (q : Fin 512) (n : Fin 128) (h7 : ∀ n, e7 (ix2 q n) = E (q + 7) n)
    (h8 : ∀ n, e8 (ix2 q n) = E (q + 8) n) (h8' : ∀ n, e8' (ix2 q n) = E (q + 8) n) :
    k0_pay9 (F := Ideal) tok (k0_pay8 e7 e8) e8' w p (ix2 q n)
      = mixOf E (tok (ix2 q 0)) 1 (fun x => w (ix3 0 x n)) (p (ix2 0 n)) q := by
  pointwise [k0_pay9, k0_pay8]
  simp only [h7, h8, h8', mixOf, total, PoolSpec.count, Finset.sum_range_succ, Finset.sum_range_zero, zero_add, Nat.reduceMul,
    Nat.add_sub_assoc, Nat.reduceSub, Nat.reduceLeDiff, Nat.add_assoc, Nat.reduceAdd]

/-- The pooled columns of the second group. -/
theorem mixed1_at (e6 e7 e8 e9 e8' : FVec Ideal S512x128 .f32) (q : Fin 512) (n : Fin 128) (h6 : ∀ n, e6 (ix2 q n) = E (q + 6) n)
    (h7 : ∀ n, e7 (ix2 q n) = E (q + 7) n) (h8 : ∀ n, e8 (ix2 q n) = E (q + 8) n) (h9 : ∀ n, e9 (ix2 q n) = E (q + 9) n)
    (h8' : ∀ n, e8' (ix2 q n) = E (q + 8) n) :
    k0_pay13 (F := Ideal) (k0_pay10 e6 e7 e8 e9) (k0_pay11 tok) (k0_pay12 tok) 0#32 e8' w p (ix2 q n)
      = mixOf E (tok (ix2 q 0)) 2 (fun x => w (ix3 0 x n)) (p (ix2 0 n)) q := by
  pointwise [k0_pay13, k0_pay10, k0_pay11, k0_pay12]
  simp only [h6, h7, h8, h9, h8', mixOf, total, PoolSpec.count, Finset.sum_range_succ, Finset.sum_range_zero, zero_add, Nat.reduceMul,
    Nat.add_sub_assoc, Nat.reduceSub, Nat.reduceLeDiff, Nat.add_assoc, Nat.reduceAdd]

/-- The pooled columns of the third group. -/
theorem mixed2_at (e4 e5 e6 e7 e8 e9 e10 e11 e8' : FVec Ideal S512x128 .f32) (q : Fin 512) (n : Fin 128)
    (h4 : ∀ n, e4 (ix2 q n) = E (q + 4) n) (h5 : ∀ n, e5 (ix2 q n) = E (q + 5) n) (h6 : ∀ n, e6 (ix2 q n) = E (q + 6) n) (h7 : ∀ n, e7 (ix2 q n) = E (q + 7) n)
    (h8 : ∀ n, e8 (ix2 q n) = E (q + 8) n) (h9 : ∀ n, e9 (ix2 q n) = E (q + 9) n) (h10 : ∀ n, e10 (ix2 q n) = E (q + 10) n) (h11 : ∀ n, e11 (ix2 q n) = E (q + 11) n)
    (h8' : ∀ n, e8' (ix2 q n) = E (q + 8) n) :
    k0_pay16 (F := Ideal) tok (k0_pay14 e4 e5 e6 e7 e8 e9 e10 e11) (k0_pay15 tok) 2048#32 e8' w p (ix2 q n)
      = mixOf E (tok (ix2 q 0)) 4 (fun x => w (ix3 0 x n)) (p (ix2 0 n)) q := by
  pointwise [k0_pay16, k0_pay14, k0_pay15]
  simp only [h4, h5, h6, h7, h8, h9, h10, h11, h8', mixOf, total, PoolSpec.count, Finset.sum_range_succ, Finset.sum_range_zero, zero_add,
    Nat.reduceMul, Nat.add_sub_assoc, Nat.reduceSub, Nat.reduceLeDiff, Nat.add_assoc, Nat.reduceAdd]

/-- The pooled columns of the fourth group: the body forms their product beside the others'. -/
theorem mixed3_at (e0 e1 e2 e3 e4 e5 e6 e7 e8 e9 e10 e11 e12 e13 e14 e15 e8' : FVec Ideal S512x128 .f32) (q : Fin 512) (n : Fin 128)
    (h0 : ∀ n, e0 (ix2 q n) = E (q + 0) n) (h1 : ∀ n, e1 (ix2 q n) = E (q + 1) n) (h2 : ∀ n, e2 (ix2 q n) = E (q + 2) n) (h3 : ∀ n, e3 (ix2 q n) = E (q + 3) n)
    (h4 : ∀ n, e4 (ix2 q n) = E (q + 4) n) (h5 : ∀ n, e5 (ix2 q n) = E (q + 5) n) (h6 : ∀ n, e6 (ix2 q n) = E (q + 6) n) (h7 : ∀ n, e7 (ix2 q n) = E (q + 7) n)
    (h8 : ∀ n, e8 (ix2 q n) = E (q + 8) n) (h9 : ∀ n, e9 (ix2 q n) = E (q + 9) n) (h10 : ∀ n, e10 (ix2 q n) = E (q + 10) n) (h11 : ∀ n, e11 (ix2 q n) = E (q + 11) n)
    (h12 : ∀ n, e12 (ix2 q n) = E (q + 12) n) (h13 : ∀ n, e13 (ix2 q n) = E (q + 13) n) (h14 : ∀ n, e14 (ix2 q n) = E (q + 14) n) (h15 : ∀ n, e15 (ix2 q n) = E (q + 15) n)
    (h8' : ∀ n, e8' (ix2 q n) = E (q + 8) n) :
    (∑ x : Fin 128, k0_pay18 (F := Ideal) tok (k0_pay17 e0 e1 e2 e3 e4 e5 e6) e7 e8 e9 e10 e11 e12 e13 e14 e15 e8' (ix2 q x)
        * k0_pay19 w (ix2 x n)) * p (ix2 0 n)
      = mixOf E (tok (ix2 q 0)) 8 (fun x => w (ix3 0 x n)) (p (ix2 0 n)) q := by
  pointwise [k0_pay17, k0_pay18, k0_pay19]
  simp only [h0, h1, h2, h3, h4, h5, h6, h7, h8, h9, h10, h11, h12, h13, h14, h15, h8', mixOf, total,
    PoolSpec.count, Finset.sum_range_succ, Finset.sum_range_zero, zero_add, Nat.reduceMul, Nat.add_sub_assoc, Nat.reduceSub,
    Nat.reduceLeDiff, Nat.add_assoc, Nat.reduceAdd, Nat.add_zero]

/-- The columns the output weights meet, as the body lays them out. -/
theorem inputs_cases (A : Fin 512 → EReal) (M : Fin 4 → Fin 128 → EReal) (k : Fin 1024) : inputs A M k
    = if h : (k : ℕ) < 512 then A ⟨k, h⟩ else if h : (k : ℕ) - 512 < 128 then M 0 ⟨(k : ℕ) - 512, h⟩
      else if h : (k : ℕ) - 512 - 128 < 128 then M 1 ⟨(k : ℕ) - 512 - 128, h⟩
      else if h : (k : ℕ) - 512 - 128 - 128 < 128 then M 2 ⟨(k : ℕ) - 512 - 128 - 128, h⟩
      else M 3 ⟨(k : ℕ) - 512 - 128 - 128 - 128, by omega⟩ := by
  unfold inputs
  split
  · rfl
  · split
    · exact congrArg₂ M (Fin.ext (by simp only; omega)) (Fin.ext (by simp only; omega))
    · split
      · exact congrArg₂ M (Fin.ext (by simp only; omega)) (Fin.ext (by simp only; omega))
      · split
        · exact congrArg₂ M (Fin.ext (by simp only; omega)) (Fin.ext (by simp only; omega))
        · exact congrArg₂ M (Fin.ext (by simp only; omega)) (Fin.ext (by simp only; omega))

/-- The row after the attention's part. -/
theorem first_at (a : FVec Ideal S512x512 .bf16) (m0 m1 m2 d3 : FVec Ideal S512x128 .bf16) (w3 : FVec Ideal S128x128 .bf16)
    (p3 : Vec Ideal S1x128 .f32) (w : Vec Ideal S1024x1024 .bf16) (x : Vec Ideal S1x512x1024 .f32)
    (gt : Vec Ideal S1x1x1024 .f32) (g : Vec Ideal S1x1024 .f32) (q : Fin 512) (A : Fin 512 → EReal) (M : Fin 4 → Fin 128 → EReal)
    (ha : ∀ k, a (ix2 q k) = A k) (h0 : ∀ n, m0 (ix2 q n) = M 0 n) (h1 : ∀ n, m1 (ix2 q n) = M 1 n)
    (h2 : ∀ n, m2 (ix2 q n) = M 2 n) (h3 : ∀ n, (∑ x : Fin 128, d3 (ix2 q x) * w3 (ix2 x n)) * p3 (ix2 0 n) = M 3 n) (n : Fin 1024) :
    k0_pay20 (F := Ideal) a m0 m1 m2 d3 w3 p3 w x gt g (ix2 q n)
      = plus (fun n => x (ix3 0 q n)) (fun n => ∑ k, inputs A M k * w (ix2 k n)) (fun n => gt (ix3 0 0 n)) (fun n => g (ix2 0 n)) n := by
  pointwise [k0_pay20, plus, rms]
  simp only [ha, h0, h1, h2, h3, inputs_cases]

/-- The root by which that row is normalised. -/
theorem root_at (a : FVec Ideal S512x512 .bf16) (m0 m1 m2 d3 : FVec Ideal S512x128 .bf16) (w3 : FVec Ideal S128x128 .bf16)
    (p3 : Vec Ideal S1x128 .f32) (w : Vec Ideal S1024x1024 .bf16) (x : Vec Ideal S1x512x1024 .f32)
    (gt : Vec Ideal S1x1x1024 .f32) (g : Vec Ideal S1x1024 .f32) (q : Fin 512) (n : Fin 1024) (v : FVec Ideal S512x1024 .f32)
    (hv : k0_pay20 (F := Ideal) a m0 m1 m2 d3 w3 p3 w x gt g = v) :
    k0_pay21 (F := Ideal) a m0 m1 m2 d3 w3 p3 w x gt g (ix2 q n)
      = Ideal.rsqrt (Ideal.div (∑ k, v (ix2 q k) * v (ix2 q k)) (Ideal.ofBits .f32 0x44800000#32)
        + Ideal.ofBits .f32 0x358637BD#32) := by
  unfold k0_pay21
  rw [hv]
  pointwise

/-- What the feed-forward part sees of that row. -/
theorem modulated_at (v y : FVec Ideal S512x1024 .f32) (g : Vec Ideal S1x1024 .f32) (sc sh : Vec Ideal S1x1x1024 .f32) (q : Fin 512)
    (n : Fin 1024) : k0_pay22 (F := Ideal) v y g sc sh (ix2 q n)
      = v (ix2 q n) * y (ix2 q n) * g (ix2 0 n) * (1 + sc (ix3 0 0 n)) + sh (ix3 0 0 n) := by
  pointwise [k0_pay22]

/-- 256 hidden units, from the rows they see and their columns of weights. -/
theorem units_at (h : FVec Ideal S512x1024 .bf16) (w : Vec Ideal S1024x512 .bf16) (q : Fin 512) (n : Fin 256) :
    k0_pay28 (F := Ideal) h w (ix2 q n)
      = unit (fun e => h (ix2 q e)) (fun e => w (ix2 e ⟨n, by omega⟩)) (fun e => w (ix2 e ⟨256 + n, by omega⟩)) := by
  pointwise [k0_pay28, unit, glu]

/-- The row after the feed-forward part, from hidden units and a row known element by element. -/
theorem last_of (v : FVec Ideal S512x1024 .f32) (h : Vec Ideal S512x2816 .bf16) (w : Vec Ideal S2816x1024 .bf16)
    (gt : Vec Ideal S1x1x1024 .f32) (g : Vec Ideal S1x1024 .f32) (q : Fin 512) (n : Fin 1024) (x1 : Fin 1024 → EReal)
    (u : Fin 2816 → EReal) (hv : ∀ n, v (ix2 q n) = x1 n) (hu : ∀ k, h (ix2 q k) = u k) :
    k0_pay1 (k0_pay44 (F := Ideal) v h w gt g) (ix3 0 q n) = plus x1 (fun n => ∑ k, u k * w (ix2 k n))
      (fun n => gt (ix3 0 0 n)) (fun n => g (ix2 0 n)) n := by
  pointwise [k0_pay1, k0_pay44, plus, rms]
  simp only [hv, hu]

/-- The body writes the hidden units' arithmetic out for every chunk; it is the same each time. -/
theorem chunk0 (v y : FVec Ideal S512x1024 .f32) (g : Vec Ideal S1x1024 .f32) (sc sh : Vec Ideal S1x1x1024 .f32)
    (w : Vec Ideal S1024x512 .bf16) : k0_pay23 (F := Ideal) v y g sc sh w = k0_pay28 (k0_pay22 v y g sc sh) w := rfl

/-- The same for the next chunk of hidden units. -/
theorem chunk1 (v y : FVec Ideal S512x1024 .f32) (g : Vec Ideal S1x1024 .f32) (sc sh : Vec Ideal S1x1x1024 .f32)
    (w : Vec Ideal S1024x512 .bf16) :
    k0_pay27 (F := Ideal) (k0_pay25 v y g sc sh w) (k0_pay26 v y g sc sh w) = k0_pay28 (k0_pay22 v y g sc sh) w := rfl

/-- The same for the next chunk of hidden units. -/
theorem chunk3 (h : FVec Ideal S512x1024 .bf16) (w : Vec Ideal S1024x512 .bf16) :
    k0_pay34 (F := Ideal) (k0_pay30 h w) (k0_pay31 h w) (k0_pay32 h w) k0_pay33 = k0_pay28 h w := rfl

/-- The same for the next chunk of hidden units. -/
theorem chunk4 (h : FVec Ideal S512x1024 .bf16) (w : Vec Ideal S1024x512 .bf16) : k0_pay35 (F := Ideal) h w = k0_pay28 h w := rfl

/-- The same for the next chunk of hidden units. -/
theorem chunk5 (h : FVec Ideal S512x1024 .bf16) (w : Vec Ideal S1024x512 .bf16) :
    k0_pay37 (F := Ideal) (k0_pay36 h w) = k0_pay28 h w := rfl

/-- The same for the next chunk of hidden units. -/
theorem chunk6 (h : FVec Ideal S512x1024 .bf16) (w : Vec Ideal S1024x512 .bf16) : k0_pay38 (F := Ideal) h w = k0_pay28 h w := rfl

/-- The same for the next chunk of hidden units. -/
theorem chunk7 (h : FVec Ideal S512x1024 .bf16) (w : Vec Ideal S1024x512 .bf16) : k0_pay39 (F := Ideal) h w = k0_pay28 h w := rfl

/-- The same for the next chunk of hidden units. -/
theorem chunk8 (h : FVec Ideal S512x1024 .bf16) (w : Vec Ideal S1024x512 .bf16) : k0_pay40 (F := Ideal) h w = k0_pay28 h w := rfl

/-- The same for the next chunk of hidden units. -/
theorem chunk9 (h : FVec Ideal S512x1024 .bf16) (w : Vec Ideal S1024x512 .bf16) : k0_pay41 (F := Ideal) h w = k0_pay28 h w := rfl

/-- The same for the last chunk of hidden units. -/
theorem chunk10 (h : FVec Ideal S512x1024 .bf16) (w : Vec Ideal S1024x512 .bf16) :
    k0_pay43 (F := Ideal) h (k0_pay42 w) (constant S512x512 .f32 0x00000000#32) = k0_pay28 h w := rfl

end Cert.PoolIdeal.Value
-- ==== Proof.Pool.Stored.lean ====
module
public import proofs.«01_k».proof.Proof.Pool.Block

/-! What one block of the closing call of an even layer computes.

A block holds 512 rows. The body puts the pooled part's rows in a buffer of 528 rows, eight before and eight after the tile's own,
and reads it at sixteen offsets; the hidden units it keeps in a buffer of 2816 columns that it fills 256 at a time. -/

set_option maxRecDepth 16384

@[expose] public section

noncomputable section

open Idealize.ShloMosaic Idealize.ShloMosaic.TcCoe Idealize.SL.Sem

namespace Cert.PoolIdeal.Value
open Cert.PoolIdeal Cert.PoolIdeal.Gen PostSpec PoolSpec

variable (i1 : ℕ) (x0 : Vec Ideal S1x512x1024 .f32) (x1 : Vec Ideal S1x512x512 .bf16) (x2 : Vec Ideal S1x8x1024 .f32)
  (x3 : Vec Ideal S8x1024 .f32) (x4 : Vec Ideal S1024x1024 .bf16) (x5 : Vec Ideal S1024x5632 .bf16)
  (x6 : Vec Ideal S2816x1024 .bf16) (x7 : Vec Ideal S1x512x512 .f32) (x8 x9 : Vec Ideal S1x8x512 .f32)
  (x10 : Vec Ideal S4x128x128 .bf16) (x11 : Vec Ideal S1x512 .f32)

/-- The rows of a tile with the eight before and the eight after it. -/
def extended (p : ℕ) (n : Fin 512) : EReal :=
  if h : p < 8 then (if 0 < i1 then x8 (ix3 0 ⟨p, h⟩ n) else 0) else if h : p < 520 then x7 (ix3 0 ⟨p - 8, by omega⟩ n)
  else if h : p < 528 then (if i1 < 3 then x9 (ix3 0 ⟨p - 520, by omega⟩ n) else 0) else 0

/-- The pooled columns of row `q` of a tile. -/
def pooledOf (q : Fin 512) (g : Fin 4) (n : Fin 128) : EReal :=
  mixOf (fun p x => extended i1 x7 x8 x9 p ⟨128 * (g : ℕ) + x, by omega⟩) (BitVec.ofNat 32 (512 * i1 + q)) (2 ^ (g : ℕ))
    (fun x => x10 (ix3 g x n)) (x11 (ix2 0 ⟨128 * (g : ℕ) + n, by omega⟩)) q

/-- Row `q` of a block after the attention's part, from the blocks' contents. -/
def first (q : Fin 512) (n : Fin 1024) : EReal :=
  plus (fun n => x0 (ix3 0 q n))
    (fun n => ∑ k, inputs (fun k => x1 (ix3 0 q k)) (pooledOf i1 x7 x8 x9 x10 x11 q) k * x4 (ix2 k n))
    (fun n => x2 (ix3 0 2 n)) (fun n => x3 (ix2 1 n)) n

variable (f : Fin 512 → Fin 1024 → EReal)

/-- What the feed-forward part sees of row `q`, `f` being the rows before it. -/
def seen (q : Fin 512) (n : Fin 1024) : EReal :=
  modulated (f q) (fun n => x3 (ix2 2 n)) (fun n => x2 (ix3 0 4 n)) (fun n => x2 (ix3 0 3 n)) n

/-- Hidden unit `k` of row `q`. -/
def unitOf (q : Fin 512) (k : Fin 2816) : EReal :=
  unit (seen x2 x3 f q) (fun e => x5 (ix2 e ⟨512 * (k / 256) + k % 256, by omega⟩))
    (fun e => x5 (ix2 e ⟨512 * (k / 256) + 256 + k % 256, by omega⟩))

/-- Row `q` of a block after the feed-forward part. -/
def rowOf (q : Fin 512) (n : Fin 1024) : EReal :=
  plus (f q) (fun n => ∑ k, unitOf x2 x3 x5 f q k * x6 (ix2 k n)) (fun n => x2 (ix3 0 5 n)) (fun n => x3 (ix2 3 n)) n

/-- A hidden unit of chunk `c`, from rows of the blocks and from 512 columns of weights that are those of the chunk. -/
theorem unit_of_chunk (v y : FVec Ideal S512x1024 .f32) (g2 : Vec Ideal S1x1024 .f32) (sc sh : Vec Ideal S1x1x1024 .f32)
    (w : Vec Ideal S1024x512 .bf16) (q r : Fin 512) (c : ℕ) (n : Fin 256) (k : Fin 2816) (hq : (q : ℕ) = r)
    (hk : (k : ℕ) = 256 * c + n) (hv : ∀ q n, v (ix2 q n) = f q n)
    (hy : ∀ q n, y (ix2 q n) = Ideal.rsqrt (Ideal.div (∑ k, v (ix2 q k) * v (ix2 q k)) (Ideal.ofBits .f32 0x44800000#32)
        + Ideal.ofBits .f32 0x358637BD#32))
    (hg2 : ∀ e, g2 (ix2 0 e) = x3 (ix2 2 e)) (hsc : ∀ e, sc (ix3 0 0 e) = x2 (ix3 0 4 e)) (hsh : ∀ e, sh (ix3 0 0 e) = x2 (ix3 0 3 e))
    (hw : ∀ (e : Fin 1024) (j : Fin 512) (i : Fin 5632), (i : ℕ) = 512 * c + j → w (ix2 e j) = x5 (ix2 e i)) :
    k0_pay28 (F := Ideal) (k0_pay22 v y g2 sc sh) w (ix2 r n) = unitOf x2 x3 x5 f q k := by
  obtain rfl : q = r := Fin.ext hq
  rw [units_at]
  unfold unitOf
  congr 1 <;> funext e
  · rw [modulated_at, hy]
    unfold seen modulated rms
    simp only [hv, hg2, hsc, hsh]
  · exact hw e _ _ (by simp only; omega)
  · exact hw e _ _ (by simp only; omega)

/-- A row before the tile. -/
theorem extended_before (i : grid0.Coords) (p : ℕ) (n : Fin 512) (u : Fin 8) (v : Fin 512) (hp : p = u) (hn : (n : ℕ) = v) :
    k0_pay4 (F := Ideal) i x8 (ix2 u v) = extended (i 1) x7 x8 x9 p n := by
  obtain rfl : n = v := Fin.ext hn
  subst hp
  rw [before_at]
  unfold extended
  rw [dif_pos u.isLt]

/-- A row of the tile. -/
theorem extended_tile (i1 : ℕ) (p : ℕ) (n : Fin 512) (u v : Fin 512) (hp : p = 8 + u) (hn : (n : ℕ) = v) :
    k0_pay5 (F := Ideal) x7 (ix2 u v) = extended i1 x7 x8 x9 p n := by
  obtain rfl : n = v := Fin.ext hn
  subst hp
  unfold extended
  rw [dif_neg (by omega), dif_pos (by omega)]
  pointwise [k0_pay5]

/-- A row after the tile. -/
theorem extended_after (i : grid0.Coords) (p : ℕ) (n : Fin 512) (u : Fin 8) (v : Fin 512) (hp : p = 520 + u) (hn : (n : ℕ) = v) :
    k0_pay6 (F := Ideal) i x9 (ix2 u v) = extended (i 1) x7 x8 x9 p n := by
  obtain rfl : n = v := Fin.ext hn
  subst hp
  rw [after_at]
  unfold extended
  rw [dif_neg (by omega), dif_neg (by omega), dif_pos (by omega)]
  exact congrArg (fun r => if (i 1 : ℕ) < 3 then x9 (ix3 0 r n) else 0) (Fin.ext (by simp))

/-- The three stores fill the buffer of 528 rows. -/
theorem rows_cover (P R : FVec Ideal S8x512 .f32) (Q : FVec Ideal S512x512 .f32) (y : S528x512.Idx) :
    ∃ p ∈ ([⟨Rect.unit ![520, 0] ![8, 512] inb_S528x512_S8x512_520_0, P⟩,
      ⟨Rect.unit ![8, 0] ![512, 512] inb_S528x512_S512x512_8_0, Q⟩,
      ⟨Rect.unit ![0, 0] ![8, 512] inb_S528x512_S8x512_0_0, R⟩] : List (View.Piece (Elt Ideal) S528x512 .f32)), y ∈ p.1.set := by
  have h0 : (y 0 : ℕ) < 528 := (y 0).isLt
  have h1 : (y 1 : ℕ) < 512 := (y 1).isLt
  by_cases ha : (y 0 : ℕ) < 8
  · refine ⟨_, List.mem_cons_of_mem _ (List.mem_cons_of_mem _ List.mem_cons_self), (Rect.mem_set_unit (inb := inb_S528x512_S8x512_0_0)).mpr fun a => ?_⟩
    match a with
    | ⟨0, _⟩ => exact ⟨Nat.zero_le _, by simpa using ha⟩
    | ⟨1, _⟩ => exact ⟨Nat.zero_le _, by simpa using h1⟩
  · by_cases hb : (y 0 : ℕ) < 520
    · refine ⟨_, List.mem_cons_of_mem _ List.mem_cons_self, (Rect.mem_set_unit (inb := inb_S528x512_S512x512_8_0)).mpr fun a => ?_⟩
      match a with
      | ⟨0, _⟩ => exact ⟨Nat.le_of_not_lt ha, hb⟩
      | ⟨1, _⟩ => exact ⟨Nat.zero_le _, by simpa using h1⟩
    · refine ⟨_, List.mem_cons_self, (Rect.mem_set_unit (inb := inb_S528x512_S8x512_520_0)).mpr fun a => ?_⟩
      match a with
      | ⟨0, _⟩ => exact ⟨Nat.le_of_not_lt hb, h0⟩
      | ⟨1, _⟩ => exact ⟨Nat.zero_le _, by simpa using h1⟩

/-- The buffer of 528 rows holds the tile's rows, the eight before them and the eight after. -/
theorem rows_at (i : grid0.Coords) (y : S528x512.Idx) (p : ℕ) (n : Fin 512) (hp : (y 0 : ℕ) = p) (hn : (y 1 : ℕ) = n) :
    View.canon (Val := Elt Ideal) (s := S528x512) (e := .f32)
      [⟨Rect.unit ![520, 0] ![8, 512] inb_S528x512_S8x512_520_0, k0_pay6 (F := Ideal) i x9⟩,
        ⟨Rect.unit ![8, 0] ![512, 512] inb_S528x512_S512x512_8_0, k0_pay5 (F := Ideal) x7⟩,
        ⟨Rect.unit ![0, 0] ![8, 512] inb_S528x512_S8x512_0_0, k0_pay4 (F := Ideal) i x8⟩] y
      = extended (i 1) x7 x8 x9 p n := by
  canon_tiles u h using rows_cover _ _ _ _
  all_goals
    idx_vars u
    simp at h0 h1
  case piece0 => exact extended_after _ _ _ _ _ _ _ _ (by omega) (by omega)
  case piece1 => exact extended_tile _ _ _ _ _ _ _ _ (by omega) (by omega)
  case piece2 => exact extended_before _ _ _ _ _ _ _ _ (by omega) (by omega)

variable (m : (ℓ : Loc nD τ sig) → Buf (Elt Ideal) ℓ)

/-- Row `q` of a grid point's block after the attention's part. -/
def firstAt (c : Dev nD) (t : Fin cfg0.N) : Fin 512 → Fin 1024 → EReal :=
  first (grid0.coords t 1) (iblk m c 0 t) (iblk m c 1 t) (iblk m c 2 t) (iblk m c 3 t) (iblk m c 4 t) (iblk m c 7 t)
    (iblk m c 8 t) (iblk m c 9 t) (iblk m c 10 t) (iblk m c 11 t)

/-- What a grid point leaves for the result, as a function of its blocks. -/
theorem stored (c : Dev nD) (t : Fin cfg0.N) (q : Fin 512) (n : Fin 1024) : outsAt0 m c t (ix3 0 q n)
    = rowOf (iblk m c 2 t) (iblk m c 3 t) (iblk m c 5 t) (iblk m c 6 t) (firstAt m c t) q n := by
  unfold outsAt0
  frame_out
  generalize hX : k0_pay20 (F := Ideal) _ _ _ _ _ _ _ _ _ _ _ = X
  generalize hY : k0_pay21 (F := Ideal) _ _ _ _ _ _ _ _ _ _ _ = Y
  have hv : ∀ q n, X (ix2 q n) = firstAt m c t q n := by
    intro q n
    rw [← hX]
    clear hX hY
    refine (first_at _ _ _ _ _ _ _ _ _ _ _ q (fun k => (iblk m c 1 t : Vec Ideal S1x512x512 .bf16) (ix3 0 q k)) (pooledOf (grid0.coords t 1)
      (iblk m c 7 t) (iblk m c 8 t) (iblk m c 9 t) (iblk m c 10 t) (iblk m c 11 t) q) ?_ ?_ ?_ ?_ ?_ n).trans ?_
    · intro k
      pointwise [k0_pay2]
    · intro n
      refine (mixed0_at (fun p x => extended (grid0.coords t 1) (iblk m c 7 t) (iblk m c 8 t) (iblk m c 9 t) p
        ⟨128 * ((0 : Fin 4) : ℕ) + x, by omega⟩) _ _ _ _ _ _ q n ?_ ?_ ?_ ).trans ?last
      case last =>
        unfold pooledOf
        rw [position_at]
        pointwise
        try rfl
      all_goals
        intro n
        rw [View.readCov_eq_canon']
        refine rows_at _ _ _ _ _ _ _ ?_ ?_
        all_goals simp
        all_goals omega
    · intro n
      refine (mixed1_at (fun p x => extended (grid0.coords t 1) (iblk m c 7 t) (iblk m c 8 t) (iblk m c 9 t) p
        ⟨128 * ((1 : Fin 4) : ℕ) + x, by omega⟩) _ _ _ _ _ _ _ _ q n ?_ ?_ ?_ ?_ ?_ ).trans ?last
      case last =>
        unfold pooledOf
        rw [position_at]
        pointwise
        try rfl
      all_goals
        intro n
        rw [View.readCov_eq_canon']
        refine rows_at _ _ _ _ _ _ _ ?_ ?_
        all_goals simp
        all_goals omega
    · intro n
      refine (mixed2_at (fun p x => extended (grid0.coords t 1) (iblk m c 7 t) (iblk m c 8 t) (iblk m c 9 t) p
        ⟨128 * ((2 : Fin 4) : ℕ) + x, by omega⟩) _ _ _ _ _ _ _ _ _ _ _ _ q n ?_ ?_ ?_ ?_ ?_ ?_ ?_ ?_ ?_ ).trans ?last
      case last =>
        unfold pooledOf
        rw [position_at]
        pointwise
        try rfl
      all_goals
        intro n
        rw [View.readCov_eq_canon']
        refine rows_at _ _ _ _ _ _ _ ?_ ?_
        all_goals simp
        all_goals omega
    · intro n
      refine (mixed3_at (fun p x => extended (grid0.coords t 1) (iblk m c 7 t) (iblk m c 8 t) (iblk m c 9 t) p
        ⟨128 * ((3 : Fin 4) : ℕ) + x, by omega⟩) _ _ _ _ _ _ _ _ _ _ _ _ _ _ _ _ _ _ _ _ q n ?_ ?_ ?_ ?_ ?_ ?_ ?_ ?_ ?_ ?_ ?_ ?_ ?_ ?_ ?_ ?_ ?_ ).trans ?last
      case last =>
        unfold pooledOf
        rw [position_at]
        pointwise
        try rfl
      all_goals
        intro n
        rw [View.readCov_eq_canon']
        refine rows_at _ _ _ _ _ _ _ ?_ ?_
        all_goals simp
        all_goals omega
    · unfold firstAt first
      pointwise
  have hy : ∀ q n, Y (ix2 q n) = Ideal.rsqrt (Ideal.div (∑ k, X (ix2 q k) * X (ix2 q k)) (Ideal.ofBits .f32 0x44800000#32)
        + Ideal.ofBits .f32 0x358637BD#32) := by
    intro q n
    rw [← hY]
    exact root_at _ _ _ _ _ _ _ _ _ _ _ q n X hX
  clear hX hY
  rw [View.readCov_eq_canon']
  refine (last_of _ _ _ _ _ q n (firstAt m c t q)
    (unitOf (iblk m c 2 t) (iblk m c 3 t) (iblk m c 5 t) (firstAt m c t) q) (fun n => hv q n) (fun k => ?_)).trans ?_
  · canon_tiles u h
    all_goals
      idx_vars u
      try simp only [chunk0, chunk1, chunk3, chunk4, chunk5, chunk6, chunk7, chunk8, chunk9, chunk10]
      refine unit_of_chunk _ _ _ _ _ _ _ _ _ _ q u0 ((k : ℕ) / 256) u1 k (by simpa using h0) ?_ hv hy
        (fun e => by pointwise) (fun e => by pointwise) (fun e => by pointwise) (fun e j i hi => ?_)
    all_goals
      simp at h1
      first
        | omega
        | (pointwise
           exact congrArg (iblk m c 5 t) (congrArg (ix2 e) (Fin.ext (by simp; omega))))
  · unfold rowOf
    pointwise

end Cert.PoolIdeal.Value
-- ==== Proof.Pool.Gather.lean ====
module
public import proofs.«01_k».proof.PoolIdeal
public import Idealize.ShloMosaic.Lib.Pipeline.ValueKit

/-! The weights the closing kernel of an even layer gathers, read at an index. -/

set_option maxRecDepth 16384

@[expose] public section

noncomputable section

open Idealize.ShloMosaic Idealize.ShloMosaic.TcCoe Idealize.SL.Sem

namespace Cert.PoolIdeal.Value
open Cert.PoolIdeal
variable [Cert.PoolIdeal.Facts]

/-- A gathered row: the row of the operand that the index names, kept within the operand. -/
theorem gather_row (x : Vec Ideal S1024x1024 .f32) (s : IVec S512x1 32) (r : Fin 512) (e : Fin 1024) :
    Host.gather gather_S1024x1024_S512x1_S512x1024_1_0_n_n_0_1_11024 x s (ix2 r e)
      = x (ix2 ⟨min (s (ix2 r 0)).toInt.toNat 1023, by omega⟩ e) := by
  generalize hG : gather_S1024x1024_S512x1_S512x1024_1_0_n_n_0_1_11024 = G
  have h0 : (0 : Fin 2) ∈ G.startIndexMap := by rw [← hG]; exact List.mem_singleton.mpr rfl
  unfold Host.gather
  refine congrArg x (funext fun a => Fin.ext ?_)
  show G.start (ix2 r e) s a + G.batchCoord (ix2 r e) a + G.offCoord (ix2 r e) a = _
  match a with
  | ⟨0, _⟩ =>
    show G.start (ix2 r e) s 0 + G.batchCoord (ix2 r e) 0 + G.offCoord (ix2 r e) 0 = _
    subst hG
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos h0]
    have hs : GatherDims.siIdx gather_S1024x1024_S512x1_S512x1024_1_0_n_n_0_1_11024 (ix2 r e)
        ⟨List.idxOf (0 : Fin 2) (gather_S1024x1024_S512x1_S512x1024_1_0_n_n_0_1_11024).startIndexMap,
          List.idxOf_lt_length_iff.2 h0⟩ = ix2 r 0 := by
      funext b
      refine Fin.ext ?_
      match b with
      | ⟨0, _⟩ => rfl
      | ⟨1, _⟩ => rfl
    rw [hs]
    rfl
  | ⟨1, _⟩ =>
    show G.start (ix2 r e) s 1 + G.batchCoord (ix2 r e) 1 + G.offCoord (ix2 r e) 1 = _
    subst hG
    rw [GatherDims.batchCoord_eq_zero _ _ _ List.not_mem_nil]
    unfold GatherDims.start
    rw [dif_neg (show (1 : Fin 2) ∉ (gather_S1024x1024_S512x1_S512x1024_1_0_n_n_0_1_11024).startIndexMap from fun h => absurd (List.mem_singleton.mp h : (1 : Fin 2) = 0) (by decide))]
    unfold GatherDims.offCoord
    rw [dif_pos ((GatherDims.mem_sKept _ _).mpr ⟨fun h => absurd (List.mem_singleton.mp h : (1 : Fin 2) = 0) (by decide), List.not_mem_nil⟩)]
    simp only [Nat.zero_add]
    rfl

/-- A gathered column: the column of the operand that the index names, kept within the operand. -/
theorem gather_column (x : Vec Ideal S1024x5632 .f32) (s : IVec S5632x1 32) (r : Fin 1024) (e : Fin 5632) :
    Host.gather gather_S1024x5632_S5632x1_S1024x5632_0_1_n_n_1_1_10241 x s (ix2 r e)
      = x (ix2 r ⟨min (s (ix2 e 0)).toInt.toNat 5631, by omega⟩) := by
  generalize hG : gather_S1024x5632_S5632x1_S1024x5632_0_1_n_n_1_1_10241 = G
  have h0 : (1 : Fin 2) ∈ G.startIndexMap := by rw [← hG]; exact List.mem_singleton.mpr rfl
  unfold Host.gather
  refine congrArg x (funext fun a => Fin.ext ?_)
  show G.start (ix2 r e) s a + G.batchCoord (ix2 r e) a + G.offCoord (ix2 r e) a = _
  match a with
  | ⟨1, _⟩ =>
    show G.start (ix2 r e) s 1 + G.batchCoord (ix2 r e) 1 + G.offCoord (ix2 r e) 1 = _
    subst hG
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos h0]
    have hs : GatherDims.siIdx gather_S1024x5632_S5632x1_S1024x5632_0_1_n_n_1_1_10241 (ix2 r e)
        ⟨List.idxOf (1 : Fin 2) (gather_S1024x5632_S5632x1_S1024x5632_0_1_n_n_1_1_10241).startIndexMap,
          List.idxOf_lt_length_iff.2 h0⟩ = ix2 e 0 := by
      funext b
      refine Fin.ext ?_
      match b with
      | ⟨0, _⟩ => rfl
      | ⟨1, _⟩ => rfl
    rw [hs]
    rfl
  | ⟨0, _⟩ =>
    show G.start (ix2 r e) s 0 + G.batchCoord (ix2 r e) 0 + G.offCoord (ix2 r e) 0 = _
    subst hG
    rw [GatherDims.batchCoord_eq_zero _ _ _ List.not_mem_nil]
    unfold GatherDims.start
    rw [dif_neg (show (0 : Fin 2) ∉ (gather_S1024x5632_S5632x1_S1024x5632_0_1_n_n_1_1_10241).startIndexMap from fun h => absurd (List.mem_singleton.mp h : (0 : Fin 2) = 1) (by decide))]
    unfold GatherDims.offCoord
    rw [dif_pos ((GatherDims.mem_sKept _ _).mpr ⟨fun h => absurd (List.mem_singleton.mp h : (0 : Fin 2) = 1) (by decide), List.not_mem_nil⟩)]
    simp only [Nat.zero_add]
    rfl

end Cert.PoolIdeal.Value
-- ==== Proof.Pool.Table.lean ====
module
public import proofs.«01_k».proof.PoolIdeal

/-! The permutations the closing kernel of an even layer gathers its weights by. -/

set_option maxRecDepth 16384

@[expose] public section

noncomputable section

open Idealize.ShloMosaic Idealize.ShloMosaic.TcCoe Idealize.SL.Sem

namespace Cert.PoolIdeal.Value
open Cert.PoolIdeal

/-- The columns of the input weights: by chunks of 512, 256 columns of the gate's half and the 256 columns of the other half. -/
theorem columns : ∀ i : Fin 5632, (lit0 i).toNat = (if (i : ℕ) % 512 < 256 then 256 * ((i : ℕ) / 512) + (i : ℕ) % 512
    else 2816 + 256 * ((i : ℕ) / 512) + ((i : ℕ) % 512 - 256)) := by decide +kernel

/-- The rows of the output weights: the two coordinates above the head's 64 lanes change places. -/
theorem rows : ∀ i : Fin 512, (lit1 i).toNat = 256 * ((i : ℕ) / 64 % 2) + 64 * ((i : ℕ) / 128) + (i : ℕ) % 64 := by decide +kernel

end Cert.PoolIdeal.Value
-- ==== Proof.Pool.Host.lean ====
module
public import proofs.«01_k».proof.Proof.Pool.Gather
public import proofs.«01_k».proof.Proof.Pool.Table
public import proofs.«01_k».proof.Proof.Pool.Spec
public import proofs.«01_k».proof.Proof.Gen.PoolIdeal.Value
public import Idealize.ShloMosaic.Lib.Pipeline.ValueKit

/-! The operands the closing kernel of an even layer is called on, from the arguments. -/

set_option maxRecDepth 16384

@[expose] public section

noncomputable section

open Idealize.ShloMosaic Idealize.ShloMosaic.TcCoe Idealize.SL.Sem

namespace Cert.PoolIdeal.Value
open Cert.PoolIdeal Cert.PoolIdeal.Gen

/-- The modulation's six vectors in the eight rows of the padded operand. -/
theorem mods (A : Vec Ideal S32x6144 .f32) (z : Vec Ideal S_ .f32) (b : Fin 32) (r : Fin 8) (hr : (r : ℕ) < 6) (e : Fin 1024) :
    pad S32x8x1024 ![0, 0, 0] ![0, 2, 0] ![0, 0, 0] (shapeCast S32x6x1024 A shapeCasts_S32x6144_S32x6x1024) z
      pads_S32x6x1024_S32x8x1024_000_020_000 h_S_ (ix3 b r e) = A (ix2 b ⟨1024 * (r : ℕ) + e, by omega⟩) := by
  pointwise
  rw [dif_pos hr]
  exact congrArg A (congrArg (ix2 b) (Fin.ext (by simp only; omega)))

/-- Row 1 of the gains' padded operand. -/
theorem gain1 (A B C D : Vec Ideal S1x1024 .f32) (z : Vec Ideal S_ .f32) (e : Fin 1024) :
    pad S8x1024 ![0, 0] ![4, 0] ![0, 0] (concatenate S4x1024 0 [⟨S1x1024, A⟩, ⟨S1x1024, B⟩, ⟨S1x1024, C⟩, ⟨S1x1024, D⟩]
      concatenates_S1x1024_S1x1024_S1x1024_S1x1024_S4x1024_d0) z pads_S4x1024_S8x1024_040_000 h_S_ (ix2 1 e) = B (ix2 0 e) := by
  pointwise

/-- Row 2 of the gains' padded operand. -/
theorem gain2 (A B C D : Vec Ideal S1x1024 .f32) (z : Vec Ideal S_ .f32) (e : Fin 1024) :
    pad S8x1024 ![0, 0] ![4, 0] ![0, 0] (concatenate S4x1024 0 [⟨S1x1024, A⟩, ⟨S1x1024, B⟩, ⟨S1x1024, C⟩, ⟨S1x1024, D⟩]
      concatenates_S1x1024_S1x1024_S1x1024_S1x1024_S4x1024_d0) z pads_S4x1024_S8x1024_040_000 h_S_ (ix2 2 e) = C (ix2 0 e) := by
  pointwise

/-- Row 3 of the gains' padded operand. -/
theorem gain3 (A B C D : Vec Ideal S1x1024 .f32) (z : Vec Ideal S_ .f32) (e : Fin 1024) :
    pad S8x1024 ![0, 0] ![4, 0] ![0, 0] (concatenate S4x1024 0 [⟨S1x1024, A⟩, ⟨S1x1024, B⟩, ⟨S1x1024, C⟩, ⟨S1x1024, D⟩]
      concatenates_S1x1024_S1x1024_S1x1024_S1x1024_S4x1024_d0) z pads_S4x1024_S8x1024_040_000 h_S_ (ix2 3 e) = D (ix2 0 e) := by
  pointwise

/-- An index of one axis is its own place in the row-major order. -/
theorem rowMajor_one {n : ℕ} (r : Fin n) : ((⟨1, ![n]⟩ : Shape).rowMajor (ix1 r) : ℕ) = r := by
  exact Shape.rowMajor_val_one (ix1 r)

/-- The index of a gathered row. -/
theorem start_row (r : Fin 512) : broadcastInDim S512x1 ![0] bcast_S512_S512x1_0 (select (constantI S512 1 0#1)
    (addi (fun i => lit1 (S512.rowMajor i)) (broadcastInDim S512 ![] bcast_S_S512 (constantI S_ 32 1024#32)))
    fun i => lit1 (S512.rowMajor i)) (ix2 r 0) = lit1 r := by
  pointwise
  exact congrArg lit1 (Fin.ext (rowMajor_one r))

/-- The index of a gathered column. -/
theorem start_column (r : Fin 5632) : broadcastInDim S5632x1 ![0] bcast_S5632_S5632x1_0 (select (constantI S5632 1 0#1)
    (addi (fun i => lit0 (S5632.rowMajor i)) (broadcastInDim S5632 ![] bcast_S_S5632 (constantI S_ 32 5632#32)))
    fun i => lit0 (S5632.rowMajor i)) (ix2 r 0) = lit0 r := by
  pointwise
  exact congrArg lit0 (Fin.ext (rowMajor_one r))

/-- A row's index, as a number. -/
theorem row_index (r : Fin 512) : min (lit1 r).toInt.toNat 1023
    = 256 * ((r : ℕ) / 64 % 2) + 64 * ((r : ℕ) / 128) + (r : ℕ) % 64 := by
  have h := rows r
  rw [BitVec.toInt_eq_toNat_of_lt (by omega), Int.toNat_natCast]
  omega

/-- A column's index, as a number. -/
theorem column_index (r : Fin 5632) : min (lit0 r).toInt.toNat 5631
    = (if (r : ℕ) % 512 < 256 then 256 * ((r : ℕ) / 512) + (r : ℕ) % 512
      else 2816 + 256 * ((r : ℕ) / 512) + ((r : ℕ) % 512 - 256)) := by
  have h := columns r
  have hl : (if (r : ℕ) % 512 < 256 then 256 * ((r : ℕ) / 512) + (r : ℕ) % 512
      else 2816 + 256 * ((r : ℕ) / 512) + ((r : ℕ) % 512 - 256)) ≤ 5631 := by split <;> omega
  rw [BitVec.toInt_eq_toNat_of_lt (by omega), Int.toNat_natCast, h]
  exact Nat.min_eq_left hl

variable (m : (ℓ : Loc nD τ sig) → Buf (Elt Ideal) ℓ)

/-- The modulation's operand. -/
theorem host_mods (c : Dev nD) (b : Fin 32) (r : Fin 8) (hr : (r : ℕ) < 6) (e : Fin 1024) : V m c main_v1 (ix3 b r e)
    = m ((c.tc : Thread nD τ).loc main_arg3) (ix2 b ⟨1024 * (r : ℕ) + e, by omega⟩) := by
  unfold V
  simp only [List.flatten_cons, List.flatten_nil, List.append_nil, List.cons_append, List.nil_append]
  after_results
  exact mods _ _ b r hr e

/-- The gains' operand, row 1. -/
theorem host_gain1 (c : Dev nD) (e : Fin 1024) : V m c main_v7 (ix2 1 e) = m ((c.tc : Thread nD τ).loc main_arg5) (ix1 e) := by
  unfold V
  simp only [List.flatten_cons, List.flatten_nil, List.append_nil, List.cons_append, List.nil_append]
  after_results
  refine (gain1 _ _ _ _ _ e).trans ?_
  show _ = _
  pointwise
  after_results_loop
  pointwise

/-- The gains' operand, row 2. -/
theorem host_gain2 (c : Dev nD) (e : Fin 1024) : V m c main_v7 (ix2 2 e) = m ((c.tc : Thread nD τ).loc main_arg6) (ix1 e) := by
  unfold V
  simp only [List.flatten_cons, List.flatten_nil, List.append_nil, List.cons_append, List.nil_append]
  after_results
  refine (gain2 _ _ _ _ _ e).trans ?_
  show _ = _
  pointwise
  after_results_loop
  pointwise

/-- The gains' operand, row 3. -/
theorem host_gain3 (c : Dev nD) (e : Fin 1024) : V m c main_v7 (ix2 3 e) = m ((c.tc : Thread nD τ).loc main_arg7) (ix1 e) := by
  unfold V
  simp only [List.flatten_cons, List.flatten_nil, List.append_nil, List.cons_append, List.nil_append]
  after_results
  refine (gain3 _ _ _ _ _ e).trans ?_
  show _ = _
  pointwise
  after_results_loop
  pointwise

/-- The output weights' operand: the first half's rows gathered, the second half's in place. -/
theorem joined (A B : Vec Ideal S512x1024 .f32) (r e : Fin 1024) :
    truncf (F := Ideal) .bf16 (concatenate S1024x1024 0 [⟨S512x1024, A⟩, ⟨S512x1024, B⟩] concatenates_S512x1024_S512x1024_S1024x1024_d0)
      bitsLt_bf16_f32 (ix2 r e) = if h : (r : ℕ) < 512 then A (ix2 ⟨r, h⟩ e) else B (ix2 ⟨(r : ℕ) - 512, by omega⟩ e) := by
  pointwise

/-- The output weights: the attention's rows regrouped. -/
theorem host_wo (c : Dev nD) (r e : Fin 1024) : V m c main_v22 (ix2 r e) = m ((c.tc : Thread nD τ).loc main_arg8)
    (ix2 (PoolSpec.place r) e) := by
  unfold V
  simp only [List.flatten_cons, List.flatten_nil, List.append_nil, List.cons_append, List.nil_append]
  after_results
  refine (joined _ _ r e).trans ?_
  by_cases hr : (r : ℕ) < 512
  · rw [dif_pos hr]
    after_results_loop
    refine (gather_row _ _ ⟨r, hr⟩ e).trans ?_
    refine congrArg (m ((c.tc : Thread nD τ).loc main_arg8)) (congrArg (fun k => (ix2 k e : S1024x1024.Idx)) (Fin.ext ?_))
    refine (congrArg (fun w : BitVec 32 => min w.toInt.toNat 1023) (start_row ⟨r, hr⟩)).trans ((row_index ⟨r, hr⟩).trans ?_)
    exact (if_pos hr).symm
  · rw [dif_neg hr]
    after_results_loop
    pointwise
    refine congrArg (m ((c.tc : Thread nD τ).loc main_arg8)) (congrArg (fun k => (ix2 k e : S1024x1024.Idx)) (Fin.ext ?_))
    simp only [PoolSpec.place, if_neg hr]
    omega

/-- The pooled columns' weights. -/
theorem host_wpool (c : Dev nD) (i : S4x128x128.Idx) : V m c main_v23 i = m ((c.tc : Thread nD τ).loc main_arg9) i := by
  unfold V
  simp only [List.flatten_cons, List.flatten_nil, List.append_nil, List.cons_append, List.nil_append]
  after_results
  pointwise

/-- The pooled columns' scale. -/
theorem host_pscale (c : Dev nD) (e : Fin 512) : V m c main_v24 (ix2 0 e) = m ((c.tc : Thread nD τ).loc main_arg10) (ix1 e) := by
  unfold V
  simp only [List.flatten_cons, List.flatten_nil, List.append_nil, List.cons_append, List.nil_append]
  after_results
  pointwise

/-- The feed-forward network's first weights: columns regrouped by chunks. -/
theorem host_wfi (c : Dev nD) (r : Fin 1024) (e : Fin 5632) : V m c main_v13 (ix2 r e) = m ((c.tc : Thread nD τ).loc main_arg11)
    (ix2 r ⟨if (e : ℕ) % 512 < 256 then 256 * ((e : ℕ) / 512) + (e : ℕ) % 512
      else 2816 + 256 * ((e : ℕ) / 512) + ((e : ℕ) % 512 - 256), by split <;> omega⟩) := by
  unfold V
  simp only [List.flatten_cons, List.flatten_nil, List.append_nil, List.cons_append, List.nil_append]
  after_results
  refine (gather_column _ _ r e).trans ?_
  refine congrArg (m ((c.tc : Thread nD τ).loc main_arg11)) (congrArg (fun k => (ix2 r k : S1024x5632.Idx)) (Fin.ext ?_))
  exact (congrArg (fun w : BitVec 32 => min w.toInt.toNat 5631) (start_column e)).trans (column_index e)

/-- The feed-forward network's last weights. -/
theorem host_wfo (c : Dev nD) (i : S2816x1024.Idx) : V m c main_v14 i = m ((c.tc : Thread nD τ).loc main_arg12) i := by
  unfold V
  simp only [List.flatten_cons, List.flatten_nil, List.append_nil, List.cons_append, List.nil_append]
  after_results
  pointwise

end Cert.PoolIdeal.Value
-- ==== Proof.Pool.Value.lean ====
module
public import proofs.«01_k».proof.Proof.Pool.Stored
public import proofs.«01_k».proof.Proof.Pool.Host
public import proofs.«01_k».proof.Proof.Pool.Spec
public import Idealize.ShloMosaic.Lib.Pipeline.ValueKit

/-! The array the closing kernel of an even layer leaves. -/

set_option maxRecDepth 16384

@[expose] public section

noncomputable section

open Idealize.ShloMosaic Idealize.ShloMosaic.TcCoe Idealize.SL.Sem

namespace Cert.PoolIdeal.Value
open Cert.PoolIdeal Cert.PoolIdeal.Gen

variable (m : (ℓ : Loc nD τ sig) → Buf (Elt Ideal) ℓ)

/-- Point `t` of the grid is tile `t % 4` of batch entry `t / 4`; windows 8 and 9 are the eight rows before the tile and the eight
after it, or some other eight rows at the sequence's ends. -/
theorem idx : ∀ t : Fin cfg0.N, win0_0.index t = ![t.val / 4, t.val % 4, 0] ∧ win0_1.index t = ![t.val / 4, t.val % 4, 0]
    ∧ win0_2.index t = ![t.val / 4, 0, 0] ∧ win0_3.index t = ![0, 0] ∧ win0_4.index t = ![0, 0]
    ∧ win0_5.index t = ![0, 0] ∧ win0_6.index t = ![0, 0] ∧ win0_7.index t = ![t.val / 4, t.val % 4, 0]
    ∧ win0_10.index t = ![0, 0, 0] ∧ win0_11.index t = ![0, 0] ∧ win0_12.index t = ![t.val / 4, t.val % 4, 0]
    ∧ t.val / 4 < 32 :=
  (by decide +kernel : ∀ t : Fin grid0.N, _)

/-- The window of the eight rows before the tile. -/
theorem idx8 : ∀ t : Fin cfg0.N, win0_8.index t = ![t.val / 4, 64 * (t.val % 4) - 1, 0] :=
  (by decide +kernel : ∀ t : Fin grid0.N, _)

/-- The window of the eight rows after the tile. -/
theorem idx9 : ∀ t : Fin cfg0.N, win0_9.index t = ![t.val / 4, min (64 * (t.val % 4) + 64) 255, 0] :=
  (by decide +kernel : ∀ t : Fin grid0.N, _)

/-- The tile's number, as the body has it. -/
theorem tile : ∀ t : Fin cfg0.N, (grid0.coords t 1 : ℕ) = t.val % 4 :=
  (by decide +kernel : ∀ t : Fin grid0.N, _)

/-- The batch entry of a grid point. -/
def batch (t : Fin cfg0.N) : Fin 32 := ⟨t.val / 4, (idx t).2.2.2.2.2.2.2.2.2.2.2⟩

/-- The row of the sequence that row `q` of a grid point's tile is. -/
def row (t : Fin cfg0.N) (q : Fin 512) : Fin 2048 := ⟨512 * (t.val % 4) + q, by omega⟩

/-- A grid point's block of the stream. -/
theorem read0 (c : Dev nD) (t : Fin cfg0.N) (q : Fin 512) (e : Fin 1024) : iblk m c 0 t (ix3 0 q e : S1x512x1024.Idx)
    = m ((c.tc : Thread nD τ).loc main_arg0) (ix3 (batch t) (row t q) e) := by
  blk_ext [iblk, V, idx t, batch, row]

/-- A grid point's block of the attention's output. -/
theorem read1 (c : Dev nD) (t : Fin cfg0.N) (q : Fin 512) (e : Fin 512) : iblk m c 1 t (ix3 0 q e : S1x512x512.Idx)
    = m ((c.tc : Thread nD τ).loc main_arg1) (ix3 (batch t) (row t q) e) := by
  blk_ext [iblk, V, idx t, batch, row]

/-- A grid point's block of the pooled part. -/
theorem read7 (c : Dev nD) (t : Fin cfg0.N) (q : Fin 512) (s : Fin 2048) (e : Fin 512) (hs : (s : ℕ) = 512 * (t.val % 4) + q) :
    iblk m c 7 t (ix3 0 q e : S1x512x512.Idx) = m ((c.tc : Thread nD τ).loc main_arg2) (ix3 (batch t) s e) := by
  obtain rfl : s = row t q := Fin.ext hs
  blk_ext [iblk, V, idx t, batch, row]

/-- The eight rows before the tile. -/
theorem read8 (c : Dev nD) (t : Fin cfg0.N) (r : Fin 8) (s : Fin 2048) (e : Fin 512) (hs : (s : ℕ) + 8 = 512 * (t.val % 4) + r) :
    iblk m c 8 t (ix3 0 r e : S1x8x512.Idx) = m ((c.tc : Thread nD τ).loc main_arg2) (ix3 (batch t) s e) := by
  blk_ext [iblk, V, idx8 t, batch]

/-- The eight rows after the tile. -/
theorem read9 (c : Dev nD) (t : Fin cfg0.N) (r : Fin 8) (s : Fin 2048) (e : Fin 512) (hs : (s : ℕ) = 512 * (t.val % 4) + 512 + r) :
    iblk m c 9 t (ix3 0 r e : S1x8x512.Idx) = m ((c.tc : Thread nD τ).loc main_arg2) (ix3 (batch t) s e) := by
  blk_ext [iblk, V, idx9 t, batch]

/-- A grid point's block of the modulation. -/
theorem read2 (c : Dev nD) (t : Fin cfg0.N) (r : Fin 8) (hr : (r : ℕ) < 6) (e : Fin 1024) : iblk m c 2 t (ix3 0 r e : S1x8x1024.Idx)
    = m ((c.tc : Thread nD τ).loc main_arg3) (ix2 (batch t) ⟨1024 * (r : ℕ) + e, by omega⟩) := by
  refine Eq.trans ?_ (host_mods m c (batch t) r hr e)
  blk_ext [iblk, idx t, batch]

/-- The gains, row 1. -/
theorem read31 (c : Dev nD) (t : Fin cfg0.N) (e : Fin 1024) : iblk m c 3 t (ix2 1 e : S8x1024.Idx)
    = m ((c.tc : Thread nD τ).loc main_arg5) (ix1 e) := by
  refine Eq.trans ?_ (host_gain1 m c e)
  blk_ext [iblk, idx t]

/-- The gains, row 2. -/
theorem read32 (c : Dev nD) (t : Fin cfg0.N) (e : Fin 1024) : iblk m c 3 t (ix2 2 e : S8x1024.Idx)
    = m ((c.tc : Thread nD τ).loc main_arg6) (ix1 e) := by
  refine Eq.trans ?_ (host_gain2 m c e)
  blk_ext [iblk, idx t]

/-- The gains, row 3. -/
theorem read33 (c : Dev nD) (t : Fin cfg0.N) (e : Fin 1024) : iblk m c 3 t (ix2 3 e : S8x1024.Idx)
    = m ((c.tc : Thread nD τ).loc main_arg7) (ix1 e) := by
  refine Eq.trans ?_ (host_gain3 m c e)
  blk_ext [iblk, idx t]

/-- The attention's output weights. -/
theorem read4 (c : Dev nD) (t : Fin cfg0.N) (r e : Fin 1024) : iblk m c 4 t (ix2 r e : S1024x1024.Idx)
    = m ((c.tc : Thread nD τ).loc main_arg8) (ix2 (PoolSpec.place r) e) := by
  refine Eq.trans ?_ (host_wo m c r e)
  blk_ext [iblk, idx t]

/-- The feed-forward network's first weights. -/
theorem read5 (c : Dev nD) (t : Fin cfg0.N) (r : Fin 1024) (e : Fin 5632) : iblk m c 5 t (ix2 r e : S1024x5632.Idx)
    = m ((c.tc : Thread nD τ).loc main_arg11)
      (ix2 r ⟨if (e : ℕ) % 512 < 256 then 256 * ((e : ℕ) / 512) + (e : ℕ) % 512
        else 2816 + 256 * ((e : ℕ) / 512) + ((e : ℕ) % 512 - 256), by split <;> omega⟩) := by
  refine Eq.trans ?_ (host_wfi m c r e)
  blk_ext [iblk, idx t]

/-- The feed-forward network's last weights. -/
theorem read6 (c : Dev nD) (t : Fin cfg0.N) (r : Fin 2816) (e : Fin 1024) : iblk m c 6 t (ix2 r e : S2816x1024.Idx)
    = m ((c.tc : Thread nD τ).loc main_arg12) (ix2 r e) := by
  refine Eq.trans ?_ (host_wfo m c (ix2 r e))
  blk_ext [iblk, idx t]

/-- The pooled part's weights. -/
theorem read10 (c : Dev nD) (t : Fin cfg0.N) (g : Fin 4) (x n : Fin 128) : iblk m c 10 t (ix3 g x n : S4x128x128.Idx)
    = m ((c.tc : Thread nD τ).loc main_arg9) (ix3 g x n) := by
  refine Eq.trans ?_ (host_wpool m c (ix3 g x n))
  blk_ext [iblk, idx t]

/-- The pooled part's scales. -/
theorem read11 (c : Dev nD) (t : Fin cfg0.N) (e : Fin 512) : iblk m c 11 t (ix2 0 e : S1x512.Idx)
    = m ((c.tc : Thread nD τ).loc main_arg10) (ix1 e) := by
  refine Eq.trans ?_ (host_pscale m c e)
  blk_ext [iblk, idx t]

/-- The buffer of 528 rows holds a stretch of the padded sequence. -/
theorem extended_reads (i1 : ℕ) (hi : i1 < 4) (x7 : Vec Ideal S1x512x512 .f32) (x8 x9 : Vec Ideal S1x8x512 .f32)
    (n : Fin 512) (u : Fin 2048 → EReal)
    (h7 : ∀ (q : Fin 512) (s : Fin 2048), (s : ℕ) = 512 * i1 + q → x7 (ix3 0 q n) = u s)
    (h8 : ∀ (r : Fin 8) (s : Fin 2048), (s : ℕ) + 8 = 512 * i1 + r → x8 (ix3 0 r n) = u s)
    (h9 : ∀ (r : Fin 8) (s : Fin 2048), (s : ℕ) = 512 * i1 + 512 + r → x9 (ix3 0 r n) = u s) (p : ℕ) (hp : p < 528) :
    extended i1 x7 x8 x9 p n = PoolSpec.padded u (512 * i1 + p) := by
  unfold extended PoolSpec.padded
  by_cases ha : p < 8
  · rw [dif_pos ha]
    by_cases hb : 0 < i1
    · rw [if_pos hb, dif_pos (by omega)]
      exact h8 _ _ (by simp only; omega)
    · rw [if_neg hb, dif_neg (by omega)]
  · rw [dif_neg ha]
    by_cases hb : p < 520
    · rw [dif_pos hb, dif_pos (by omega)]
      exact h7 _ _ (by simp only; omega)
    · rw [dif_neg hb, dif_pos hp]
      by_cases hc : i1 < 3
      · rw [if_pos hc, dif_pos (by omega)]
        exact h9 _ _ (by simp only; omega)
      · rw [if_neg hc, dif_neg (by omega)]

/-- A pooled column, read in the tile's buffer or in the whole sequence. -/
theorem mix_shift (E F : ℕ → Fin 128 → EReal) (k : BitVec 32) (h : ℕ) (hh : h ≤ 8) (W : Fin 128 → EReal) (z : EReal) (o : ℕ)
    (q : Fin 512) (hE : ∀ p x, p < 528 → E p x = F (o + p) x) :
    PoolSpec.mixOf E k h W z q = PoolSpec.mixOf F k h W z (o + q) := by
  have ht : ∀ x, PoolSpec.total (fun p => E p x) q h = PoolSpec.total (fun p => F p x) (o + q) h := fun x =>
    Finset.sum_congr rfl fun i hi => by
      rw [Finset.mem_range] at hi
      show E _ x = F _ x
      rw [hE _ x (by omega)]
      exact congrArg (fun p => F p x) (by omega)
  unfold PoolSpec.mixOf
  refine congrArg (· * z) (Finset.sum_congr rfl fun x _ => ?_)
  rw [ht, hE _ x (by omega), Nat.add_assoc]

/-- The pooled columns of a grid point's row. -/
theorem pooled_at (c : Dev nD) (t : Fin cfg0.N) (q : Fin 512) (g : Fin 4) (n : Fin 128) :
    pooledOf (grid0.coords t 1) (iblk m c 7 t) (iblk m c 8 t) (iblk m c 9 t) (iblk m c 10 t) (iblk m c 11 t) q g n
      = PoolSpec.mixed (m ((c.tc : Thread nD τ).loc main_arg2)) (m ((c.tc : Thread nD τ).loc main_arg9))
        (m ((c.tc : Thread nD τ).loc main_arg10)) (batch t) (row t q) g n := by
  unfold pooledOf PoolSpec.mixed
  rw [tile t, read11]
  simp only [read10]
  refine mix_shift _ _ _ _ ?_ _ _ (512 * (t.val % 4)) q fun p x hp => ?_
  · match g with
    | 0 => decide
    | 1 => decide
    | 2 => decide
    | 3 => decide
  · exact extended_reads _ (by omega) _ _ _ _ _ (fun q s hs => read7 m c t q s _ hs) (fun r s hs => read8 m c t r s _ hs)
      (fun r s hs => read9 m c t r s _ hs) p hp

/-- A row of the result, from blocks that hold the arrays' elements. -/
theorem row_of_reads (i1 : ℕ) (x0 : Vec Ideal S1x512x1024 .f32) (x1 : Vec Ideal S1x512x512 .bf16) (x2 : Vec Ideal S1x8x1024 .f32)
    (x3 : Vec Ideal S8x1024 .f32) (x4 : Vec Ideal S1024x1024 .bf16) (x5 : Vec Ideal S1024x5632 .bf16)
    (x6 : Vec Ideal S2816x1024 .bf16) (x7 : Vec Ideal S1x512x512 .f32) (x8 x9 : Vec Ideal S1x8x512 .f32)
    (x10 : Vec Ideal S4x128x128 .bf16) (x11 : Vec Ideal S1x512 .f32) (q : Fin 512)
    (X gtm shift scale gtf g1 g2 g3 : Fin 1024 → EReal) (A : Fin 512 → EReal) (P : Fin 4 → Fin 128 → EReal)
    (wo : Fin 1024 → Fin 1024 → EReal) (gate up down : Fin 2816 → Fin 1024 → EReal)
    (h0 : ∀ e, x0 (ix3 0 q e) = X e) (h1 : ∀ e, x1 (ix3 0 q e) = A e)
    (hP : ∀ g n, pooledOf i1 x7 x8 x9 x10 x11 q g n = P g n) (h22 : ∀ e, x2 (ix3 0 2 e) = gtm e)
    (h23 : ∀ e, x2 (ix3 0 3 e) = shift e) (h24 : ∀ e, x2 (ix3 0 4 e) = scale e) (h25 : ∀ e, x2 (ix3 0 5 e) = gtf e)
    (h31 : ∀ e, x3 (ix2 1 e) = g1 e) (h32 : ∀ e, x3 (ix2 2 e) = g2 e) (h33 : ∀ e, x3 (ix2 3 e) = g3 e)
    (h4 : ∀ r e, x4 (ix2 r e) = wo r e)
    (h5 : ∀ (k : Fin 2816) e, x5 (ix2 e ⟨512 * ((k : ℕ) / 256) + (k : ℕ) % 256, by omega⟩) = gate k e)
    (h5' : ∀ (k : Fin 2816) e, x5 (ix2 e ⟨512 * ((k : ℕ) / 256) + 256 + (k : ℕ) % 256, by omega⟩) = up k e)
    (h6 : ∀ k e, x6 (ix2 k e) = down k e) (n : Fin 1024) :
    rowOf x2 x3 x5 x6 (first i1 x0 x1 x2 x3 x4 x7 x8 x9 x10 x11) q n
      = PostSpec.out X (fun n => ∑ k, PoolSpec.inputs A P k * wo k n) gtm g1 g2 scale shift gate up down gtf g3 n := by
  have hp : pooledOf i1 x7 x8 x9 x10 x11 q = P := funext fun g => funext fun n => hP g n
  have hf : first i1 x0 x1 x2 x3 x4 x7 x8 x9 x10 x11 q
      = PostSpec.plus X (fun n => ∑ k, PoolSpec.inputs A P k * wo k n) gtm g1 := by
    funext n
    unfold first
    simp only [hp, h0, h1, h22, h31, h4]
  unfold rowOf PostSpec.out PostSpec.feed unitOf seen
  simp only [hf, h23, h24, h25, h32, h33, h5, h5', h6]

/-- The result array. -/
def result (c : Dev nD) : FVec Ideal S32x2048x1024 .f32 := fun i =>
  PoolSpec.result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (i 0) (i 1) (i 2)

/-- A hidden unit's column of the gate's weights. -/
theorem gate_at (c : Dev nD) (t : Fin cfg0.N) (k : Fin 2816) (e : Fin 1024) :
    iblk m c 5 t (ix2 e ⟨512 * ((k : ℕ) / 256) + (k : ℕ) % 256, by omega⟩ : S1024x5632.Idx)
      = m ((c.tc : Thread nD τ).loc main_arg11) (ix2 e ⟨(k : ℕ), by omega⟩) := by
  rw [read5]
  exact congrArg (fun z => m ((c.tc : Thread nD τ).loc main_arg11) (ix2 e z : S1024x5632.Idx))
      (Fin.ext (by simp only; rw [if_pos (by omega)]; omega))

/-- A hidden unit's column of the other weights. -/
theorem up_at (c : Dev nD) (t : Fin cfg0.N) (k : Fin 2816) (e : Fin 1024) :
    iblk m c 5 t (ix2 e ⟨512 * ((k : ℕ) / 256) + 256 + (k : ℕ) % 256, by omega⟩ : S1024x5632.Idx)
      = m ((c.tc : Thread nD τ).loc main_arg11) (ix2 e ⟨2816 + (k : ℕ), by omega⟩) := by
  rw [read5]
  exact congrArg (fun z => m ((c.tc : Thread nD τ).loc main_arg11) (ix2 e z : S1024x5632.Idx))
      (Fin.ext (by simp only; rw [if_neg (by omega)]; omega))

/-- A row of a grid point's blocks is that of the arrays at the point's place. -/
theorem row_block (c : Dev nD) (t : Fin cfg0.N) (q : Fin 512) (n : Fin 1024) :
    rowOf (iblk m c 2 t) (iblk m c 3 t) (iblk m c 5 t) (iblk m c 6 t) (firstAt m c t) q n
      = result m c (ix3 (batch t) (row t q) n) :=
  row_of_reads _ _ _ _ _ _ _ _ _ _ _ _ _ q _ _ _ _ _ _ _ _ _ _ _ _ _ _ (read0 m c t q) (read1 m c t q) (pooled_at m c t q)
    (read2 m c t 2 (by decide)) (read2 m c t 3 (by decide)) (read2 m c t 4 (by decide)) (read2 m c t 5 (by decide))
    (read31 m c t) (read32 m c t) (read33 m c t) (read4 m c t) (gate_at m c t) (up_at m c t) (read6 m c t) n

/-- What a grid point stores is its block of the result. -/
theorem point (c : Dev nD) (t : Fin cfg0.N) (y : S1x512x1024.Idx) :
    outsAt0 m c t y = result m c (((cfg0.win 12).blk t).view.emb y) := by
  idx_vars y
  obtain rfl : y0 = 0 := Subsingleton.elim _ _
  rw [stored, row_block]
  refine congrArg (result m c) ?_
  blk_ext [idx t, batch, row]

/-- The array after the run. -/
theorem final (c : Dev nD) : (dats m 0 c).arrAt 12 (cfgs 0).N = result m c := by
  refine (dats m 0 c).arrAt_eq_of_covers 12 _ (by decide +kernel) fun t _ y => ?_
  blk_simp
  rw [after0_12]
  exact point m c t y

end Cert.PoolIdeal.Value
-- ==== Proof.Pool.Ref.lean ====
module
public import proofs.«01_k».proof.Proof.Gen.PoolRefIdeal.Read
public import proofs.«01_k».proof.Proof.Pool.Spec

/-! What the reference of an even layer's closing call computes, element by element. -/

set_option maxRecDepth 16384

@[expose] public section

noncomputable section

open Idealize.ShloMosaic Idealize.ShloMosaic.TcCoe Idealize.SL.Sem

namespace Cert.PoolRefIdeal.Value
open Cert.PoolRefIdeal Cert.PoolRefIdeal.Gen Cert.PoolRefIdeal.Read PostSpec PoolSpec

variable (X : FVec Ideal S32x2048x1024 .f32) (A : FVec Ideal S32x2048x512 .bf16) (U : FVec Ideal S32x2048x512 .f32)
  (M : FVec Ideal S32x6144 .f32) (G1 G2 G3 : FVec Ideal S1024 .f32) (WO : FVec Ideal S1024x1024 .f32)
  (P : FVec Ideal S4x128x128 .f32) (C : FVec Ideal S512 .f32) (WFI : FVec Ideal S1024x5632 .f32)
  (WFO : FVec Ideal S2816x1024 .f32)

/-- The lanes of the attention's output: heads, halves and dims. -/
theorem lanes_at (b : Fin 32) (s : Fin 2048) (h : Fin 4) (z : Fin 2) (d : Fin 64) : val_main_v8 (F := Ideal) A (ix5 b s h z d)
    = A (ix3 b s ⟨(h : ℕ) * 128 + (z : ℕ) * 64 + d, by omega⟩) := by
  pointwise [val_main_v8, val_main_v7]

/-- Heads and halves exchanged. -/
theorem lanes_swap (b : Fin 32) (s : Fin 2048) (z : Fin 2) (h : Fin 4) (d : Fin 64) :
    val_main_v9 (F := Ideal) A (ix5 b s z h d) = val_main_v8 (F := Ideal) A (ix5 b s h z d) := by
  rw [val_main_v9_apply]
  generalize val_main_v8 (F := Ideal) A = Y
  refine congrArg Y (funext fun a => ?_)
  match a with
  | ⟨0, _⟩ => rfl
  | ⟨1, _⟩ => rfl
  | ⟨2, _⟩ => rfl
  | ⟨3, _⟩ => rfl
  | ⟨4, _⟩ => rfl

/-- The lanes counted as one axis again. -/
theorem lanes_join (b : Fin 32) (s : Fin 2048) (k : Fin 512) : val_main_v10 (F := Ideal) A (ix3 b s k)
    = val_main_v9 (F := Ideal) A (ix5 b s ⟨(k : ℕ) / 256, by omega⟩ ⟨(k : ℕ) / 64 % 4, by omega⟩ ⟨(k : ℕ) % 64, by omega⟩) := by
  pointwise [val_main_v10]

/-- The attention's output, its lanes regrouped. -/
theorem regrouped (b : Fin 32) (s : Fin 2048) (k : Fin 512) : val_main_v10 (F := Ideal) A (ix3 b s k)
    = A (ix3 b s ⟨128 * ((k : ℕ) / 64 % 4) + 64 * ((k : ℕ) / 256) + (k : ℕ) % 64, by omega⟩) := by
  rw [lanes_join, lanes_swap, lanes_at]
  exact congrArg (fun e => A (ix3 b s e)) (Fin.ext (by simp only; omega))

/-- The half width of group `g`, computed in integers. -/
theorem half (g : Fin 4) : IntOp.shli ArithUnit.host 1#32 (BitVec.ofNat 32 (g : ℕ)) = BitVec.ofNat 32 (2 ^ (g : ℕ)) := by
  revert g
  decide

/-- The half widths are at most eight. -/
theorem half_le (g : Fin 4) : 2 ^ (g : ℕ) ≤ 8 := by
  revert g
  decide

/-- The windows' mask. -/
theorem mask_at (g : Fin 4) (t s : Fin 2048) : val_main_v41 (F := Ideal) (ix3 g t s)
    = if (t : ℕ) ≤ s + 2 ^ (g : ℕ) ∧ (s : ℕ) < t + 2 ^ (g : ℕ) then 1 else 0 := by
  pointwise [val_main_v41, val_main_call0_v1, val_main_call0_v0, val_main_v40, val_main_v39, val_main_v38, val_main_v37,
    val_main_v36, val_main_v35, val_main_v34, val_main_v33, val_main_v32, val_main_v31, val_main_v30, val_main_v29,
    val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_c, val_main_c_0, val_main_c_1, val_main_cst, val_main_cst_2]
  simp only [half]
  exact mask t s _ t.isLt s.isLt (half_le g)

/-- The windows' lengths. -/
theorem count_at (b : Fin 32) (t : Fin 2048) (g : Fin 4) (c : Fin 128) : val_main_v48 (F := Ideal) (ix4 b t g c)
    = PoolSpec.count (BitVec.ofNat 32 t) (BitVec.ofNat 32 (2 ^ (g : ℕ))) := by
  pointwise [val_main_v48, val_main_v47, val_main_v46, val_main_v45, val_main_v44, val_main_v29, val_main_v28, val_main_v27,
    val_main_v26, val_main_v25, val_main_v24, val_main_v23, val_main_v22, val_main_v21, val_main_v20, val_main_v19,
    val_main_v18, val_main_v17, val_main_v16, val_main_v15, val_main_v14, val_main_v13, val_main_v12, val_main_c,
    val_main_c_0, val_main_c_1]
  simp only [half]
  rfl

/-- The pooled part's input, its columns grouped. -/
theorem grouped (b : Fin 32) (t : Fin 2048) (g : Fin 4) (c : Fin 128) : val_main_v11 (F := Ideal) U (ix4 b t g c)
    = U (ix3 b t ⟨128 * (g : ℕ) + c, by omega⟩) := by
  pointwise [val_main_v11]
  exact congrArg (fun e => U (ix3 b t e)) (Fin.ext (by simp only; omega))

/-- The windows' sums. -/
theorem total_at (b : Fin 32) (t : Fin 2048) (g : Fin 4) (c : Fin 128) : val_main_v43 (F := Ideal) U (ix4 b t g c)
    = total (padded (fun r => U (ix3 b r ⟨128 * (g : ℕ) + c, by omega⟩))) t (2 ^ (g : ℕ)) := by
  rw [← total_eq _ t _ (half_le g), val_main_v43_apply, val_main_v42_apply]
  refine Finset.sum_congr rfl fun k _ => congrArg₂ (· * ·) ((congrArg (val_main_v11 (F := Ideal) U) (funext fun a => ?_)).trans
    (grouped U b k g c)) ((congrArg (val_main_v41 (F := Ideal)) (funext fun a => ?_)).trans (mask_at g t k))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The windows' means less the position itself. -/
theorem centred (b : Fin 32) (t : Fin 2048) (g : Fin 4) (c : Fin 128) : val_main_v50 (F := Ideal) U (ix4 b t g c)
    = Ideal.div (total (padded (fun r => U (ix3 b r ⟨128 * (g : ℕ) + c, by omega⟩))) t (2 ^ (g : ℕ)))
        (PoolSpec.count (BitVec.ofNat 32 t) (BitVec.ofNat 32 (2 ^ (g : ℕ)))) - U (ix3 b t ⟨128 * (g : ℕ) + c, by omega⟩) := by
  rw [← total_at U b t g c, ← count_at b t g c, ← grouped U b t g c]
  rfl

/-- The pooled columns before the scale. -/
theorem weighted (b : Fin 32) (t : Fin 2048) (g : Fin 4) (n : Fin 128) : val_main_v52 (F := Ideal) U P (ix4 b t g n)
    = ∑ c, val_main_v50 (F := Ideal) U (ix4 b t g c) * P (ix3 g c n) := by
  rw [val_main_v52_apply, val_main_v51_apply]
  generalize val_main_v50 (F := Ideal) U = Y
  refine Finset.sum_congr rfl fun k _ => (mul_comm _ _).trans (congrArg₂ (· * ·) (congrArg Y (funext fun a => ?_))
    (congrArg P (funext fun a => ?_)))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The pooled columns. -/
theorem pooled (b : Fin 32) (t : Fin 2048) (k : Fin 512) : val_main_v56 (F := Ideal) U P C (ix3 b t k)
    = mixed U P C b t ⟨(k : ℕ) / 128, by omega⟩ ⟨(k : ℕ) % 128, by omega⟩ := by
  have h : val_main_v56 (F := Ideal) U P C (ix3 b t k)
      = val_main_v52 (F := Ideal) U P (ix4 b t ⟨(k : ℕ) / 128, by omega⟩ ⟨(k : ℕ) % 128, by omega⟩) * C (ix1 k) := by
    pointwise [val_main_v56, val_main_v53, val_main_v54, val_main_v55]
  rw [h, weighted]
  simp only [centred]
  unfold mixed mixOf
  refine congrArg₂ (· * ·) (Finset.sum_congr rfl fun c _ => congrArg₂ (· * ·) (congrArg₂ (· - ·) rfl ?_) rfl) ?_
  · refine Eq.symm ((dif_pos (show 8 ≤ (t : ℕ) + 8 ∧ (t : ℕ) + 8 < 2056 by omega)).trans ?_)
    exact congrArg (fun r => U (ix3 b r _)) (Fin.ext (by simp))
  · exact congrArg (fun e => C (ix1 e)) (Fin.ext (by simp only; omega))

/-- The columns the output weights meet. -/
theorem beside (b : Fin 32) (s : Fin 2048) (k : Fin 1024) : val_main_v57 (F := Ideal) A U P C (ix3 b s k)
    = inputs (fun j => A (ix3 b s j)) (mixed U P C b s) (PoolSpec.source k) := by
  rw [← inputs_source]
  have h := regrouped A b s
  have h' := pooled U P C b s
  pointwise [val_main_v57, inputs, h, h']

/-- The columns projected. -/
theorem projected (b : Fin 32) (s : Fin 2048) (n : Fin 1024) : val_main_v58 (F := Ideal) A U WO P C (ix3 b s n)
    = ∑ k, inputs (fun j => A (ix3 b s j)) (mixed U P C b s) k * WO (ix2 (PoolSpec.place k) n) := by
  refine Eq.trans ?_ (PoolSpec.project (inputs (fun j => A (ix3 b s j)) (mixed U P C b s)) (fun k => WO (ix2 k n)))
  rw [val_main_v58_apply]
  refine Finset.sum_congr rfl fun k _ => congrArg₂ (· * ·) ((congrArg (val_main_v57 (F := Ideal) A U P C) (funext fun a => ?_)).trans
    (beside A U P C b s k)) (congrArg WO (funext fun a => ?_))
  · match a with
    | ⟨0, _⟩ => rfl
    | ⟨1, _⟩ => rfl
    | ⟨2, _⟩ => rfl
  · match a with
    | ⟨0, _⟩ => rfl
    | ⟨1, _⟩ => rfl

/-- The projected row normalised. -/
theorem normed1 (b : Fin 32) (s : Fin 2048) (n : Fin 1024) : val_main_v68 (F := Ideal) A U WO P C (ix3 b s n)
    = rms (fun n => val_main_v58 (F := Ideal) A U WO P C (ix3 b s n)) n := by
  pointwise [val_main_v68, val_main_v67, val_main_v66, val_main_v65, val_main_v64, val_main_v63, val_main_v62, val_main_v61,
    val_main_v60, val_main_v59, val_main_cst_3, val_main_cst_4, val_main_cst_5, rms]

/-- The row after the attention's part. -/
theorem first_at (b : Fin 32) (s : Fin 2048) (n : Fin 1024) : val_main_v74 (F := Ideal) X A U M G1 WO P C (ix3 b s n)
    = plus (fun e => X (ix3 b s e)) (fun n => val_main_v58 (F := Ideal) A U WO P C (ix3 b s n))
      (fun e => M (ix2 b ⟨2048 + (e : ℕ), by omega⟩)) (fun e => G1 (ix1 e)) n := by
  have h := normed1 A U WO P C b s
  pointwise [val_main_v74, val_main_v73, val_main_v72, val_main_v71, val_main_v70, val_main_v69, val_main_v3, val_main_v0, h, plus]

/-- That row normalised. -/
theorem normed2 (b : Fin 32) (s : Fin 2048) (n : Fin 1024) : val_main_v84 (F := Ideal) X A U M G1 WO P C (ix3 b s n)
    = rms (fun n => val_main_v74 (F := Ideal) X A U M G1 WO P C (ix3 b s n)) n := by
  pointwise [val_main_v84, val_main_v83, val_main_v82, val_main_v81, val_main_v80, val_main_v79, val_main_v78, val_main_v77,
    val_main_v76, val_main_v75, val_main_cst_6, val_main_cst_7, val_main_cst_8, rms]

/-- What the feed-forward part sees. -/
theorem seen_at (b : Fin 32) (s : Fin 2048) (n : Fin 1024) : val_main_v93 (F := Ideal) X A U M G1 G2 WO P C (ix3 b s n)
    = modulated (fun n => val_main_v74 (F := Ideal) X A U M G1 WO P C (ix3 b s n)) (fun e => G2 (ix1 e))
      (fun e => M (ix2 b ⟨4096 + (e : ℕ), by omega⟩)) (fun e => M (ix2 b ⟨3072 + (e : ℕ), by omega⟩)) n := by
  have h := normed2 X A U M G1 WO P C b s
  pointwise [val_main_v93, val_main_v92, val_main_v91, val_main_v90, val_main_v89, val_main_v88, val_main_v87, val_main_v86,
    val_main_v85, val_main_v4, val_main_v5, val_main_v0, val_main_cst_9, h, modulated]

/-- The feed-forward part's first product. -/
theorem wide_at (b : Fin 32) (s : Fin 2048) (k : Fin 5632) : val_main_v94 (F := Ideal) X A U M G1 G2 WO P C WFI (ix3 b s k)
    = ∑ e, val_main_v93 (F := Ideal) X A U M G1 G2 WO P C (ix3 b s e) * WFI (ix2 e k) := by
  rw [val_main_v94_apply]
  generalize val_main_v93 (F := Ideal) X A U M G1 G2 WO P C = Y
  refine Finset.sum_congr rfl fun e _ => congrArg₂ (· * ·) (congrArg Y (funext fun a => ?_)) (congrArg WFI (funext fun a => ?_))
  · match a with
    | ⟨0, _⟩ => rfl
    | ⟨1, _⟩ => rfl
    | ⟨2, _⟩ => rfl
  · match a with
    | ⟨0, _⟩ => rfl
    | ⟨1, _⟩ => rfl

/-- A hidden unit. -/
theorem unit_at (b : Fin 32) (s : Fin 2048) (k : Fin 2816) : val_main_v98 (F := Ideal) X A U M G1 G2 WO P C WFI (ix3 b s k)
    = glu (val_main_v94 (F := Ideal) X A U M G1 G2 WO P C WFI (ix3 b s ⟨(k : ℕ), by omega⟩))
      (val_main_v94 (F := Ideal) X A U M G1 G2 WO P C WFI (ix3 b s ⟨2816 + (k : ℕ), by omega⟩)) := by
  pointwise [val_main_v98, val_main_v97, val_main_v96, val_main_v95, val_main_call1_v5, val_main_call1_v4, val_main_call1_v3,
    val_main_call1_v2, val_main_call1_v1, val_main_call1_v0, val_main_call1_cst, val_main_call1_cst_0, glu]
  rw [zero_sub]

/-- The feed-forward part's output. -/
theorem fed_at (b : Fin 32) (s : Fin 2048) (n : Fin 1024) : val_main_v99 (F := Ideal) X A U M G1 G2 WO P C WFI WFO (ix3 b s n)
    = ∑ k, val_main_v98 (F := Ideal) X A U M G1 G2 WO P C WFI (ix3 b s k) * WFO (ix2 k n) := by
  rw [val_main_v99_apply]
  generalize val_main_v98 (F := Ideal) X A U M G1 G2 WO P C WFI = Y
  refine Finset.sum_congr rfl fun e _ => congrArg₂ (· * ·) (congrArg Y (funext fun a => ?_)) (congrArg WFO (funext fun a => ?_))
  · match a with
    | ⟨0, _⟩ => rfl
    | ⟨1, _⟩ => rfl
    | ⟨2, _⟩ => rfl
  · match a with
    | ⟨0, _⟩ => rfl
    | ⟨1, _⟩ => rfl

/-- That output normalised. -/
theorem normed3 (b : Fin 32) (s : Fin 2048) (n : Fin 1024) : val_main_v109 (F := Ideal) X A U M G1 G2 WO P C WFI WFO (ix3 b s n)
    = rms (fun n => val_main_v99 (F := Ideal) X A U M G1 G2 WO P C WFI WFO (ix3 b s n)) n := by
  pointwise [val_main_v109, val_main_v108, val_main_v107, val_main_v106, val_main_v105, val_main_v104, val_main_v103, val_main_v102,
    val_main_v101, val_main_v100, val_main_cst_10, val_main_cst_11, val_main_cst_12, rms]

/-- The result, from the rows before the last sum. -/
theorem last_at (b : Fin 32) (s : Fin 2048) (n : Fin 1024) : val_main_v115 (F := Ideal) X A U M G1 G2 G3 WO P C WFI WFO (ix3 b s n)
    = plus (fun n => val_main_v74 (F := Ideal) X A U M G1 WO P C (ix3 b s n))
      (fun n => val_main_v99 (F := Ideal) X A U M G1 G2 WO P C WFI WFO (ix3 b s n))
      (fun e => M (ix2 b ⟨5120 + (e : ℕ), by omega⟩)) (fun e => G3 (ix1 e)) n := by
  have h := normed3 X A U M G1 G2 WO P C WFI WFO b s
  pointwise [val_main_v115, val_main_v114, val_main_v113, val_main_v112, val_main_v111, val_main_v110, val_main_v6, val_main_v0, h, plus]

/-- The reference's result, element by element. -/
theorem value_at (b : Fin 32) (s : Fin 2048) (n : Fin 1024) :
    val_main_v115 (F := Ideal) X A U M G1 G2 G3 WO P C WFI WFO (ix3 b s n)
      = PoolSpec.result X A U M G1 G2 G3 WO P C WFI WFO b s n := by
  rw [last_at]
  simp only [fed_at, unit_at, wide_at, seen_at, first_at, projected]
  rfl

end Cert.PoolRefIdeal.Value
-- ==== Proof.Pool.Claim.lean ====
module
public import proofs.«01_k».proof.Defs
public import proofs.«01_k».proof.Proof.Pool.Value
public import proofs.«01_k».proof.Proof.Pool.Ref
public import proofs.«01_k».proof.Proof.Gen.Pool.Frame
public import Idealize.ShloMosaic.Adequacy
public import Idealize.ShloMosaic.Init

/-! The closing call's kernel and its reference compute the same array. -/

set_option maxRecDepth 16384

@[expose] public section

noncomputable section

open Idealize.ShloMosaic Idealize.ShloMosaic.TcCoe Idealize.SL.Sem

namespace Cert.PoolClaim

/-- The reference's result is the kernel's array. -/
theorem equal (m : (ℓ : Loc PoolIdeal.nD PoolIdeal.τ PoolIdeal.sig) → Buf (Elt Ideal) ℓ) (c : Dev PoolIdeal.nD) :
    PoolRefIdeal.Read.val_main_v115 (F := Ideal) (m ((c.tc : Thread PoolIdeal.nD PoolIdeal.τ).loc PoolIdeal.main_arg0))
        (m ((c.tc : Thread PoolIdeal.nD PoolIdeal.τ).loc PoolIdeal.main_arg1))
        (m ((c.tc : Thread PoolIdeal.nD PoolIdeal.τ).loc PoolIdeal.main_arg2))
        (m ((c.tc : Thread PoolIdeal.nD PoolIdeal.τ).loc PoolIdeal.main_arg3))
        (m ((c.tc : Thread PoolIdeal.nD PoolIdeal.τ).loc PoolIdeal.main_arg5))
        (m ((c.tc : Thread PoolIdeal.nD PoolIdeal.τ).loc PoolIdeal.main_arg6))
        (m ((c.tc : Thread PoolIdeal.nD PoolIdeal.τ).loc PoolIdeal.main_arg7))
        (m ((c.tc : Thread PoolIdeal.nD PoolIdeal.τ).loc PoolIdeal.main_arg8))
        (m ((c.tc : Thread PoolIdeal.nD PoolIdeal.τ).loc PoolIdeal.main_arg9))
        (m ((c.tc : Thread PoolIdeal.nD PoolIdeal.τ).loc PoolIdeal.main_arg10))
        (m ((c.tc : Thread PoolIdeal.nD PoolIdeal.τ).loc PoolIdeal.main_arg11))
        (m ((c.tc : Thread PoolIdeal.nD PoolIdeal.τ).loc PoolIdeal.main_arg12))
      = PoolIdeal.Value.result m c := by
  funext i
  idx_vars i
  exact PoolRefIdeal.Value.value_at _ _ _ _ _ _ _ _ _ _ _ _ i0 i1 i2

set_option maxHeartbeats 2000000 in
/-- The two programs' results are equal. -/
theorem algebraic : Cert.algebraic_PoolIdeal_PoolRefIdeal := by
  pair_intro
  · run_from Cert.PoolIdeal.Gen.run_main m g
    all_goals
      simp only [List.flatten_cons, List.flatten_nil, List.append_nil, List.cons_append, List.nil_append]
      after_results
  · run_from Cert.PoolRefIdeal.Value.run m' g'
    obtain ⟨h0, h1, h2, h3, h4, h5, h6, h7, h8, h9, h10, h11, h12⟩ := hagree c
    rw [← h7]
    refine (PoolRefIdeal.Read.val_main_v115_eq (F := Ideal) (StableHlo.launchContents m' c)).trans ?_
    show PoolRefIdeal.Read.val_main_v115 (F := Ideal) (m' ((c.tc : Thread PoolRefIdeal.nD PoolRefIdeal.τ).loc PoolRefIdeal.main_arg0))
      (m' ((c.tc : Thread PoolRefIdeal.nD PoolRefIdeal.τ).loc PoolRefIdeal.main_arg1))
      (m' ((c.tc : Thread PoolRefIdeal.nD PoolRefIdeal.τ).loc PoolRefIdeal.main_arg2))
      (m' ((c.tc : Thread PoolRefIdeal.nD PoolRefIdeal.τ).loc PoolRefIdeal.main_arg3))
      (m' ((c.tc : Thread PoolRefIdeal.nD PoolRefIdeal.τ).loc PoolRefIdeal.main_arg5))
      (m' ((c.tc : Thread PoolRefIdeal.nD PoolRefIdeal.τ).loc PoolRefIdeal.main_arg6))
      (m' ((c.tc : Thread PoolRefIdeal.nD PoolRefIdeal.τ).loc PoolRefIdeal.main_arg7))
      (m' ((c.tc : Thread PoolRefIdeal.nD PoolRefIdeal.τ).loc PoolRefIdeal.main_arg8))
      (m' ((c.tc : Thread PoolRefIdeal.nD PoolRefIdeal.τ).loc PoolRefIdeal.main_arg9))
      (m' ((c.tc : Thread PoolRefIdeal.nD PoolRefIdeal.τ).loc PoolRefIdeal.main_arg10))
      (m' ((c.tc : Thread PoolRefIdeal.nD PoolRefIdeal.τ).loc PoolRefIdeal.main_arg11))
      (m' ((c.tc : Thread PoolRefIdeal.nD PoolRefIdeal.τ).loc PoolRefIdeal.main_arg12)) = _
    rw [h0, h1, h2, h3, h5, h6, h7, h8, h9, h10, h11, h12]
    exact (equal m c).trans (PoolIdeal.Value.final m c).symm

end Cert.PoolClaim
-- ==== Proof.Project.Gather.lean ====
module
public import proofs.«01_k».proof.ProjectIdeal
public import Idealize.ShloMosaic.Lib.Pipeline.ValueKit

/-! A gather of the projecting kernel read at an index. -/

set_option maxRecDepth 16384

@[expose] public section

noncomputable section

open Idealize.ShloMosaic Idealize.ShloMosaic.TcCoe Idealize.SL.Sem

namespace Cert.ProjectIdeal.Value
open Cert.ProjectIdeal
variable [Cert.ProjectIdeal.Facts]

/-- A gathered column: the column of the operand that the index names, kept within the operand. -/
theorem gather_column (x : Vec Ideal S1024x1536 .f32) (s : IVec S1792x1 32) (r : Fin 1024) (e : Fin 1792) :
    Host.gather gather_S1024x1536_S1792x1_S1024x1792_0_1_n_n_1_1_10241 x s (ix2 r e)
      = x (ix2 r ⟨min (s (ix2 e 0)).toInt.toNat 1535, by omega⟩) := by
  generalize hG : gather_S1024x1536_S1792x1_S1024x1792_0_1_n_n_1_1_10241 = G
  have h0 : (1 : Fin 2) ∈ G.startIndexMap := by rw [← hG]; exact List.mem_singleton.mpr rfl
  unfold Host.gather
  refine congrArg x (funext fun a => Fin.ext ?_)
  show G.start (ix2 r e) s a + G.batchCoord (ix2 r e) a + G.offCoord (ix2 r e) a = _
  match a with
  | ⟨1, _⟩ =>
    show G.start (ix2 r e) s 1 + G.batchCoord (ix2 r e) 1 + G.offCoord (ix2 r e) 1 = _
    subst hG
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos h0]
    have hs : GatherDims.siIdx gather_S1024x1536_S1792x1_S1024x1792_0_1_n_n_1_1_10241 (ix2 r e)
        ⟨List.idxOf (1 : Fin 2) (gather_S1024x1536_S1792x1_S1024x1792_0_1_n_n_1_1_10241).startIndexMap,
          List.idxOf_lt_length_iff.2 h0⟩ = ix2 e 0 := by
      funext b
      refine Fin.ext ?_
      match b with
      | ⟨0, _⟩ => rfl
      | ⟨1, _⟩ => rfl
    rw [hs]
    rfl
  | ⟨0, _⟩ =>
    show G.start (ix2 r e) s 0 + G.batchCoord (ix2 r e) 0 + G.offCoord (ix2 r e) 0 = _
    subst hG
    rw [GatherDims.batchCoord_eq_zero _ _ _ List.not_mem_nil]
    unfold GatherDims.start
    rw [dif_neg (show (0 : Fin 2) ∉ (gather_S1024x1536_S1792x1_S1024x1792_0_1_n_n_1_1_10241).startIndexMap from fun h => absurd (List.mem_singleton.mp h : (0 : Fin 2) = 1) (by decide))]
    unfold GatherDims.offCoord
    rw [dif_pos ((GatherDims.mem_sKept _ _).mpr ⟨fun h => absurd (List.mem_singleton.mp h : (0 : Fin 2) = 1) (by decide), List.not_mem_nil⟩)]
    simp only [Nat.zero_add]
    rfl

end Cert.ProjectIdeal.Value
-- ==== Proof.Project.Table.lean ====
module
public import proofs.«01_k».proof.ProjectIdeal

/-! The permutation the projecting kernel gathers its weights' columns by. -/

set_option maxRecDepth 16384

@[expose] public section

noncomputable section

open Idealize.ShloMosaic Idealize.ShloMosaic.TcCoe Idealize.SL.Sem

namespace Cert.ProjectIdeal.Value
open Cert.ProjectIdeal

/-- The column of the weights that column `i` of the gathered weights holds. -/
def column (i : ℕ) : ℕ :=
  if i < 1024 then 64 * (2 * (i / 128) + i / 32 % 2) + i % 16 + 32 * (i / 16 % 2) + 16 * (i / 64 % 2)
  else if i < 1536 then 1024 + 64 * ((i - 1024) / 128) + i % 16 + 32 * (i / 16 % 2) + 16 * (i / 64 % 2)
  else i - 256

/-- The table holds those columns. -/
theorem columns : ∀ i : Fin 1792, (lit0 i).toNat = column i := by decide +kernel

end Cert.ProjectIdeal.Value
-- ==== Proof.Project.Spec.lean ====
module
public import proofs.«01_k».proof.Proof.Post.Spec

/-! The odd layer's projections as functions of the arguments' arrays. -/

set_option maxRecDepth 16384

@[expose] public section

noncomputable section

open Idealize.ShloMosaic Idealize.ShloMosaic.TcCoe Idealize.SL.Sem

namespace ProjectSpec
open PostSpec

/-- The coordinate of row `s` of the image along an axis: its line or its place in the line. -/
def pos (a s : ℕ) : ℕ := if a = 0 then s / 64 else s % 64

/-- The angle a pair of lanes is turned by: the coordinate times the pair's frequency. -/
def angle (n r : ℕ) : EReal := (FloatOps.sitofp (F := Ideal) .f32 (BitVec.ofNat 32 n) : EReal)
  * Ideal.pow (Ideal.ofBits .f32 0x461C4000#32)
    (Ideal.div (-(FloatOps.sitofp (F := Ideal) .f32 (BitVec.ofNat 32 r) : EReal)) (Ideal.ofBits .f32 0x41800000#32))

/-- The first (`half = 0`) or the second coordinate of the pair `(u, v)` turned by `t`. -/
def turn (half : ℕ) (u v t : EReal) : EReal := if half = 0 then u * Ideal.cos t - v * Ideal.sin t else v * Ideal.cos t + u * Ideal.sin t

/-- The projection's first column of the pair that lane `l` of the queries belongs to. -/
def queryColumn (l : ℕ) : ℕ := 64 * (2 * (l / 128) + l / 32 % 2) + 32 * (l / 16 % 2) + l % 16

/-- The projection's first column of the pair that lane `l` of the keys belongs to. -/
def keyColumn (l : ℕ) : ℕ := 1024 + 64 * (l / 128) + 32 * (l / 16 % 2) + l % 16

/-- Lane `l` of the queries' row `s`, from the projection's row `p`. -/
def query (p : Fin 1536 → EReal) (s : Fin 2048) (l : Fin 1024) : EReal :=
  turn ((l : ℕ) / 64 % 2) (p ⟨queryColumn l, by unfold queryColumn; omega⟩) (p ⟨queryColumn l + 16, by unfold queryColumn; omega⟩)
    (angle (pos ((l : ℕ) / 16 % 2) s) ((l : ℕ) % 16)) * Ideal.ofBits .f32 0x3E000000#32

/-- Lane `l` of the keys' row `s`, from the projection's row `p`. -/
def key (p : Fin 1536 → EReal) (s : Fin 2048) (l : Fin 512) : EReal :=
  turn ((l : ℕ) / 64 % 2) (p ⟨keyColumn l, by unfold keyColumn; omega⟩) (p ⟨keyColumn l + 16, by unfold keyColumn; omega⟩)
    (angle (pos ((l : ℕ) / 16 % 2) s) ((l : ℕ) % 16))

/-- Lane `l` of the values' row, from the projection's row `p`. -/
def value (p : Fin 1536 → EReal) (l : Fin 256) : EReal := p ⟨1280 + l, by omega⟩

/-- A row of the projection, from the arguments' arrays. -/
def row (X : Fin 32 → Fin 2048 → Fin 1024 → EReal) (M : Fin 32 → Fin 6144 → EReal) (G : Fin 1024 → EReal)
    (W : Fin 1024 → Fin 1536 → EReal) (b : Fin 32) (s : Fin 2048) (n : Fin 1536) : EReal :=
  ∑ e, modulated (X b s) G (fun e => M b ⟨1024 + (e : ℕ), by omega⟩) (fun e => M b ⟨(e : ℕ), by omega⟩) e * W e n

end ProjectSpec
-- ==== Proof.Project.Host.lean ====
module
public import proofs.«01_k».proof.Proof.Project.Gather
public import proofs.«01_k».proof.Proof.Project.Table
public import proofs.«01_k».proof.Proof.Project.Spec
public import proofs.«01_k».proof.Proof.Gen.ProjectIdeal.Value
public import Idealize.ShloMosaic.Lib.Pipeline.ValueKit

/-! The operands the projecting kernel is called on, from the arguments. -/

set_option maxRecDepth 16384

@[expose] public section

noncomputable section

open Idealize.ShloMosaic Idealize.ShloMosaic.TcCoe Idealize.SL.Sem

namespace Cert.ProjectIdeal.Value
open Cert.ProjectIdeal Cert.ProjectIdeal.Gen ProjectSpec

/-- The modulation's six vectors in the eight rows of the padded operand. -/
theorem mods (A : Vec Ideal S32x6144 .f32) (z : Vec Ideal S_ .f32) (b : Fin 32) (r : Fin 8) (hr : (r : ℕ) < 6) (e : Fin 1024) :
    pad S32x8x1024 ![0, 0, 0] ![0, 2, 0] ![0, 0, 0] (shapeCast S32x6x1024 A shapeCasts_S32x6144_S32x6x1024) z
      pads_S32x6x1024_S32x8x1024_000_020_000 h_S_ (ix3 b r e) = A (ix2 b ⟨1024 * (r : ℕ) + e, by omega⟩) := by
  pointwise
  rw [dif_pos hr]
  exact congrArg A (congrArg (ix2 b) (Fin.ext (by simp only; omega)))

/-- Row 0 of the gains' padded operand. -/
theorem gain0 (A B C D : Vec Ideal S1x1024 .f32) (z : Vec Ideal S_ .f32) (e : Fin 1024) :
    pad S8x1024 ![0, 0] ![4, 0] ![0, 0] (concatenate S4x1024 0 [⟨S1x1024, A⟩, ⟨S1x1024, B⟩, ⟨S1x1024, C⟩, ⟨S1x1024, D⟩]
      concatenates_S1x1024_S1x1024_S1x1024_S1x1024_S4x1024_d0) z pads_S4x1024_S8x1024_040_000 h_S_ (ix2 0 e) = A (ix2 0 e) := by
  pointwise

/-- An index of one axis is its own place in the row-major order. -/
theorem rowMajor_one {n : ℕ} (r : Fin n) : ((⟨1, ![n]⟩ : Shape).rowMajor (ix1 r) : ℕ) = r := by
  exact Shape.rowMajor_val_one (ix1 r)

/-- The index of a gathered column. -/
theorem start_column (r : Fin 1792) : broadcastInDim S1792x1 ![0] bcast_S1792_S1792x1_0 (select (constantI S1792 1 0#1)
    (addi (fun i => lit0 (S1792.rowMajor i)) (broadcastInDim S1792 ![] bcast_S_S1792 (constantI S_ 32 1536#32)))
    fun i => lit0 (S1792.rowMajor i)) (ix2 r 0) = lit0 r := by
  pointwise
  exact congrArg lit0 (Fin.ext (rowMajor_one r))

/-- A column lies within the weights. -/
theorem column_lt (r : Fin 1792) : column r < 1536 := by
  unfold column
  split
  · omega
  · split <;> omega

/-- A column's index, as a number. -/
theorem column_index (r : Fin 1792) : min (lit0 r).toInt.toNat 1535 = column r := by
  have h := columns r
  have hl := column_lt r
  rw [BitVec.toInt_eq_toNat_of_lt (by omega), Int.toNat_natCast, h]
  omega

/-- A constant word at every row. -/
def splat (w : BitVec 32) : IVec S2048 32 := broadcastInDim S2048 ![] bcast_S_S2048 (constantI S_ 32 w)

/-- The line of the image every row lies in, as the host counts it. -/
def linesOf : IVec S2048 32 :=
  select (andi (cmpi .ne (signi (iotaInDim S2048 32 0)) (broadcastInDim S2048 ![] bcast_S_S2048 (signi (constantI S_ 32 64#32))))
      (cmpi .ne (Host.remsi (iotaInDim S2048 32 0) (splat 64#32)) (splat 0#32)))
    (subi (Host.divsi (iotaInDim S2048 32 0) (splat 64#32)) (splat 1#32)) (Host.divsi (iotaInDim S2048 32 0) (splat 64#32))

/-- The divisor of the remainder, as the host guards it against zero. -/
def divisor : IVec S_ 32 :=
  select (cmpi .eq (constantI S_ 32 64#32) (constantI S_ 32 0#32)) (constantI S_ 32 1#32) (constantI S_ 32 64#32)

/-- The remainder of every row, before its sign is mended. -/
def remainders : IVec S2048 32 := Host.remsi (iotaInDim S2048 32 0) (broadcastInDim S2048 ![] bcast_S_S2048 divisor)

/-- The place in its line every row has, as the host counts it. -/
def placesOf : IVec S2048 32 :=
  select (andi (cmpi .ne (cmpi .slt remainders (splat 0#32))
        (broadcastInDim S2048 ![] bcast_S_S2048 (cmpi .slt divisor (constantI S_ 32 0#32))))
      (cmpi .ne remainders (splat 0#32)))
    (addi remainders (broadcastInDim S2048 ![] bcast_S_S2048 divisor)) remainders

/-- The host's lines are the rows' quotients by 64. -/
theorem lines_at (s : Fin 2048) : linesOf (ix1 s) = BitVec.ofNat 32 ((s : ℕ) / 64) := by
  pointwise [linesOf, splat]
  revert s
  decide +kernel

/-- The host's places are the rows' remainders by 64. -/
theorem places_at (s : Fin 2048) : placesOf (ix1 s) = BitVec.ofNat 32 ((s : ℕ) % 64) := by
  pointwise [placesOf, splat, remainders, divisor]
  revert s
  decide +kernel

/-- The frequencies. -/
def freqs : FVec Ideal S16 .f32 := Host.powf (broadcastInDim S16 ![] bcast_S_S16 (constant (F := Ideal) S_ .f32 0x461C4000#32))
  (Host.divf (Host.negf (sitofp .f32 (iotaInDim S16 32 0)))
    (broadcastInDim S16 ![] bcast_S_S16 (constant (F := Ideal) S_ .f32 0x41800000#32)))

/-- The angles by one coordinate. -/
def anglesBy (P : IVec S2048 32) : FVec Ideal S2048x16 .f32 :=
  mulf (broadcastInDim S2048x16 ![0, 1] bcast_S2048x1_S2048x16_0_1 (broadcastInDim S2048x1 ![0] bcast_S2048_S2048x1_0 (sitofp .f32 P)))
    (broadcastInDim S2048x16 ![0, 1] bcast_S1x16_S2048x16_0_1 (broadcastInDim S1x16 ![1] bcast_S16_S1x16_1 freqs))

/-- The angles by both coordinates, side by side. -/
def angles : FVec Ideal S2048x32 .f32 :=
  concatenate S2048x32 1 [⟨S2048x16, anglesBy linesOf⟩, ⟨S2048x16, anglesBy placesOf⟩] concatenates_S2048x16_S2048x16_S2048x32_d1

/-- The angles, element by element. -/
theorem angles_at (s : Fin 2048) (y : Fin 32) : angles (ix2 s y) = angle (pos ((y : ℕ) / 16) s) ((y : ℕ) % 16) := by
  have hl := lines_at s
  have hp := places_at s
  pointwise [angles, anglesBy, freqs, hl, hp]
  unfold angle pos
  split
  · rw [if_pos (by omega), show (y : ℕ) % 16 = y by omega]
  · rw [if_neg (by omega), show (y : ℕ) % 16 = y - 16 by omega]

/-- The table of cosines. -/
def cosTable : FVec Ideal S2048x128 .f32 :=
  shapeCast S2048x128 (broadcastInDim S1x2048x4x32 ![0, 1, 2, 3] bcast_S1x2048x1x32_S1x2048x4x32_0_1_2_3
    (shapeCast S1x2048x1x32 (Host.cos angles) shapeCasts_S2048x32_S1x2048x1x32)) shapeCasts_S1x2048x4x32_S2048x128

/-- The table of signed sines. -/
def sinTable : FVec Ideal S2048x128 .f32 :=
  concatenate S2048x128 1 [⟨S2048x32, Host.negf (Host.sin angles)⟩, ⟨S2048x32, Host.negf (Host.sin angles)⟩,
    ⟨S2048x32, Host.sin angles⟩, ⟨S2048x32, Host.sin angles⟩] concatenates_S2048x32_S2048x32_S2048x32_S2048x32_S2048x128_d1

/-- The angle of lane `x` of a chunk. -/
def laneAngle (s : Fin 2048) (x : ℕ) : EReal := angle (pos (x / 16 % 2) s) (x % 16)

/-- The angle of a lane, its axis and frequency counted another way. -/
theorem laneAngle_of (s : Fin 2048) (x a r : ℕ) (ha : a = x / 16 % 2) (hr : r = x % 16) : angle (pos a s) r = laneAngle s x := by
  subst ha hr
  rfl

/-- The cosines, element by element. -/
theorem cosTable_at (s : Fin 2048) (x : Fin 128) : cosTable (ix2 s x) = Ideal.cos (laneAngle s x) := by
  pointwise [cosTable, angles_at]
  exact congrArg Ideal.cos (laneAngle_of s x _ _ (by omega) (by omega))

/-- The signed sines, element by element. -/
theorem sinTable_at (s : Fin 2048) (x : Fin 128) :
    sinTable (ix2 s x) = if (x : ℕ) < 64 then -Ideal.sin (laneAngle s x) else Ideal.sin (laneAngle s x) := by
  pointwise [sinTable, angles_at]
  by_cases h : (x : ℕ) < 64
  · rw [if_pos h]
    split
    · exact congrArg (fun e : EReal => -Ideal.sin e) (laneAngle_of s x _ _ (by omega) (by omega))
    · rw [dif_pos (by omega)]
      exact congrArg (fun e : EReal => -Ideal.sin e) (laneAngle_of s x _ _ (by omega) (by omega))
  · rw [if_neg h, dif_neg (by omega), dif_neg (by omega)]
    split
    · exact congrArg Ideal.sin (laneAngle_of s x _ _ (by omega) (by omega))
    · exact congrArg Ideal.sin (laneAngle_of s x _ _ (by omega) (by omega))

/-- The angles joined from their two parts. -/
theorem angles_of (P Q : IVec S2048 32) (hP : P = linesOf) (hQ : Q = placesOf) (s : Fin 2048) (y : Fin 32) :
    (concatenate S2048x32 1 [⟨S2048x16, anglesBy P⟩, ⟨S2048x16, anglesBy Q⟩] concatenates_S2048x16_S2048x16_S2048x32_d1
      : FVec Ideal S2048x32 .f32) (ix2 s y) = angles (ix2 s y) := by
  subst hP hQ
  rfl

/-- The signed sines joined from their four parts. -/
theorem sin_of (s : Fin 2048) (x : Fin 128) (A B C D : FVec Ideal S2048x32 .f32)
    (hA : ∀ (s : Fin 2048) (y : Fin 32), A (ix2 s y) = -Ideal.sin (angles (ix2 s y)))
    (hB : ∀ (s : Fin 2048) (y : Fin 32), B (ix2 s y) = -Ideal.sin (angles (ix2 s y)))
    (hC : ∀ (s : Fin 2048) (y : Fin 32), C (ix2 s y) = Ideal.sin (angles (ix2 s y)))
    (hD : ∀ (s : Fin 2048) (y : Fin 32), D (ix2 s y) = Ideal.sin (angles (ix2 s y))) :
    concatenate S2048x128 1 [⟨S2048x32, A⟩, ⟨S2048x32, B⟩, ⟨S2048x32, C⟩, ⟨S2048x32, D⟩]
      concatenates_S2048x32_S2048x32_S2048x32_S2048x32_S2048x128_d1 (ix2 s x)
      = if (x : ℕ) < 64 then -Ideal.sin (laneAngle s x) else Ideal.sin (laneAngle s x) := by
  obtain rfl : A = Host.negf (Host.sin angles) := by
    funext i
    idx_vars i
    exact hA i0 i1
  obtain rfl : B = Host.negf (Host.sin angles) := by
    funext i
    idx_vars i
    exact hB i0 i1
  obtain rfl : C = Host.sin angles := by
    funext i
    idx_vars i
    exact hC i0 i1
  obtain rfl : D = Host.sin angles := by
    funext i
    idx_vars i
    exact hD i0 i1
  exact sinTable_at s x

variable (m : (ℓ : Loc nD τ sig) → Buf (Elt Ideal) ℓ)

/-- The modulation's operand. -/
theorem host_mods (c : Dev nD) (b : Fin 32) (r : Fin 8) (hr : (r : ℕ) < 6) (e : Fin 1024) : V m c main_v31 (ix3 b r e)
    = m ((c.tc : Thread nD τ).loc main_arg1) (ix2 b ⟨1024 * (r : ℕ) + e, by omega⟩) := by
  unfold V
  simp only [List.flatten_cons, List.flatten_nil, List.append_nil, List.cons_append, List.nil_append]
  after_results
  exact mods _ _ b r hr e

/-- The gains' operand, row 0. -/
theorem host_gain0 (c : Dev nD) (e : Fin 1024) : V m c main_v37 (ix2 0 e) = m ((c.tc : Thread nD τ).loc main_arg2) (ix1 e) := by
  unfold V
  simp only [List.flatten_cons, List.flatten_nil, List.append_nil, List.cons_append, List.nil_append]
  after_results
  refine (gain0 _ _ _ _ _ e).trans ?_
  show _ = _
  pointwise
  after_results_loop
  pointwise

/-- The weights: columns regrouped. -/
theorem host_w (c : Dev nD) (r : Fin 1024) (e : Fin 1792) : V m c main_v43 (ix2 r e) = m ((c.tc : Thread nD τ).loc main_arg6)
    (ix2 r ⟨column e, column_lt e⟩) := by
  unfold V
  simp only [List.flatten_cons, List.flatten_nil, List.append_nil, List.cons_append, List.nil_append]
  after_results
  refine (gather_column _ _ r e).trans ?_
  refine congrArg (m ((c.tc : Thread nD τ).loc main_arg6)) (congrArg (fun k => (ix2 r k : S1024x1536.Idx)) (Fin.ext ?_))
  exact (congrArg (fun w : BitVec 32 => min w.toInt.toNat 1535) (start_column e)).trans (column_index e)

/-- The angles' cosines. -/
theorem host_cos (c : Dev nD) (s : Fin 2048) (x : Fin 128) : V m c main_v25 (ix2 s x) = Ideal.cos (laneAngle s x) := by
  refine Eq.trans ?_ (cosTable_at s x)
  unfold V
  simp only [List.flatten_cons, List.flatten_nil, List.append_nil, List.cons_append, List.nil_append]
  after_results
  simp only [StableHlo.TRef.ofBuf_toBuf]
  rfl

/-- The angles' signed sines. -/
theorem host_sin (c : Dev nD) (s : Fin 2048) (x : Fin 128) : V m c main_v29 (ix2 s x)
    = if (x : ℕ) < 64 then -Ideal.sin (laneAngle s x) else Ideal.sin (laneAngle s x) := by
  unfold V
  simp only [List.flatten_cons, List.flatten_nil, List.append_nil, List.cons_append, List.nil_append]
  after_results
  refine sin_of s x _ _ _ _ ?_ ?_ ?_ ?_
  all_goals
    intro s y
    show _ = _
    pointwise
    after_results_loop
    first
      | refine congrArg (fun e : EReal => -Ideal.sin e) (angles_of _ _ ?_ ?_ s y)
      | refine congrArg Ideal.sin (angles_of _ _ ?_ ?_ s y)
    all_goals
      try simp only [StableHlo.TRef.ofBuf_toBuf]
      rfl

end Cert.ProjectIdeal.Value
-- ==== Proof.Project.Block.lean ====
module
public import proofs.«01_k».proof.Proof.Gen.ProjectIdeal.Value
public import proofs.«01_k».proof.Proof.Project.Spec
public import Idealize.ShloMosaic.Lib.Pipeline.ValueKit
public import Idealize.ShloMosaic.Lib.Pipeline.ReadBack

/-! What one block of the projecting call of an odd layer computes.

A block holds 512 rows. The body projects them once and turns the queries and the keys 128 lanes at a time: a chunk times the
cosines, plus the chunk rotated by half its width times the signed sines. -/

set_option maxRecDepth 16384

@[expose] public section

noncomputable section

open Idealize.ShloMosaic Idealize.ShloMosaic.TcCoe Idealize.SL.Sem

namespace Cert.ProjectIdeal.Value
open Cert.ProjectIdeal Cert.ProjectIdeal.Gen PostSpec ProjectSpec

/-- The projection of a row of a block. -/
theorem product_at (x : Vec Ideal S1x512x1024 .f32) (g : Vec Ideal S1x1024 .f32) (sc sh : Vec Ideal S1x1x1024 .f32)
    (w : Vec Ideal S1024x1792 .bf16) (q : Fin 512) (n : Fin 1792) : k0_pay4 (F := Ideal) x g sc sh w (ix2 q n)
      = ∑ e, modulated (fun e => x (ix3 0 q e)) (fun e => g (ix2 0 e)) (fun e => sc (ix3 0 0 e)) (fun e => sh (ix3 0 0 e)) e
        * w (ix2 e n) := by
  pointwise [k0_pay4, modulated, rms]

/-- A lane of a chunk turned: `base` is the chunk's first lane, `x` the lane in it. -/
def chunk (P : FVec Ideal S512x1792 .f32) (C S : FVec Ideal S512x128 .f32) (q : Fin 512) (l : Fin 1536) : EReal :=
  P (ix2 q ⟨l, by omega⟩) * C (ix2 q ⟨(l : ℕ) % 128, by omega⟩)
    + P (ix2 q ⟨128 * ((l : ℕ) / 128) + (l + 64) % 128, by omega⟩) * S (ix2 q ⟨(l : ℕ) % 128, by omega⟩)

/-- The body writes the first chunk's slice out with the projection; it is the same slice. -/
theorem slice0 (x : Vec Ideal S1x512x1024 .f32) (g : Vec Ideal S1x1024 .f32) (sc sh : Vec Ideal S1x1x1024 .f32)
    (w : Vec Ideal S1024x1792 .bf16) (q : Fin 512) (n : Fin 128) :
    k0_pay7 (F := Ideal) x g sc sh w (ix2 q n) = k0_pay4 x g sc sh w (ix2 q ⟨((n : ℕ) + 64) % 128, by omega⟩) := by
  show dynamicRotate 1 64#32 none (extractStridedSlice S512x128 ![0, 0] (k0_pay4 x g sc sh w) slices_S512x1792_o0_0_S512x128)
    rotates_S512x128_d1 (ix2 q n) = _
  pointwise
  exact congrArg (k0_pay4 x g sc sh w) (congrArg (ix2 q) (Fin.ext (by simp only; omega)))

/-- The first chunk times the cosines. -/
theorem scaled0 (x : Vec Ideal S1x512x1024 .f32) (g : Vec Ideal S1x1024 .f32) (sc sh : Vec Ideal S1x1x1024 .f32)
    (w : Vec Ideal S1024x1792 .bf16) (C : FVec Ideal S512x128 .f32) (q : Fin 512) (n : Fin 128) :
    k0_pay6 (F := Ideal) x g sc sh w C (ix2 q n) = k0_pay4 x g sc sh w (ix2 q ⟨(n : ℕ), by omega⟩) * C (ix2 q n) := by
  show mulf (extractStridedSlice S512x128 ![0, 0] (k0_pay4 x g sc sh w) slices_S512x1792_o0_0_S512x128)
    (shapeCast S512x128 C shapeCasts_S512x128_S512x128) (ix2 q n) = _
  pointwise

/-- A chunk's lane from its parts. -/
theorem chunk_of (P : FVec Ideal S512x1792 .f32) (C S : FVec Ideal S512x128 .f32) (q : Fin 512) (l : Fin 1536) (a b : Fin 1792)
    (u v : Fin 128) (ha : (a : ℕ) = l) (hb : (b : ℕ) = 128 * ((l : ℕ) / 128) + (l + 64) % 128) (hu : (u : ℕ) = l % 128)
    (hv : (v : ℕ) = l % 128) :
    P (ix2 q a) * C (ix2 q u) + P (ix2 q b) * S (ix2 q v) = chunk P C S q l := by
  unfold chunk
  exact congrArg₂ (· + ·) (congrArg₂ (· * ·) (congrArg (fun z => P (ix2 q z)) (Fin.ext ha)) (congrArg (fun z => C (ix2 q z)) (Fin.ext hu)))
    (congrArg₂ (· * ·) (congrArg (fun z => P (ix2 q z)) (Fin.ext hb)) (congrArg (fun z => S (ix2 q z)) (Fin.ext hv)))

/-- The first chunk's sum, scaled. -/
theorem first_sum (A B S : FVec Ideal S512x128 .f32) (q : Fin 512) (n : Fin 128) : k0_pay8 (F := Ideal) A B S (ix3 0 q n)
    = (A (ix2 q n) + B (ix2 q n) * S (ix2 q n)) * Ideal.ofBits .f32 0x3E000000#32 := by
  pointwise [k0_pay8]

variable (x0 : Vec Ideal S1x512x1024 .f32) (x1 : Vec Ideal S1x8x1024 .f32) (x2 : Vec Ideal S8x1024 .f32)
  (x3 : Vec Ideal S1024x1792 .bf16) (x4 x5 : Vec Ideal S512x128 .f32)

/-- The queries a block leaves. -/
theorem queries (q : Fin 512) (l : Fin 1024) : out0_6 x0 x1 x2 x3 x4 x5 (ix3 0 q l)
    = chunk (k0_pay24 x0 x1 x2 x3 x4 x5) (View.ld x4 r0_5) (View.ld x5 r0_5) q ⟨l, by omega⟩ * Ideal.ofBits .f32 0x3E000000#32 := by
  have h0' : ∀ C n, k0_pay6 (F := Ideal) (View.ld x0 r0_0) (View.ld x2 r0_1) (View.ld x1 r0_2) (View.ld x1 r0_3) (View.ld x3 r0_4) C
      (ix2 q n) = k0_pay24 x0 x1 x2 x3 x4 x5 (ix2 q ⟨(n : ℕ), by omega⟩) * C (ix2 q n) := fun C n => scaled0 _ _ _ _ _ C q n
  have h1' : ∀ n, k0_pay7 (F := Ideal) (View.ld x0 r0_0) (View.ld x2 r0_1) (View.ld x1 r0_2) (View.ld x1 r0_3) (View.ld x3 r0_4)
      (ix2 q n) = k0_pay24 x0 x1 x2 x3 x4 x5 (ix2 q ⟨((n : ℕ) + 64) % 128, by omega⟩) := fun n => slice0 _ _ _ _ _ q n
  unfold out0_6
  generalize k0_pay24 x0 x1 x2 x3 x4 x5 = P at *
  generalize View.ld x4 r0_5 = C
  generalize View.ld x5 r0_5 = S
  canon_tiles u h
  all_goals
    idx_vars u
    obtain rfl : u0 = 0 := Subsingleton.elim _ _
    obtain rfl : u1 = q := Fin.ext (by omega)
    try
      pointwise [k0_pay9, k0_pay10, k0_pay11, k0_pay12, k0_pay13, k0_pay14, k0_pay15, k0_pay16, k0_pay17, k0_pay18, k0_pay19]
      refine congrArg (· * _) (chunk_of P C S _ _ _ _ _ _ ?_ ?_ ?_ ?_)
  all_goals
    try simp only
    try omega
  rw [first_sum, h0', h1']
  exact congrArg (· * _) (chunk_of P C S _ _ _ _ _ _ (by simp only; omega) (by simp only; omega) (by simp only; omega)
    (by simp only; omega))

/-- The keys a block leaves. -/
theorem keys (q : Fin 512) (l : Fin 512) : out0_7 x0 x1 x2 x3 x4 x5 (ix3 0 q l)
    = chunk (k0_pay24 x0 x1 x2 x3 x4 x5) (View.ld x4 r0_5) (View.ld x5 r0_5) q ⟨1024 + l, by omega⟩ := by
  unfold out0_7
  generalize k0_pay24 x0 x1 x2 x3 x4 x5 = P
  generalize View.ld x4 r0_5 = C
  generalize View.ld x5 r0_5 = S
  canon_tiles u h
  all_goals
    idx_vars u
    obtain rfl : u0 = 0 := Subsingleton.elim _ _
    obtain rfl : u1 = q := Fin.ext (by omega)
    pointwise [k0_pay1, k0_pay2, k0_pay20, k0_pay21, k0_pay22, k0_pay23]
    refine chunk_of P C S _ _ _ _ _ _ ?_ ?_ ?_ ?_
  all_goals
    try simp only
    try omega

/-- The values a block leaves. -/
theorem values (q : Fin 512) (l : Fin 256) : out0_8 x0 x1 x2 x3 x4 x5 (ix3 0 q l)
    = k0_pay24 x0 x1 x2 x3 x4 x5 (ix2 q ⟨1536 + l, by omega⟩) := by
  unfold out0_8
  generalize k0_pay24 x0 x1 x2 x3 x4 x5 = P
  canon_tiles u h
  idx_vars u
  obtain rfl : u0 = 0 := Subsingleton.elim _ _
  obtain rfl : u1 = q := Fin.ext (by omega)
  pointwise [k0_pay3]
  exact congrArg P (congrArg (ix2 u1) (Fin.ext (by simp only; omega)))

end Cert.ProjectIdeal.Value
-- ==== Proof.Project.Value.lean ====
module
public import proofs.«01_k».proof.Proof.Project.Host
public import proofs.«01_k».proof.Proof.Project.Block
public import Idealize.ShloMosaic.Lib.Pipeline.ValueKit

/-! The arrays the projecting call of an odd layer leaves. -/

set_option maxRecDepth 16384

@[expose] public section

noncomputable section

open Idealize.ShloMosaic Idealize.ShloMosaic.TcCoe Idealize.SL.Sem

namespace Cert.ProjectIdeal.Value
open Cert.ProjectIdeal Cert.ProjectIdeal.Gen ProjectSpec

/-- A lane of the queries: the chunk's sum is the pair turned. -/
theorem query_of (p : Fin 1536 → EReal) (s : Fin 2048) (P : FVec Ideal S512x1792 .f32) (C S : FVec Ideal S512x128 .f32)
    (q : Fin 512) (hP : ∀ n, P (ix2 q n) = p ⟨column n, column_lt n⟩) (hC : ∀ x : Fin 128, C (ix2 q x) = Ideal.cos (laneAngle s x))
    (hS : ∀ x : Fin 128, S (ix2 q x) = if (x : ℕ) < 64 then -Ideal.sin (laneAngle s x) else Ideal.sin (laneAngle s x))
    (l : Fin 1024) : chunk P C S q ⟨l, by omega⟩ * Ideal.ofBits .f32 0x3E000000#32 = query p s l := by
  unfold chunk query turn
  refine congrArg (· * _) ?_
  rw [hP, hP, hC, hS, ← laneAngle_of s ((l : ℕ) % 128) ((l : ℕ) / 16 % 2) ((l : ℕ) % 16) (by omega) (by omega)]
  by_cases h : (l : ℕ) % 128 < 64
  · rw [if_pos h, if_pos (by omega), mul_neg, ← sub_eq_add_neg]
    refine congrArg₂ (fun u v : EReal => u - v) (congrArg (· * _) (congrArg p (Fin.ext ?_)))
      (congrArg (· * _) (congrArg p (Fin.ext ?_)))
    · simp only [column, queryColumn]
      split <;> omega
    · simp only [column, queryColumn]
      split <;> omega
  · rw [if_neg h, if_neg (by omega)]
    refine congrArg₂ (fun u v : EReal => u + v) (congrArg (· * _) (congrArg p (Fin.ext ?_)))
      (congrArg (· * _) (congrArg p (Fin.ext ?_)))
    · simp only [column, queryColumn]
      split <;> omega
    · simp only [column, queryColumn]
      split <;> omega

/-- A lane of the keys: the chunk's sum is the pair turned. -/
theorem key_of (p : Fin 1536 → EReal) (s : Fin 2048) (P : FVec Ideal S512x1792 .f32) (C S : FVec Ideal S512x128 .f32)
    (q : Fin 512) (hP : ∀ n, P (ix2 q n) = p ⟨column n, column_lt n⟩) (hC : ∀ x : Fin 128, C (ix2 q x) = Ideal.cos (laneAngle s x))
    (hS : ∀ x : Fin 128, S (ix2 q x) = if (x : ℕ) < 64 then -Ideal.sin (laneAngle s x) else Ideal.sin (laneAngle s x))
    (l : Fin 512) : chunk P C S q ⟨1024 + l, by omega⟩ = key p s l := by
  unfold chunk key turn
  rw [hP, hP, hC, hS, ← laneAngle_of s ((1024 + (l : ℕ)) % 128) ((l : ℕ) / 16 % 2) ((l : ℕ) % 16) (by omega) (by omega)]
  by_cases h : (1024 + (l : ℕ)) % 128 < 64
  · rw [if_pos h, if_pos (by omega), mul_neg, ← sub_eq_add_neg]
    refine congrArg₂ (fun u v : EReal => u - v) (congrArg (· * _) (congrArg p (Fin.ext ?_)))
      (congrArg (· * _) (congrArg p (Fin.ext ?_)))
    · simp only [column, keyColumn]
      rw [if_neg (by omega), if_pos (by omega)]
      omega
    · simp only [column, keyColumn]
      rw [if_neg (by omega), if_pos (by omega)]
      omega
  · rw [if_neg h, if_neg (by omega)]
    refine congrArg₂ (fun u v : EReal => u + v) (congrArg (· * _) (congrArg p (Fin.ext ?_)))
      (congrArg (· * _) (congrArg p (Fin.ext ?_)))
    · simp only [column, keyColumn]
      rw [if_neg (by omega), if_pos (by omega)]
      omega
    · simp only [column, keyColumn]
      rw [if_neg (by omega), if_pos (by omega)]
      omega

/-- A lane of the values. -/
theorem value_of (p : Fin 1536 → EReal) (P : FVec Ideal S512x1792 .f32) (q : Fin 512)
    (hP : ∀ n, P (ix2 q n) = p ⟨column n, column_lt n⟩) (l : Fin 256) : P (ix2 q ⟨1536 + l, by omega⟩) = value p l := by
  rw [hP]
  unfold value
  refine congrArg p (Fin.ext ?_)
  simp only [column]
  rw [if_neg (by omega), if_neg (by omega)]
  omega

variable (m : (ℓ : Loc nD τ sig) → Buf (Elt Ideal) ℓ)

/-- Point `t` of the grid is tile `t % 4` of batch entry `t / 4`. -/
theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![t.val % 4, 0] ∧ win0_5.index t = ![t.val % 4, 0]
    ∧ win0_6.index t = ![t.val / 4, t.val % 4, 0] ∧ win0_7.index t = ![t.val / 4, t.val % 4, 0]
    ∧ win0_8.index t = ![t.val / 4, t.val % 4, 0] ∧ t.val / 4 < 32 :=
  (by decide +kernel : ∀ t : Fin grid0.N, _)

/-- The batch entry of a grid point. -/
def batch (t : Fin cfg0.N) : Fin 32 := ⟨t.val / 4, (idx t).2.2.2.2.2.2.2.2.2⟩

/-- The row of the sequence that row `q` of a grid point's tile is. -/
def place (t : Fin cfg0.N) (q : Fin 512) : Fin 2048 := ⟨512 * (t.val % 4) + q, by omega⟩

/-- A grid point's block of the stream. -/
theorem read0 (c : Dev nD) (t : Fin cfg0.N) (q : Fin 512) (e : Fin 1024) : iblk m c 0 t (ix3 0 q e : S1x512x1024.Idx)
    = m ((c.tc : Thread nD τ).loc main_arg0) (ix3 (batch t) (place t q) e) := by
  blk_ext [iblk, V, idx t, batch, place]

/-- A grid point's block of the modulation. -/
theorem read1 (c : Dev nD) (t : Fin cfg0.N) (r : Fin 8) (hr : (r : ℕ) < 6) (e : Fin 1024) : iblk m c 1 t (ix3 0 r e : S1x8x1024.Idx)
    = m ((c.tc : Thread nD τ).loc main_arg1) (ix2 (batch t) ⟨1024 * (r : ℕ) + e, by omega⟩) := by
  refine Eq.trans ?_ (host_mods m c (batch t) r hr e)
  blk_ext [iblk, idx t, batch]

/-- The gains, row 0. -/
theorem read2 (c : Dev nD) (t : Fin cfg0.N) (e : Fin 1024) : iblk m c 2 t (ix2 0 e : S8x1024.Idx)
    = m ((c.tc : Thread nD τ).loc main_arg2) (ix1 e) := by
  refine Eq.trans ?_ (host_gain0 m c e)
  blk_ext [iblk, idx t]

/-- The weights. -/
theorem read3 (c : Dev nD) (t : Fin cfg0.N) (r : Fin 1024) (e : Fin 1792) : iblk m c 3 t (ix2 r e : S1024x1792.Idx)
    = m ((c.tc : Thread nD τ).loc main_arg6) (ix2 r ⟨column e, column_lt e⟩) := by
  refine Eq.trans ?_ (host_w m c r e)
  blk_ext [iblk, idx t]

/-- A grid point's block of the cosines. -/
theorem read4 (c : Dev nD) (t : Fin cfg0.N) (q : Fin 512) (x : Fin 128) : iblk m c 4 t (ix2 q x : S512x128.Idx)
    = Ideal.cos (laneAngle (place t q) x) := by
  refine Eq.trans ?_ (host_cos m c (place t q) x)
  blk_ext [iblk, idx t, place]

/-- A grid point's block of the signed sines. -/
theorem read5 (c : Dev nD) (t : Fin cfg0.N) (q : Fin 512) (x : Fin 128) : iblk m c 5 t (ix2 q x : S512x128.Idx)
    = if (x : ℕ) < 64 then -Ideal.sin (laneAngle (place t q) x) else Ideal.sin (laneAngle (place t q) x) := by
  refine Eq.trans ?_ (host_sin m c (place t q) x)
  blk_ext [iblk, idx t, place]

/-- A row of the projection, from the arguments. -/
def rowAt (c : Dev nD) (b : Fin 32) (s : Fin 2048) : Fin 1536 → EReal :=
  row (fun b s e => m ((c.tc : Thread nD τ).loc main_arg0) (ix3 b s e : S32x2048x1024.Idx))
    (fun b e => m ((c.tc : Thread nD τ).loc main_arg1) (ix2 b e : S32x6144.Idx))
    (fun e => m ((c.tc : Thread nD τ).loc main_arg2) (ix1 e : S1024.Idx))
    (fun e n => m ((c.tc : Thread nD τ).loc main_arg6) (ix2 e n : S1024x1536.Idx)) b s

/-- A row of a block's projection, from blocks that hold the arrays' elements. -/
theorem product_of (x0 : Vec Ideal S1x512x1024 .f32) (x1 : Vec Ideal S1x8x1024 .f32) (x2 : Vec Ideal S8x1024 .f32)
    (x3 : Vec Ideal S1024x1792 .bf16) (x4 x5 : Vec Ideal S512x128 .f32) (q : Fin 512) (X : Fin 32 → Fin 2048 → Fin 1024 → EReal)
    (M : Fin 32 → Fin 6144 → EReal) (G : Fin 1024 → EReal) (W : Fin 1024 → Fin 1536 → EReal) (b : Fin 32) (s : Fin 2048)
    (h0 : ∀ e, x0 (ix3 0 q e) = X b s e) (h11 : ∀ e : Fin 1024, x1 (ix3 0 1 e) = M b ⟨1024 + (e : ℕ), by omega⟩)
    (h10 : ∀ e : Fin 1024, x1 (ix3 0 0 e) = M b ⟨(e : ℕ), by omega⟩) (h2 : ∀ e, x2 (ix2 0 e) = G e)
    (h3 : ∀ r e, x3 (ix2 r e) = W r ⟨column e, column_lt e⟩) (n : Fin 1792) :
    k0_pay24 x0 x1 x2 x3 x4 x5 (ix2 q n) = row X M G W b s ⟨column n, column_lt n⟩ := by
  refine (product_at _ _ _ _ _ q n).trans ?_
  unfold row
  pointwise
  simp only [h0, h11, h10, h2, h3]

/-- The same for a grid point's blocks. -/
theorem product (c : Dev nD) (t : Fin cfg0.N) (q : Fin 512) (n : Fin 1792) :
    k0_pay24 (iblk m c 0 t) (iblk m c 1 t) (iblk m c 2 t) (iblk m c 3 t) (iblk m c 4 t) (iblk m c 5 t) (ix2 q n)
      = rowAt m c (batch t) (place t q) ⟨column n, column_lt n⟩ :=
  product_of _ _ _ _ _ _ q _ _ _ _ (batch t) (place t q) (read0 m c t q) (fun e => (read1 m c t 1 (by decide) e).trans
    (congrArg (fun z => m ((c.tc : Thread nD τ).loc main_arg1) (ix2 (batch t) z : S32x6144.Idx)) (Fin.ext (by simp))))
    (fun e => (read1 m c t 0 (by decide) e).trans
    (congrArg (fun z => m ((c.tc : Thread nD τ).loc main_arg1) (ix2 (batch t) z : S32x6144.Idx)) (Fin.ext (by simp))))
    (read2 m c t) (read3 m c t) n

/-- The cosines as the body loads them. -/
theorem cosines (c : Dev nD) (t : Fin cfg0.N) (q : Fin 512) (x : Fin 128) :
    (View.ld (iblk m c 4 t : Vec Ideal S512x128 .f32) r0_5 : FVec Ideal S512x128 .f32) (ix2 q x) = Ideal.cos (laneAngle (place t q) x) := by
  refine Eq.trans ?_ (read4 m c t q x)
  pointwise

/-- The signed sines as the body loads them. -/
theorem sines (c : Dev nD) (t : Fin cfg0.N) (q : Fin 512) (x : Fin 128) :
    (View.ld (iblk m c 5 t : Vec Ideal S512x128 .f32) r0_5 : FVec Ideal S512x128 .f32) (ix2 q x)
      = if (x : ℕ) < 64 then -Ideal.sin (laneAngle (place t q) x) else Ideal.sin (laneAngle (place t q) x) := by
  refine Eq.trans ?_ (read5 m c t q x)
  pointwise

/-- The queries' array. -/
def result0 (c : Dev nD) : FVec Ideal S32x2048x1024 .bf16 := fun i => query (rowAt m c (i 0) (i 1)) (i 1) (i 2)

/-- The keys' array. -/
def result1 (c : Dev nD) : FVec Ideal S32x2048x512 .bf16 := fun i => key (rowAt m c (i 0) (i 1)) (i 1) (i 2)

/-- The values' array. -/
def result2 (c : Dev nD) : FVec Ideal S32x2048x256 .bf16 := fun i => value (rowAt m c (i 0) (i 1)) (i 2)

/-- What a grid point stores of the queries is its block of their array. -/
theorem point0 (c : Dev nD) (t : Fin cfg0.N) (y : S1x512x1024.Idx) :
    out0_6 (iblk m c 0 t) (iblk m c 1 t) (iblk m c 2 t) (iblk m c 3 t) (iblk m c 4 t) (iblk m c 5 t) y
      = result0 m c (((cfg0.win 6).blk t).view.emb y) := by
  idx_vars y
  obtain rfl : y0 = 0 := Subsingleton.elim _ _
  rw [queries]
  refine (query_of _ (place t y1) _ _ _ y1 (product m c t y1) (cosines m c t y1) (sines m c t y1) y2).trans ?_
  show result0 m c (ix3 (batch t) (place t y1) y2) = _
  refine congrArg (result0 m c) ?_
  blk_ext [idx t, batch, place]

/-- What a grid point stores of the keys is its block of their array. -/
theorem point1 (c : Dev nD) (t : Fin cfg0.N) (y : S1x512x512.Idx) :
    out0_7 (iblk m c 0 t) (iblk m c 1 t) (iblk m c 2 t) (iblk m c 3 t) (iblk m c 4 t) (iblk m c 5 t) y
      = result1 m c (((cfg0.win 7).blk t).view.emb y) := by
  idx_vars y
  obtain rfl : y0 = 0 := Subsingleton.elim _ _
  rw [keys]
  refine (key_of _ (place t y1) _ _ _ y1 (product m c t y1) (cosines m c t y1) (sines m c t y1) y2).trans ?_
  show result1 m c (ix3 (batch t) (place t y1) y2) = _
  refine congrArg (result1 m c) ?_
  blk_ext [idx t, batch, place]

/-- What a grid point stores of the values is its block of their array. -/
theorem point2 (c : Dev nD) (t : Fin cfg0.N) (y : S1x512x256.Idx) :
    out0_8 (iblk m c 0 t) (iblk m c 1 t) (iblk m c 2 t) (iblk m c 3 t) (iblk m c 4 t) (iblk m c 5 t) y
      = result2 m c (((cfg0.win 8).blk t).view.emb y) := by
  idx_vars y
  obtain rfl : y0 = 0 := Subsingleton.elim _ _
  rw [values]
  refine (value_of _ _ y1 (product m c t y1) y2).trans ?_
  show result2 m c (ix3 (batch t) (place t y1) y2) = _
  refine congrArg (result2 m c) ?_
  blk_ext [idx t, batch, place]

/-- The queries' array after the run. -/
theorem final0 (c : Dev nD) : (dats m 0 c).arrAt 6 (cfgs 0).N = result0 m c := by
  refine (dats m 0 c).arrAt_eq_of_covers 6 _ (by decide +kernel) fun t _ y => ?_
  blk_simp
  rw [after0_6]
  exact point0 m c t y

/-- The keys' array after the run. -/
theorem final1 (c : Dev nD) : (dats m 0 c).arrAt 7 (cfgs 0).N = result1 m c := by
  refine (dats m 0 c).arrAt_eq_of_covers 7 _ (by decide +kernel) fun t _ y => ?_
  blk_simp
  rw [after0_7]
  exact point1 m c t y

/-- The values' array after the run. -/
theorem final2 (c : Dev nD) : (dats m 0 c).arrAt 8 (cfgs 0).N = result2 m c := by
  refine (dats m 0 c).arrAt_eq_of_covers 8 _ (by decide +kernel) fun t _ y => ?_
  blk_simp
  rw [after0_8]
  exact point2 m c t y

end Cert.ProjectIdeal.Value
-- ==== Proof.Project.Ref.lean ====
module
public import proofs.«01_k».proof.Proof.Project.Spec
public import proofs.«01_k».proof.Proof.Gen.ProjectRefIdeal.Read
public import Idealize.ShloMosaic.Lib.Pipeline.ValueKit

/-! The reference's three results, element by element. -/

set_option maxRecDepth 16384

@[expose] public section

noncomputable section

open Idealize.ShloMosaic Idealize.ShloMosaic.TcCoe Idealize.SL.Sem

namespace Cert.ProjectRefIdeal.Value
open Cert.ProjectRefIdeal Cert.ProjectRefIdeal.Gen Cert.ProjectRefIdeal.Read PostSpec ProjectSpec

variable (X : FVec Ideal S32x2048x1024 .f32) (M : FVec Ideal S32x6144 .f32) (G : FVec Ideal S1024 .f32)
  (W : FVec Ideal S1024x1536 .f32)

/-- The stream's row normalised, scaled and shifted. -/
theorem seen_at (b : Fin 32) (s : Fin 2048) (n : Fin 1024) : val_main_v25 (F := Ideal) X M G (ix3 b s n)
    = modulated (fun e => X (ix3 b s e)) (fun e => G (ix1 e)) (fun e => M (ix2 b ⟨1024 + (e : ℕ), by omega⟩))
      (fun e => M (ix2 b ⟨(e : ℕ), by omega⟩)) n := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2,
    modulated, rms]

/-- A row of the projection. -/
abbrev rowOf (b : Fin 32) (s : Fin 2048) : Fin 1536 → EReal :=
  row (fun b s e => X (ix3 b s e)) (fun b e => M (ix2 b e)) (fun e => G (ix1 e)) (fun e n => W (ix2 e n)) b s

/-- The projection. -/
theorem row_at (b : Fin 32) (s : Fin 2048) (n : Fin 1536) : val_main_v26 (F := Ideal) X M G W (ix3 b s n) = rowOf X M G W b s n := by
  rw [val_main_v26_apply]
  unfold rowOf row
  refine Finset.sum_congr rfl fun e _ => congrArg₂ (· * ·) ((congrArg (val_main_v25 (F := Ideal) X M G) (funext fun a => ?_)).trans
    (seen_at X M G b s e)) (congrArg W (funext fun a => ?_))
  · match a with
    | ⟨0, _⟩ => rfl
    | ⟨1, _⟩ => rfl
    | ⟨2, _⟩ => rfl
  · match a with
    | ⟨0, _⟩ => rfl
    | ⟨1, _⟩ => rfl

/-- The angles by the line, for the queries. -/
theorem angle50 (s : Fin 2048) (r : Fin 16) : val_main_v50 (F := Ideal) (ix2 s r) = angle (pos 0 s) r := by
  pointwise [val_main_v50, val_main_v49, val_main_v48, val_main_v47, val_main_v46, val_main_v45,
    val_main_v32, val_main_v31, val_main_v30,
    val_main_v43, val_main_v42, val_main_v41, val_main_v40, val_main_v39, val_main_v38, val_main_cst_3, val_main_cst_4, angle, pos]

/-- The angles by the place in the line, for the queries. -/
theorem angle74 (s : Fin 2048) (r : Fin 16) : val_main_v74 (F := Ideal) (ix2 s r) = angle (pos 1 s) r := by
  pointwise [val_main_v74, val_main_v73, val_main_v72, val_main_v71, val_main_v70, val_main_v69,
    val_main_v36, val_main_v35, val_main_v34, val_main_v33,
    val_main_v43, val_main_v42, val_main_v41, val_main_v40, val_main_v39, val_main_v38, val_main_cst_3, val_main_cst_4, angle, pos]

/-- The angles by the line, for the keys. -/
theorem angle108 (s : Fin 2048) (r : Fin 16) : val_main_v108 (F := Ideal) (ix2 s r) = angle (pos 0 s) r := by
  pointwise [val_main_v108, val_main_v107, val_main_v106, val_main_v105, val_main_v104, val_main_v103,
    val_main_v32, val_main_v31, val_main_v30,
    val_main_v101, val_main_v100, val_main_v99, val_main_v98, val_main_v97, val_main_v96, val_main_cst_6, val_main_cst_7, angle, pos]

/-- The angles by the place in the line, for the keys. -/
theorem angle132 (s : Fin 2048) (r : Fin 16) : val_main_v132 (F := Ideal) (ix2 s r) = angle (pos 1 s) r := by
  pointwise [val_main_v132, val_main_v131, val_main_v130, val_main_v129, val_main_v128, val_main_v127,
    val_main_v36, val_main_v35, val_main_v34, val_main_v33,
    val_main_v101, val_main_v100, val_main_v99, val_main_v98, val_main_v97, val_main_v96, val_main_cst_6, val_main_cst_7, angle, pos]

/-- The first half of a query head’s first axis. -/
theorem half61 (b : Fin 32) (s : Fin 2048) (h : Fin 16) (r : Fin 16) : val_main_v61 (F := Ideal) X M G W (ix4 b s h r)
    = turn 0 (rowOf X M G W b s ⟨64 * (h : ℕ) + r, by omega⟩) (rowOf X M G W b s ⟨64 * (h : ℕ) + r + 16, by omega⟩) (angle (pos 0 s) r) := by
  have hr := row_at X M G W b s
  have ha := angle50 s
  pointwise [val_main_v61, val_main_v60, val_main_v59, val_main_v58, val_main_v57, val_main_v56, val_main_v55, val_main_v54, val_main_v53, val_main_v52, val_main_v51, val_main_v44, val_main_v37, val_main_v27, hr, ha, turn]
  congr 3 <;> exact Fin.ext (by simp only; omega)

/-- The second half of a query head’s first axis. -/
theorem half66 (b : Fin 32) (s : Fin 2048) (h : Fin 16) (r : Fin 16) : val_main_v66 (F := Ideal) X M G W (ix4 b s h r)
    = turn 1 (rowOf X M G W b s ⟨64 * (h : ℕ) + r, by omega⟩) (rowOf X M G W b s ⟨64 * (h : ℕ) + r + 16, by omega⟩) (angle (pos 0 s) r) := by
  have hr := row_at X M G W b s
  have ha := angle50 s
  pointwise [val_main_v66, val_main_v65, val_main_v64, val_main_v63, val_main_v62, val_main_v56, val_main_v55, val_main_v54, val_main_v53, val_main_v52, val_main_v51, val_main_v44, val_main_v37, val_main_v27, hr, ha, turn]
  congr 3 <;> exact Fin.ext (by simp only; omega)

/-- The first half of a query head’s second axis. -/
theorem half85 (b : Fin 32) (s : Fin 2048) (h : Fin 16) (r : Fin 16) : val_main_v85 (F := Ideal) X M G W (ix4 b s h r)
    = turn 0 (rowOf X M G W b s ⟨64 * (h : ℕ) + 32 + r, by omega⟩) (rowOf X M G W b s ⟨64 * (h : ℕ) + 32 + r + 16, by omega⟩) (angle (pos 1 s) r) := by
  have hr := row_at X M G W b s
  have ha := angle74 s
  pointwise [val_main_v85, val_main_v84, val_main_v83, val_main_v82, val_main_v81, val_main_v80, val_main_v79, val_main_v78, val_main_v77, val_main_v76, val_main_v75, val_main_v68, val_main_v37, val_main_v27, hr, ha, turn]
  congr 3 <;> exact Fin.ext (by simp only; omega)

/-- The second half of a query head’s second axis. -/
theorem half90 (b : Fin 32) (s : Fin 2048) (h : Fin 16) (r : Fin 16) : val_main_v90 (F := Ideal) X M G W (ix4 b s h r)
    = turn 1 (rowOf X M G W b s ⟨64 * (h : ℕ) + 32 + r, by omega⟩) (rowOf X M G W b s ⟨64 * (h : ℕ) + 32 + r + 16, by omega⟩) (angle (pos 1 s) r) := by
  have hr := row_at X M G W b s
  have ha := angle74 s
  pointwise [val_main_v90, val_main_v89, val_main_v88, val_main_v87, val_main_v86, val_main_v80, val_main_v79, val_main_v78, val_main_v77, val_main_v76, val_main_v75, val_main_v68, val_main_v37, val_main_v27, hr, ha, turn]
  congr 3 <;> exact Fin.ext (by simp only; omega)

/-- The first half of a key head’s first axis. -/
theorem half119 (b : Fin 32) (s : Fin 2048) (h : Fin 4) (r : Fin 16) : val_main_v119 (F := Ideal) X M G W (ix4 b s h r)
    = turn 0 (rowOf X M G W b s ⟨1024 + 64 * (h : ℕ) + r, by omega⟩) (rowOf X M G W b s ⟨1024 + 64 * (h : ℕ) + r + 16, by omega⟩) (angle (pos 0 s) r) := by
  have hr := row_at X M G W b s
  have ha := angle108 s
  pointwise [val_main_v119, val_main_v118, val_main_v117, val_main_v116, val_main_v115, val_main_v114, val_main_v113, val_main_v112, val_main_v111, val_main_v110, val_main_v109, val_main_v102, val_main_v95, val_main_v28, hr, ha, turn]
  congr 3 <;> exact Fin.ext (by simp only; omega)

/-- The second half of a key head’s first axis. -/
theorem half124 (b : Fin 32) (s : Fin 2048) (h : Fin 4) (r : Fin 16) : val_main_v124 (F := Ideal) X M G W (ix4 b s h r)
    = turn 1 (rowOf X M G W b s ⟨1024 + 64 * (h : ℕ) + r, by omega⟩) (rowOf X M G W b s ⟨1024 + 64 * (h : ℕ) + r + 16, by omega⟩) (angle (pos 0 s) r) := by
  have hr := row_at X M G W b s
  have ha := angle108 s
  pointwise [val_main_v124, val_main_v123, val_main_v122, val_main_v121, val_main_v120, val_main_v114, val_main_v113, val_main_v112, val_main_v111, val_main_v110, val_main_v109, val_main_v102, val_main_v95, val_main_v28, hr, ha, turn]
  congr 3 <;> exact Fin.ext (by simp only; omega)

/-- The first half of a key head’s second axis. -/
theorem half143 (b : Fin 32) (s : Fin 2048) (h : Fin 4) (r : Fin 16) : val_main_v143 (F := Ideal) X M G W (ix4 b s h r)
    = turn 0 (rowOf X M G W b s ⟨1024 + 64 * (h : ℕ) + 32 + r, by omega⟩) (rowOf X M G W b s ⟨1024 + 64 * (h : ℕ) + 32 + r + 16, by omega⟩) (angle (pos 1 s) r) := by
  have hr := row_at X M G W b s
  have ha := angle132 s
  pointwise [val_main_v143, val_main_v142, val_main_v141, val_main_v140, val_main_v139, val_main_v138, val_main_v137, val_main_v136, val_main_v135, val_main_v134, val_main_v133, val_main_v126, val_main_v95, val_main_v28, hr, ha, turn]
  congr 3 <;> exact Fin.ext (by simp only; omega)

/-- The second half of a key head’s second axis. -/
theorem half148 (b : Fin 32) (s : Fin 2048) (h : Fin 4) (r : Fin 16) : val_main_v148 (F := Ideal) X M G W (ix4 b s h r)
    = turn 1 (rowOf X M G W b s ⟨1024 + 64 * (h : ℕ) + 32 + r, by omega⟩) (rowOf X M G W b s ⟨1024 + 64 * (h : ℕ) + 32 + r + 16, by omega⟩) (angle (pos 1 s) r) := by
  have hr := row_at X M G W b s
  have ha := angle132 s
  pointwise [val_main_v148, val_main_v147, val_main_v146, val_main_v145, val_main_v144, val_main_v138, val_main_v137, val_main_v136, val_main_v135, val_main_v134, val_main_v133, val_main_v126, val_main_v95, val_main_v28, hr, ha, turn]
  congr 3 <;> exact Fin.ext (by simp only; omega)

/-- Turned pairs agree where their parts do. -/
theorem turn_congr (p : Fin 1536 → EReal) {x y x' y' : Fin 1536} {g g' k k' n n' : ℕ} (hx : (x : ℕ) = x') (hy : (y : ℕ) = y')
    (hg : g = g') (hk : k = k') (hn : n = n') (s : ℕ) :
    turn g (p x) (p y) (angle (pos k s) n) = turn g' (p x') (p y') (angle (pos k' s) n') := by
  obtain rfl := Fin.ext hx
  obtain rfl := Fin.ext hy
  subst hg hk hn
  rfl

/-- A query head. -/
theorem head92 (b : Fin 32) (s : Fin 2048) (h : Fin 16) (a z : Fin 2) (r : Fin 16) :
    val_main_v92 (F := Ideal) X M G W (ix4 b s h ⟨32 * (a : ℕ) + 16 * (z : ℕ) + r, by omega⟩)
    = turn z (rowOf X M G W b s ⟨0 + 64 * (h : ℕ) + 32 * (a : ℕ) + r, by omega⟩)
      (rowOf X M G W b s ⟨0 + 64 * (h : ℕ) + 32 * (a : ℕ) + r + 16, by omega⟩) (angle (pos a s) r) := by
  pointwise [val_main_v92, val_main_v67, val_main_v91]
  have ha := a.isLt
  have hz := z.isLt
  have hr := r.isLt
  split <;> split
  · rw [half61]
    exact turn_congr _ (by simp only; omega) (by simp only; omega) (by omega) (by omega) (by simp only; omega) s
  · rw [half66]
    exact turn_congr _ (by simp only; omega) (by simp only; omega) (by omega) (by omega) (by simp only; omega) s
  · rw [half85]
    exact turn_congr _ (by simp only; omega) (by simp only; omega) (by omega) (by omega) (by simp only; omega) s
  · rw [half90]
    exact turn_congr _ (by simp only; omega) (by simp only; omega) (by omega) (by omega) (by simp only; omega) s

/-- A key head. -/
theorem head150 (b : Fin 32) (s : Fin 2048) (h : Fin 4) (a z : Fin 2) (r : Fin 16) :
    val_main_v150 (F := Ideal) X M G W (ix4 b s h ⟨32 * (a : ℕ) + 16 * (z : ℕ) + r, by omega⟩)
    = turn z (rowOf X M G W b s ⟨1024 + 64 * (h : ℕ) + 32 * (a : ℕ) + r, by omega⟩)
      (rowOf X M G W b s ⟨1024 + 64 * (h : ℕ) + 32 * (a : ℕ) + r + 16, by omega⟩) (angle (pos a s) r) := by
  pointwise [val_main_v150, val_main_v125, val_main_v149]
  have ha := a.isLt
  have hz := z.isLt
  have hr := r.isLt
  split <;> split
  · rw [half119]
    exact turn_congr _ (by simp only; omega) (by simp only; omega) (by omega) (by omega) (by simp only; omega) s
  · rw [half124]
    exact turn_congr _ (by simp only; omega) (by simp only; omega) (by omega) (by omega) (by simp only; omega) s
  · rw [half143]
    exact turn_congr _ (by simp only; omega) (by simp only; omega) (by omega) (by omega) (by simp only; omega) s
  · rw [half148]
    exact turn_congr _ (by simp only; omega) (by simp only; omega) (by omega) (by omega) (by simp only; omega) s

/-- The queries in their heads, before the lanes are regrouped. -/
theorem queries_split (b : Fin 32) (s : Fin 2048) (g : Fin 8) (o a z : Fin 2) (r : Fin 16) :
    val_main_v151 (F := Ideal) X M G W (ix7 b s g o a z r)
      = val_main_v92 (F := Ideal) X M G W (ix4 b s ⟨2 * (g : ℕ) + o, by omega⟩ ⟨32 * (a : ℕ) + 16 * (z : ℕ) + r, by omega⟩)
        * Ideal.ofBits .f32 0x3E000000#32 := by
  pointwise [val_main_v151, val_main_v94, val_main_v93, val_main_cst_5]
  refine congrArg (· * _) (congrArg (val_main_v92 (F := Ideal) X M G W) ?_)
  congr 1 <;> exact Fin.ext (by simp only; omega)

/-- The queries' lanes regrouped. -/
theorem queries_swap (b : Fin 32) (s : Fin 2048) (g : Fin 8) (z o a : Fin 2) (r : Fin 16) :
    val_main_v152 (F := Ideal) X M G W (ix7 b s g z o a r) = val_main_v151 (F := Ideal) X M G W (ix7 b s g o a z r) := by
  rw [val_main_v152_apply]
  generalize val_main_v151 (F := Ideal) X M G W = Y
  refine congrArg Y (funext fun a => ?_)
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- The queries' lanes as one axis. -/
theorem queries_join (b : Fin 32) (s : Fin 2048) (l : Fin 1024) : val_main_v158 (F := Ideal) X M G W (ix3 b s l)
    = val_main_v152 (F := Ideal) X M G W (ix7 b s ⟨(l : ℕ) / 128, by omega⟩ ⟨(l : ℕ) / 64 % 2, by omega⟩ ⟨(l : ℕ) / 32 % 2, by omega⟩
      ⟨(l : ℕ) / 16 % 2, by omega⟩ ⟨(l : ℕ) % 16, by omega⟩) := by
  pointwise [val_main_v158, val_main_v153]

/-- The reference's queries. -/
theorem query_at (b : Fin 32) (s : Fin 2048) (l : Fin 1024) :
    val_main_v158 (F := Ideal) X M G W (ix3 b s l) = query (rowOf X M G W b s) s l := by
  rw [queries_join, queries_swap, queries_split, head92]
  unfold query
  refine congrArg (· * _) ?_
  exact turn_congr _ (by simp only [queryColumn]; omega) (by simp only [queryColumn]; omega) rfl rfl rfl s

/-- The keys in their heads, before the lanes are regrouped. -/
theorem keys_split (b : Fin 32) (s : Fin 2048) (g : Fin 4) (a z : Fin 2) (r : Fin 16) :
    val_main_v154 (F := Ideal) X M G W (ix7 b s g 0 a z r)
      = val_main_v150 (F := Ideal) X M G W (ix4 b s g ⟨32 * (a : ℕ) + 16 * (z : ℕ) + r, by omega⟩) := by
  pointwise [val_main_v154]
  refine congrArg (val_main_v150 (F := Ideal) X M G W) ?_
  congr 1 <;> exact Fin.ext (by simp only; omega)

/-- The keys' lanes regrouped. -/
theorem keys_swap (b : Fin 32) (s : Fin 2048) (g : Fin 4) (z a : Fin 2) (r : Fin 16) :
    val_main_v155 (F := Ideal) X M G W (ix7 b s g z 0 a r) = val_main_v154 (F := Ideal) X M G W (ix7 b s g 0 a z r) := by
  rw [val_main_v155_apply]
  generalize val_main_v154 (F := Ideal) X M G W = Y
  refine congrArg Y (funext fun a => ?_)
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- The keys' lanes as one axis, every head in both slots. -/
theorem keys_join (b : Fin 32) (s : Fin 2048) (l : Fin 512) : val_main_v159 (F := Ideal) X M G W (ix3 b s l)
    = val_main_v155 (F := Ideal) X M G W (ix7 b s ⟨(l : ℕ) / 128, by omega⟩ ⟨(l : ℕ) / 64 % 2, by omega⟩ 0
      ⟨(l : ℕ) / 16 % 2, by omega⟩ ⟨(l : ℕ) % 16, by omega⟩) := by
  pointwise [val_main_v159, val_main_v157, val_main_v156]

/-- The reference's keys. -/
theorem key_at (b : Fin 32) (s : Fin 2048) (l : Fin 512) :
    val_main_v159 (F := Ideal) X M G W (ix3 b s l) = key (rowOf X M G W b s) s l := by
  rw [keys_join, keys_swap, keys_split, head150]
  unfold key
  exact turn_congr _ (by simp only [keyColumn]) (by simp only [keyColumn]) rfl rfl rfl s

/-- The reference's values. -/
theorem value_at (b : Fin 32) (s : Fin 2048) (l : Fin 256) :
    val_main_v160 (F := Ideal) X M G W (ix3 b s l) = value (rowOf X M G W b s) l := by
  have hr := row_at X M G W b s
  pointwise [val_main_v160, val_main_v29, hr, value]

end Cert.ProjectRefIdeal.Value
-- ==== Proof.Project.Claim.lean ====
module
public import proofs.«01_k».proof.Defs
public import proofs.«01_k».proof.Proof.Project.Value
public import proofs.«01_k».proof.Proof.Project.Ref
public import proofs.«01_k».proof.Proof.Gen.Project.Frame
public import Idealize.ShloMosaic.Adequacy
public import Idealize.ShloMosaic.Init

/-! The projecting call's kernel and its reference compute the same arrays. -/

set_option maxRecDepth 16384

@[expose] public section

noncomputable section

open Idealize.ShloMosaic Idealize.ShloMosaic.TcCoe Idealize.SL.Sem

namespace Cert.ProjectClaim

variable (m : (ℓ : Loc ProjectIdeal.nD ProjectIdeal.τ ProjectIdeal.sig) → Buf (Elt Ideal) ℓ) (c : Dev ProjectIdeal.nD)

/-- The reference's queries are the kernel's array. -/
theorem equal0 : ProjectRefIdeal.Read.val_main_v158 (F := Ideal)
        (m ((c.tc : Thread ProjectIdeal.nD ProjectIdeal.τ).loc ProjectIdeal.main_arg0))
        (m ((c.tc : Thread ProjectIdeal.nD ProjectIdeal.τ).loc ProjectIdeal.main_arg1))
        (m ((c.tc : Thread ProjectIdeal.nD ProjectIdeal.τ).loc ProjectIdeal.main_arg2))
        (m ((c.tc : Thread ProjectIdeal.nD ProjectIdeal.τ).loc ProjectIdeal.main_arg6))
      = ProjectIdeal.Value.result0 m c := by
  funext i
  idx_vars i
  exact ProjectRefIdeal.Value.query_at _ _ _ _ i0 i1 i2

/-- The reference's keys are the kernel's array. -/
theorem equal1 : ProjectRefIdeal.Read.val_main_v159 (F := Ideal)
        (m ((c.tc : Thread ProjectIdeal.nD ProjectIdeal.τ).loc ProjectIdeal.main_arg0))
        (m ((c.tc : Thread ProjectIdeal.nD ProjectIdeal.τ).loc ProjectIdeal.main_arg1))
        (m ((c.tc : Thread ProjectIdeal.nD ProjectIdeal.τ).loc ProjectIdeal.main_arg2))
        (m ((c.tc : Thread ProjectIdeal.nD ProjectIdeal.τ).loc ProjectIdeal.main_arg6))
      = ProjectIdeal.Value.result1 m c := by
  funext i
  idx_vars i
  exact ProjectRefIdeal.Value.key_at _ _ _ _ i0 i1 i2

/-- The reference's values are the kernel's array. -/
theorem equal2 : ProjectRefIdeal.Read.val_main_v160 (F := Ideal)
        (m ((c.tc : Thread ProjectIdeal.nD ProjectIdeal.τ).loc ProjectIdeal.main_arg0))
        (m ((c.tc : Thread ProjectIdeal.nD ProjectIdeal.τ).loc ProjectIdeal.main_arg1))
        (m ((c.tc : Thread ProjectIdeal.nD ProjectIdeal.τ).loc ProjectIdeal.main_arg2))
        (m ((c.tc : Thread ProjectIdeal.nD ProjectIdeal.τ).loc ProjectIdeal.main_arg6))
      = ProjectIdeal.Value.result2 m c := by
  funext i
  idx_vars i
  exact ProjectRefIdeal.Value.value_at _ _ _ _ i0 i1 i2

set_option maxHeartbeats 2000000 in
/-- The two programs' results are equal. -/
theorem algebraic : Cert.algebraic_ProjectIdeal_ProjectRefIdeal := by
  pair_intro
  · run_from Cert.ProjectIdeal.Gen.run_main m g
    all_goals
      simp only [List.flatten_cons, List.flatten_nil, List.append_nil, List.cons_append, List.nil_append]
      after_results
  · run_from Cert.ProjectRefIdeal.Value.run m' g'
    all_goals obtain ⟨h0, h1, h2, h3, h4, h5, h6⟩ := hagree c
    · rw [ProjectRefIdeal.Read.val_main_v158_eq, h0, h1, h2, h6]
      exact (equal0 m c).trans (ProjectIdeal.Value.final0 m c).symm
    · rw [ProjectRefIdeal.Read.val_main_v159_eq, h0, h1, h2, h6]
      exact (equal1 m c).trans (ProjectIdeal.Value.final1 m c).symm
    · exact (ProjectRefIdeal.Read.val_main_v160_eq (F := Ideal) _ _ _ _).trans
        ((equal2 m c).trans (ProjectIdeal.Value.final2 m c).symm)

end Cert.ProjectClaim
-- ==== Proof.lean ====
module

public import proofs.«01_k».proof.Defs
public import proofs.«01_k».proof.Proof.Dense.Claim
public import proofs.«01_k».proof.Proof.Gen.Dense
public import proofs.«01_k».proof.Proof.Gen.Dense.Frame
public import proofs.«01_k».proof.Proof.Gen.DenseIdeal
public import proofs.«01_k».proof.Proof.Gen.DenseIdeal.Frame
public import proofs.«01_k».proof.Proof.Gen.DenseRefIdeal
public import proofs.«01_k».proof.Proof.Gen.DenseRefIdeal.Run
public import proofs.«01_k».proof.Proof.Gen.Pre_finite_dense
public import proofs.«01_k».proof.Proof.Post.Claim
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostRefIdeal
public import proofs.«01_k».proof.Proof.Gen.PostRefIdeal.Run
public import proofs.«01_k».proof.Proof.Pool.Claim
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolRefIdeal
public import proofs.«01_k».proof.Proof.Gen.PoolRefIdeal.Run
public import proofs.«01_k».proof.Proof.Project.Claim
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectRefIdeal
public import proofs.«01_k».proof.Proof.Gen.ProjectRefIdeal.Run
public import Idealize.ShloMosaic.Adequacy
public import Idealize.ShloMosaic.Init

/-! The certificate: for each call its frames, and that the kernel and its reference give equal results. -/

@[expose] public section

noncomputable section

namespace Cert.Proof

open Idealize.ShloMosaic Idealize.SL.Sem

/-- The reference of `Dense` ends with its arguments unchanged and, having no semaphore, with every counter at zero. -/
theorem ref_dense : Cert.quiescent_DenseRefIdeal (hDenseRefIdeal := Cert.DenseRefIdeal.Gen.facts) := fun m g _ =>
  (θ_run DenseRefIdeal.defs _ _).mono (fun r h => And.intro (fun c => (h c).2) (sem_eq_zero_of_no_sems (by decide) r.2))
    (DenseRefIdeal.Value.run (F := Ideal) m g)

/-- The reference of `Post` ends with its arguments unchanged and, having no semaphore, with every counter at zero. -/
theorem ref_post : Cert.quiescent_PostRefIdeal (hPostRefIdeal := Cert.PostRefIdeal.Gen.facts) := fun m g _ =>
  (θ_run PostRefIdeal.defs _ _).mono (fun r h => And.intro (fun c => (h c).2) (sem_eq_zero_of_no_sems (by decide) r.2))
    (PostRefIdeal.Value.run (F := Ideal) m g)

/-- The reference of `Pool` ends with its arguments unchanged and, having no semaphore, with every counter at zero. -/
theorem ref_pool : Cert.quiescent_PoolRefIdeal (hPoolRefIdeal := Cert.PoolRefIdeal.Gen.facts) := fun m g _ =>
  (θ_run PoolRefIdeal.defs _ _).mono (fun r h => And.intro (fun c => (h c).2) (sem_eq_zero_of_no_sems (by decide) r.2))
    (PoolRefIdeal.Value.run (F := Ideal) m g)

/-- The reference of `Project` ends with its arguments unchanged and, having no semaphore, with every counter at zero. -/
theorem ref_project : Cert.quiescent_ProjectRefIdeal (hProjectRefIdeal := Cert.ProjectRefIdeal.Gen.facts) := fun m g _ =>
  (θ_run ProjectRefIdeal.defs _ _).mono (fun r h => And.intro (fun c => (h c).2.2.2) (sem_eq_zero_of_no_sems (by decide) r.2))
    (ProjectRefIdeal.Value.run (F := Ideal) m g)

/-- Every claim of the certificate. -/
theorem claim : Cert.Claim :=
  ⟨Cert.Dense.Gen.facts,
   Cert.DenseIdeal.Gen.facts,
   Cert.DenseRefIdeal.Gen.facts,
   Cert.Post.Gen.facts,
   Cert.PostIdeal.Gen.facts,
   Cert.PostRefIdeal.Gen.facts,
   Cert.Pool.Gen.facts,
   Cert.PoolIdeal.Gen.facts,
   Cert.PoolRefIdeal.Gen.facts,
   Cert.Project.Gen.facts,
   Cert.ProjectIdeal.Gen.facts,
   Cert.ProjectRefIdeal.Gen.facts,
   Cert.Pre_finite_dense.Gen.facts,
   fun m g _ => Cert.Dense.Gen.frame m g,
   fun m g _ => Cert.DenseIdeal.Gen.frame m g,
   fun m g _ => Cert.DenseIdeal.Gen.frame m g,
   fun m g _ => ref_dense m g trivial,
   fun m g _ => ref_dense m g trivial,
   fun m g _ => Cert.Post.Gen.frame m g,
   fun m g _ => Cert.PostIdeal.Gen.frame m g,
   fun m g _ => ref_post m g trivial,
   fun m g _ => Cert.Pool.Gen.frame m g,
   fun m g _ => Cert.PoolIdeal.Gen.frame m g,
   fun m g _ => ref_pool m g trivial,
   fun m g _ => Cert.Project.Gen.frame m g,
   fun m g _ => Cert.ProjectIdeal.Gen.frame m g,
   fun m g _ => ref_project m g trivial,
   trivial,
   Cert.DenseClaim.algebraic,
   trivial,
   Cert.PostClaim.algebraic,
   trivial,
   Cert.PoolClaim.algebraic,
   trivial,
   Cert.ProjectClaim.algebraic⟩

end Cert.Proof

end
